-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxReferenceIdeal (m : (ℓ : Loc Cert.FfnCtxReferenceIdeal.nD Cert.FfnCtxReferenceIdeal.τ Cert.FfnCtxReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5)
      ∧ r.2.mem ((c.tc : Thread Cert.FfnCtx.nD Cert.FfnCtx.τ).loc Cert.FfnCtx.main_arg6) = m ((c.tc : Thread Cert.FfnCtx.nD Cert.FfnCtx.τ).loc Cert.FfnCtx.main_arg6))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ r.2.sem = fun _ => 0)

def quiescent_FfnCtxReferenceIdeal [hFfnCtxReferenceIdeal : Cert.FfnCtxReferenceIdeal.Facts] : Prop :=
  ∀ (m : (ℓ : Loc Cert.FfnCtxReferenceIdeal.nD Cert.FfnCtxReferenceIdeal.τ Cert.FfnCtxReferenceIdeal.sig) → Buf (Elt Ideal) ℓ) (g : Dev Cert.FfnCtxReferenceIdeal.nD → PrngReg), Pre_FfnCtxReferenceIdeal m →
    θ_run (Cert.FfnCtxReferenceIdeal.defs (F := Ideal)) (onTc (τ := Cert.FfnCtxReferenceIdeal.τ) (Cert.FfnCtxReferenceIdeal.main (F := Ideal))) ⟨m, fun _ => 0, g⟩ (fun r => (∀ c : Dev Cert.FfnCtxReferenceIdeal.nD,
      r.2.mem ((c.tc : Thread Cert.FfnCtxReferenceIdeal.nD Cert.FfnCtxReferenceIdeal.τ).loc Cert.FfnCtxReferenceIdeal.main_arg0) = m ((c.tc : Thread Cert.FfnCtxReferenceIdeal.nD Cert.FfnCtxReferenceIdeal.τ).loc Cert.FfnCtxReferenceIdeal.main_arg0)
      ∧ r.2.mem ((c.tc : Thread Cert.FfnCtxReferenceIdeal.nD Cert.FfnCtxReferenceIdeal.τ).loc Cert.FfnCtxReferenceIdeal.main_arg1) = m ((c.tc : Thread Cert.FfnCtxReferenceIdeal.nD Cert.FfnCtxReferenceIdeal.τ).loc Cert.FfnCtxReferenceIdeal.main_arg1)
      ∧ r.2.mem ((c.tc : Thread Cert.FfnCtxReferenceIdeal.nD Cert.FfnCtxReferenceIdeal.τ).loc Cert.FfnCtxReferenceIdeal.main_arg2) = m ((c.tc : Thread Cert.FfnCtxReferenceIdeal.nD Cert.FfnCtxReferenceIdeal.τ).loc Cert.FfnCtxReferenceIdeal.main_arg2)
      ∧ r.2.mem ((c.tc : Thread Cert.FfnCtxReferenceIdeal.nD Cert.FfnCtxReferenceIdeal.τ).loc Cert.FfnCtxReferenceIdeal.main_arg3) = m ((c.tc : Thread Cert.FfnCtxReferenceIdeal.nD Cert.FfnCtxReferenceIdeal.τ).loc Cert.FfnCtxReferenceIdeal.main_arg3)
      ∧ r.2.mem ((c.tc : Thread Cert.FfnCtxReferenceIdeal.nD Cert.FfnCtxReferenceIdeal.τ).loc Cert.FfnCtxReferenceIdeal.main_arg4) = m ((c.tc : Thread Cert.FfnCtxReferenceIdeal.nD Cert.FfnCtxReferenceIdeal.τ).loc Cert.FfnCtxReferenceIdeal.main_arg4)
      ∧ r.2.mem ((c.tc : Thread Cert.FfnCtxReferenceIdeal.nD Cert.FfnCtxReferenceIdeal.τ).loc Cert.FfnCtxReferenceIdeal.main_arg5) = m ((c.tc : Thread Cert.FfnCtxReferenceIdeal.nD Cert.FfnCtxReferenceIdeal.τ).loc Cert.FfnCtxReferenceIdeal.main_arg5)
      ∧ r.2.mem ((c.tc : Thread Cert.FfnCtxReferenceIdeal.nD Cert.FfnCtxReferenceIdeal.τ).loc Cert.FfnCtxReferenceIdeal.main_arg6) = m ((c.tc : Thread Cert.FfnCtxReferenceIdeal.nD Cert.FfnCtxReferenceIdeal.τ).loc Cert.FfnCtxReferenceIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v77) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_FfnCtx_FfnCtxIdeal : Prop :=
  True

def algebraic_FfnCtxIdeal_FfnCtxReferenceIdeal [hFfnCtxIdeal : Cert.FfnCtxIdeal.Facts] [hFfnCtxReferenceIdeal : Cert.FfnCtxReferenceIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxReferenceIdeal.nD Cert.FfnCtxReferenceIdeal.τ Cert.FfnCtxReferenceIdeal.sig) → Buf (Elt Ideal) ℓ) (g' : Dev Cert.FfnCtxReferenceIdeal.nD → PrngReg), Pre_FfnCtxIdeal m →
    (∀ c : Dev Cert.FfnCtxIdeal.nD,
      m' ((c.tc : Thread Cert.FfnCtxReferenceIdeal.nD Cert.FfnCtxReferenceIdeal.τ).loc Cert.FfnCtxReferenceIdeal.main_arg0) = m ((c.tc : Thread Cert.FfnCtxIdeal.nD Cert.FfnCtxIdeal.τ).loc Cert.FfnCtxIdeal.main_arg0)
      ∧ m' ((c.tc : Thread Cert.FfnCtxReferenceIdeal.nD Cert.FfnCtxReferenceIdeal.τ).loc Cert.FfnCtxReferenceIdeal.main_arg1) = m ((c.tc : Thread Cert.FfnCtxIdeal.nD Cert.FfnCtxIdeal.τ).loc Cert.FfnCtxIdeal.main_arg1)
      ∧ m' ((c.tc : Thread Cert.FfnCtxReferenceIdeal.nD Cert.FfnCtxReferenceIdeal.τ).loc Cert.FfnCtxReferenceIdeal.main_arg2) = m ((c.tc : Thread Cert.FfnCtxIdeal.nD Cert.FfnCtxIdeal.τ).loc Cert.FfnCtxIdeal.main_arg2)
      ∧ m' ((c.tc : Thread Cert.FfnCtxReferenceIdeal.nD Cert.FfnCtxReferenceIdeal.τ).loc Cert.FfnCtxReferenceIdeal.main_arg3) = m ((c.tc : Thread Cert.FfnCtxIdeal.nD Cert.FfnCtxIdeal.τ).loc Cert.FfnCtxIdeal.main_arg3)
      ∧ m' ((c.tc : Thread Cert.FfnCtxReferenceIdeal.nD Cert.FfnCtxReferenceIdeal.τ).loc Cert.FfnCtxReferenceIdeal.main_arg4) = m ((c.tc : Thread Cert.FfnCtxIdeal.nD Cert.FfnCtxIdeal.τ).loc Cert.FfnCtxIdeal.main_arg4)
      ∧ m' ((c.tc : Thread Cert.FfnCtxReferenceIdeal.nD Cert.FfnCtxReferenceIdeal.τ).loc Cert.FfnCtxReferenceIdeal.main_arg5) = m ((c.tc : Thread Cert.FfnCtxIdeal.nD Cert.FfnCtxIdeal.τ).loc Cert.FfnCtxIdeal.main_arg5)
      ∧ m' ((c.tc : Thread Cert.FfnCtxReferenceIdeal.nD Cert.FfnCtxReferenceIdeal.τ).loc Cert.FfnCtxReferenceIdeal.main_arg6) = m ((c.tc : Thread Cert.FfnCtxIdeal.nD Cert.FfnCtxIdeal.τ).loc Cert.FfnCtxIdeal.main_arg6)) →
    ∃ (v0 : (c : Dev Cert.FfnCtxIdeal.nD) → Buf (Elt Ideal) ((c.tc : Thread Cert.FfnCtxIdeal.nD Cert.FfnCtxIdeal.τ).loc Cert.FfnCtxIdeal.main_v4)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v4) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
          ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ θ_run (Cert.FfnCtxReferenceIdeal.defs (F := Ideal)) (onTc (τ := Cert.FfnCtxReferenceIdeal.τ) (Cert.FfnCtxReferenceIdeal.main (F := Ideal))) ⟨m', fun _ => 0, g'⟩ (fun r => ∀ c : Dev Cert.FfnCtxReferenceIdeal.nD,
          r.2.mem ((c.tc : Thread Cert.FfnCtxReferenceIdeal.nD Cert.FfnCtxReferenceIdeal.τ).loc Cert.FfnCtxReferenceIdeal.main_v77) = v0 c
          ∧ r.2.mem ((c.tc : Thread Cert.FfnCtxReferenceIdeal.nD Cert.FfnCtxReferenceIdeal.τ).loc Cert.FfnCtxReferenceIdeal.main_arg0) = m' ((c.tc : Thread Cert.FfnCtxReferenceIdeal.nD Cert.FfnCtxReferenceIdeal.τ).loc Cert.FfnCtxReferenceIdeal.main_arg0)
          ∧ r.2.mem ((c.tc : Thread Cert.FfnCtxReferenceIdeal.nD Cert.FfnCtxReferenceIdeal.τ).loc Cert.FfnCtxReferenceIdeal.main_arg1) = m' ((c.tc : Thread Cert.FfnCtxReferenceIdeal.nD Cert.FfnCtxReferenceIdeal.τ).loc Cert.FfnCtxReferenceIdeal.main_arg1)
          ∧ r.2.mem ((c.tc : Thread Cert.FfnCtxReferenceIdeal.nD Cert.FfnCtxReferenceIdeal.τ).loc Cert.FfnCtxReferenceIdeal.main_arg2) = m' ((c.tc : Thread Cert.FfnCtxReferenceIdeal.nD Cert.FfnCtxReferenceIdeal.τ).loc Cert.FfnCtxReferenceIdeal.main_arg2)
          ∧ r.2.mem ((c.tc : Thread Cert.FfnCtxReferenceIdeal.nD Cert.FfnCtxReferenceIdeal.τ).loc Cert.FfnCtxReferenceIdeal.main_arg3) = m' ((c.tc : Thread Cert.FfnCtxReferenceIdeal.nD Cert.FfnCtxReferenceIdeal.τ).loc Cert.FfnCtxReferenceIdeal.main_arg3)
          ∧ r.2.mem ((c.tc : Thread Cert.FfnCtxReferenceIdeal.nD Cert.FfnCtxReferenceIdeal.τ).loc Cert.FfnCtxReferenceIdeal.main_arg4) = m' ((c.tc : Thread Cert.FfnCtxReferenceIdeal.nD Cert.FfnCtxReferenceIdeal.τ).loc Cert.FfnCtxReferenceIdeal.main_arg4)
          ∧ r.2.mem ((c.tc : Thread Cert.FfnCtxReferenceIdeal.nD Cert.FfnCtxReferenceIdeal.τ).loc Cert.FfnCtxReferenceIdeal.main_arg5) = m' ((c.tc : Thread Cert.FfnCtxReferenceIdeal.nD Cert.FfnCtxReferenceIdeal.τ).loc Cert.FfnCtxReferenceIdeal.main_arg5)
          ∧ r.2.mem ((c.tc : Thread Cert.FfnCtxReferenceIdeal.nD Cert.FfnCtxReferenceIdeal.τ).loc Cert.FfnCtxReferenceIdeal.main_arg6) = m' ((c.tc : Thread Cert.FfnCtxReferenceIdeal.nD Cert.FfnCtxReferenceIdeal.τ).loc Cert.FfnCtxReferenceIdeal.main_arg6))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)) (v4 : (c : Dev Cert.QkvIdeal.nD) → Buf (Elt Ideal) ((c.tc : Thread Cert.QkvIdeal.nD Cert.QkvIdeal.τ).loc Cert.QkvIdeal.main_v4_4)) (v5 : (c : Dev Cert.QkvIdeal.nD) → Buf (Elt Ideal) ((c.tc : Thread Cert.QkvIdeal.nD Cert.QkvIdeal.τ).loc Cert.QkvIdeal.main_v4_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_v4_4) = v4 c
          ∧ r.2.mem ((c.tc : Thread Cert.QkvIdeal.nD Cert.QkvIdeal.τ).loc Cert.QkvIdeal.main_v4_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v69) = v0 c
          ∧ r.2.mem ((c.tc : Thread Cert.QkvReferenceIdeal.nD Cert.QkvReferenceIdeal.τ).loc Cert.QkvReferenceIdeal.main_v71) = v1 c
          ∧ r.2.mem ((c.tc : Thread Cert.QkvReferenceIdeal.nD Cert.QkvReferenceIdeal.τ).loc Cert.QkvReferenceIdeal.main_v73) = v2 c
          ∧ r.2.mem ((c.tc : Thread Cert.QkvReferenceIdeal.nD Cert.QkvReferenceIdeal.τ).loc Cert.QkvReferenceIdeal.main_v66) = v3 c
          ∧ r.2.mem ((c.tc : Thread Cert.QkvReferenceIdeal.nD Cert.QkvReferenceIdeal.τ).loc Cert.QkvReferenceIdeal.main_v67) = v4 c
          ∧ r.2.mem ((c.tc : Thread Cert.QkvReferenceIdeal.nD Cert.QkvReferenceIdeal.τ).loc Cert.QkvReferenceIdeal.main_v76) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v4_0)) (v1 : (c : Dev Cert.MixerIdeal.nD) → Buf (Elt Ideal) ((c.tc : Thread Cert.MixerIdeal.nD Cert.MixerIdeal.τ).loc Cert.MixerIdeal.main_v4_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v4_0) = v0 c
          ∧ r.2.mem ((c.tc : Thread Cert.MixerIdeal.nD Cert.MixerIdeal.τ).loc Cert.MixerIdeal.main_v4_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v77) = v0 c
          ∧ r.2.mem ((c.tc : Thread Cert.MixerReferenceIdeal.nD Cert.MixerReferenceIdeal.τ).loc Cert.MixerReferenceIdeal.main_v80) = v1 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnCtx : Cert.FfnCtx.Facts) (hFfnCtxIdeal : Cert.FfnCtxIdeal.Facts) (hFfnCtxReferenceIdeal : Cert.FfnCtxReferenceIdeal.Facts) (hQkv : Cert.Qkv.Facts) (hQkvIdeal : Cert.QkvIdeal.Facts) (hQkvReferenceIdeal : Cert.QkvReferenceIdeal.Facts) (hMixer : Cert.Mixer.Facts) (hMixerIdeal : Cert.MixerIdeal.Facts) (hMixerReferenceIdeal : Cert.MixerReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnCtx (hFfnCtx := hFfnCtx)
    ∧ quiescent_FfnCtxIdeal (hFfnCtxIdeal := hFfnCtxIdeal)
    ∧ quiescent_FfnCtxReferenceIdeal (hFfnCtxReferenceIdeal := hFfnCtxReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_FfnCtx_FfnCtxIdeal
    ∧ algebraic_FfnCtxIdeal_FfnCtxReferenceIdeal (hFfnCtxIdeal := hFfnCtxIdeal) (hFfnCtxReferenceIdeal := hFfnCtxReferenceIdeal)
    ∧ preserves_Qkv_QkvIdeal
    ∧ algebraic_QkvIdeal_QkvReferenceIdeal (hQkvIdeal := hQkvIdeal) (hQkvReferenceIdeal := hQkvReferenceIdeal)
    ∧ preserves_Mixer_MixerIdeal
    ∧ algebraic_MixerIdeal_MixerReferenceIdeal (hMixerIdeal := hMixerIdeal) (hMixerReferenceIdeal := hMixerReferenceIdeal)
-- ==== Pre_finite_scores.lean ====
abbrev S16384x1024 : Shape := ⟨2, ![16384, 1024]⟩
abbrev S8x1x512x2x128 : Shape := ⟨5, ![8, 1, 512, 2, 128]⟩
abbrev S16384x256 : Shape := ⟨2, ![16384, 256]⟩
abbrev S8x1x6144 : Shape := ⟨3, ![8, 1, 6144]⟩
abbrev S2x1024 : Shape := ⟨2, ![2, 1024]⟩
abbrev S1x1024x1024 : Shape := ⟨3, ![1, 1024, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S8x1x512x2x128 : S_.BroadcastsInDim S8x1x512x2x128 (![] : Fin 0 → Fin S8x1x512x2x128.rank)
  bcast_S_S16384x256 : S_.BroadcastsInDim S16384x256 (![] : Fin 0 → Fin S16384x256.rank)

variable [Facts]

def fn {F : FTy → Type} [FloatOps F] (main_arg0 : FVec F S16384x1024 .f32) (main_arg1 : FVec F S16384x1024 .bf16) (main_arg2 : FVec F S8x1x512x2x128 .f32) (main_arg3 : FVec F S8x1x512x2x128 .f32) (main_arg4 : FVec F S16384x256 .bf16) (main_arg5 : FVec F S16384x256 .bf16) (main_arg6 : FVec F S8x1x6144 .f32) (main_arg7 : FVec F S2x1024 .f32) (main_arg8 : FVec F S1x1024x1024 .f32) : IVec S16384x1024 1 × IVec S8x1x512x2x128 1 × IVec S16384x256 1 :=
  let main_v0 : FVec F S16384x1024 .f32 := (extf .f32 · bitsLt_bf16_f32) main_arg1
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S8x1x512x2x128 .f32 := Host.absf main_arg2
  let main_cst_0 : FVec F S_ .f32 := constant S_ .f32 0x7F800000#32
  let main_v5 : FVec F S8x1x512x2x128 .f32 := broadcastInDim S8x1x512x2x128 ![] bcast_S_S8x1x512x2x128 main_cst_0
  let main_v6 : IVec S8x1x512x2x128 1 := cmpf .olt main_v4 main_v5
  let main_v7 : FVec F S16384x256 .f32 := (extf .f32 · bitsLt_bf16_f32) main_arg4
  let main_v8 : FVec F S16384x256 .f32 := Host.absf main_v7
  let main_cst_1 : FVec F S_ .f32 := constant S_ .f32 0x7F800000#32
  let main_v9 : FVec F S16384x256 .f32 := broadcastInDim S16384x256 ![] bcast_S_S16384x256 main_cst_1
  let main_v10 : IVec S16384x256 1 := cmpf .olt main_v8 main_v9
  (main_v3, main_v6, main_v10)
-- ==== Kernel.lean ====
abbrev S16384x1024 : Shape := ⟨2, ![16384, 1024]⟩
abbrev S8x1x512x2x128 : Shape := ⟨5, ![8, 1, 512, 2, 128]⟩
abbrev S16384x256 : Shape := ⟨2, ![16384, 256]⟩
abbrev S8x1x6144 : Shape := ⟨3, ![8, 1, 6144]⟩
abbrev S2x1024 : Shape := ⟨2, ![2, 1024]⟩
abbrev S1x1024x1024 : Shape := ⟨3, ![1, 1024, 1024]⟩
abbrev S8x512x2x128 : Shape := ⟨4, ![8, 512, 2, 128]⟩
abbrev S8192x128 : Shape := ⟨2, ![8192, 128]⟩
abbrev S2x1x1024 : Shape := ⟨3, ![2, 1, 1024]⟩
abbrev S256x1024 : Shape := ⟨2, ![256, 1024]⟩
abbrev S1024x128 : Shape := ⟨2, ![1024, 128]⟩
abbrev S2048x256 : Shape := ⟨2, ![2048, 256]⟩
abbrev S1x1x6144 : Shape := ⟨3, ![1, 1, 6144]⟩
abbrev S1x1x1024 : Shape := ⟨3, ![1, 1, 1024]⟩
abbrev S256x128 : Shape := ⟨2, ![256, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1x512x2x128, .f32⟩
  | .hbm, ⟨3, _⟩ => ⟨S8x1x512x2x128, .f32⟩
  | .hbm, ⟨4, _⟩ => ⟨S16384x256, .bf16⟩
  | .hbm, ⟨5, _⟩ => ⟨S16384x256, .bf16⟩
  | .hbm, ⟨6, _⟩ => ⟨S8x1x6144, .f32⟩
  | .hbm, ⟨7, _⟩ => ⟨S2x1024, .f32⟩
  | .hbm, ⟨8, _⟩ => ⟨S1x1024x1024, .f32⟩
  | .hbm, ⟨9, _⟩ => ⟨S8x512x2x128, .f32⟩
  | .hbm, ⟨10, _⟩ => ⟨S8192x128, .f32⟩
  | .hbm, ⟨11, _⟩ => ⟨S8x512x2x128, .f32⟩
  | .hbm, ⟨12, _⟩ => ⟨S8192x128, .f32⟩
  | .hbm, ⟨13, _⟩ => ⟨S2x1x1024, .f32⟩
  | .hbm, ⟨14, _⟩ => ⟨S1x1024x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S1x1x6144, .f32⟩
  | .local _ .vmem, ⟨13, _⟩ => ⟨S1x1x6144, .f32⟩
  | .local _ .vmem, ⟨14, _⟩ => ⟨S1x1x1024, .f32⟩
  | .local _ .vmem, ⟨15, _⟩ => ⟨S1x1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S8x1x512x2x128 : Shape := ⟨5, ![8, 1, 512, 2, 128]⟩
abbrev S16384x256 : Shape := ⟨2, ![16384, 256]⟩
abbrev S8x1x6144 : Shape := ⟨3, ![8, 1, 6144]⟩
abbrev S2x1024 : Shape := ⟨2, ![2, 1024]⟩
abbrev S1x1024x1024 : Shape := ⟨3, ![1, 1024, 1024]⟩
abbrev S8x2048x1024 : Shape := ⟨3, ![8, 2048, 1024]⟩
abbrev S8x1x1024 : Shape := ⟨3, ![8, 1, 1024]⟩
abbrev S8x2048x2x4x128 : Shape := ⟨5, ![8, 2048, 2, 4, 128]⟩
abbrev S8x2048x2x128 : Shape := ⟨4, ![8, 2048, 2, 128]⟩
abbrev S8x512x2x128 : Shape := ⟨4, ![8, 512, 2, 128]⟩
abbrev S8x2560x2x128 : Shape := ⟨4, ![8, 2560, 2, 128]⟩
abbrev S8x2x2560x2048x4 : Shape := ⟨5, ![8, 2, 2560, 2048, 4]⟩
abbrev S8x2x4x2048x2560 : Shape := ⟨5, ![8, 2, 4, 2048, 2560]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1x512x2x128, .f32⟩
  | .hbm, ⟨3, _⟩ => ⟨S8x1x512x2x128, .f32⟩
  | .hbm, ⟨4, _⟩ => ⟨S16384x256, .bf16⟩
  | .hbm, ⟨5, _⟩ => ⟨S16384x256, .bf16⟩
  | .hbm, ⟨6, _⟩ => ⟨S8x1x6144, .f32⟩
  | .hbm, ⟨7, _⟩ => ⟨S2x1024, .f32⟩
  | .hbm, ⟨8, _⟩ => ⟨S1x1024x1024, .f32⟩
  | .hbm, ⟨9, _⟩ => ⟨S8x2048x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S16384x1024, .f32⟩
  | .hbm, ⟨17, _⟩ => ⟨S8x2048x2x4x128, .f32⟩
  | .hbm, ⟨18, _⟩ => ⟨S16384x256, .f32⟩
  | .hbm, ⟨19, _⟩ => ⟨S8x2048x2x128, .f32⟩
  | .hbm, ⟨20, _⟩ => ⟨S16384x256, .f32⟩
  | .hbm, ⟨21, _⟩ => ⟨S8x2048x2x128, .f32⟩
  | .hbm, ⟨22, _⟩ => ⟨S8x512x2x128, .f32⟩
  | .hbm, ⟨23, _⟩ => ⟨S8x2560x2x128, .f32⟩
  | .hbm, ⟨24, _⟩ => ⟨S8x512x2x128, .f32⟩
  | .hbm, ⟨25, _⟩ => ⟨S8x2560x2x128, .f32⟩
  | .hbm, ⟨26, _⟩ => ⟨S8x2x2560x2048x4, .f32⟩
  | .hbm, ⟨27, _⟩ => ⟨S8x2x4x2048x2560, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x2x4x2048x2560, .f32⟩
  | .hbm, ⟨32, _⟩ => ⟨S8x2x4x2048x2560, .f32⟩
  | .hbm, ⟨33, _⟩ => ⟨S_, .f32⟩
  | .hbm, ⟨34, _⟩ => ⟨S8x2x4x2048, .f32⟩
  | .hbm, ⟨35, _⟩ => ⟨S_, .f32⟩
  | .hbm, ⟨36, _⟩ => ⟨S8x2x4x2048, .f32⟩
  | .hbm, ⟨37, _⟩ => ⟨S8x2x4x2048, .f32⟩
  | .hbm, ⟨38, _⟩ => ⟨S8x2x4x2048x1, .f32⟩
  | .hbm, ⟨39, _⟩ => ⟨S8x2x4x2048x2560, .f32⟩
  | .hbm, ⟨40, _⟩ => ⟨S8x2x4x2048x2560, .f32⟩
  | .hbm, ⟨41, _⟩ => ⟨S8x2x4x2048x2560, .f32⟩
  | .hbm, ⟨42, _⟩ => ⟨S_, .f32⟩
  | .hbm, ⟨43, _⟩ => ⟨S8x2x4x2048, .f32⟩
  | .hbm, ⟨44, _⟩ => ⟨S8x2x4x2048x1, .f32⟩
  | .hbm, ⟨45, _⟩ => ⟨S8x2x4x2048x2560, .f32⟩
  | .hbm, ⟨46, _⟩ => ⟨S8x2x4x2048x2560, .f32⟩
  | .hbm, ⟨47, _⟩ => ⟨S8x2x128x4x2048, .f32⟩
  | .hbm, ⟨48, _⟩ => ⟨S8x2048x2x4x128, .f32⟩
  | .hbm, ⟨49, _⟩ => ⟨S8x2048x1024, .f32⟩
  | .hbm, ⟨50, _⟩ => ⟨S1024x1024, .f32⟩
  | .hbm, ⟨51, _⟩ => ⟨S8x2048x1024, .f32⟩
  | .hbm, ⟨52, _⟩ => ⟨S1x1024, .f32⟩
  | .hbm, ⟨53, _⟩ => ⟨S1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Ffn.lean ====
abbrev S16384x1024 : Shape := ⟨2, ![16384, 1024]⟩
abbrev S8x1x6144 : Shape := ⟨3, ![8, 1, 6144]⟩
abbrev S2x1024 : Shape := ⟨2, ![2, 1024]⟩
abbrev S1024x5632 : Shape := ⟨2, ![1024, 5632]⟩
abbrev S2x3x5632 : Shape := ⟨3, ![2, 3, 5632]⟩
abbrev S2816x1024 : Shape := ⟨2, ![2816, 1024]⟩
abbrev S2x1x1024 : Shape := ⟨3, ![2, 1, 1024]⟩
abbrev S1x1024x5632 : Shape := ⟨3, ![1, 1024, 5632]⟩
abbrev S1x2816x1024 : Shape := ⟨3, ![1, 2816, 1024]⟩
abbrev S8x1024 : Shape := ⟨2, ![8, 1024]⟩
abbrev S1024x1024 : Shape := ⟨2, ![1024, 1024]⟩
abbrev S1x1x6144 : Shape := ⟨3, ![1, 1, 6144]⟩
abbrev S1x1x1024 : Shape := ⟨3, ![1, 1, 1024]⟩
abbrev S1x3x5632 : Shape := ⟨3, ![1, 3, 5632]⟩
abbrev S1040x1024 : Shape := ⟨2, ![1040, 1024]⟩
abbrev S1024x2816 : Shape := ⟨2, ![1024, 2816]⟩
abbrev S1x1024 : Shape := ⟨2, ![1, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1024x256 : Shape := ⟨2, ![1024, 256]⟩
abbrev S1x1024x256 : Shape := ⟨3, ![1, 1024, 256]⟩
abbrev S1040x256 : Shape := ⟨2, ![1040, 256]⟩
abbrev S1x3x256 : Shape := ⟨3, ![1, 3, 256]⟩
abbrev S3x256 : Shape := ⟨2, ![3, 256]⟩
abbrev S1x256 : Shape := ⟨2, ![1, 256]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S2x1024, .f32⟩
  | .hbm, ⟨3, _⟩ => ⟨S2x1024, .f32⟩
  | .hbm, ⟨4, _⟩ => ⟨S1024x5632, .bf16⟩
  | .hbm, ⟨5, _⟩ => ⟨S2x3x5632, .f32⟩
  | .hbm, ⟨6, _⟩ => ⟨S2816x1024, .bf16⟩
  | .hbm, ⟨7, _⟩ => ⟨S2x1x1024, .f32⟩
  | .hbm, ⟨8, _⟩ => ⟨S2x1x1024, .f32⟩
  | .hbm, ⟨9, _⟩ => ⟨S1x1024x5632, .bf16⟩
  | .hbm, ⟨10, _⟩ => ⟨S1x2816x1024, .bf16⟩
  | .hbm, ⟨11, _⟩ => ⟨S16384x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x5632, .bf16⟩
  | .local _ .vmem, ⟨11, _⟩ => ⟨S1x3x5632, .f32⟩
  | .local _ .vmem, ⟨12, _⟩ => ⟨S1x2816x1024, .bf16⟩
  | .local _ .vmem, ⟨13, _⟩ => ⟨S1024x1024, .f32⟩
  | .local _ .vmem, ⟨14, _⟩ => ⟨S1024x1024, .f32⟩
  | .local _ .vmem, ⟨15, _⟩ => ⟨S1040x1024, .bf16⟩
  | .local _ .vmem, ⟨16, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S16384x1024 : Shape := ⟨2, ![16384, 1024]⟩
abbrev S8x1x6144 : Shape := ⟨3, ![8, 1, 6144]⟩
abbrev S2x1024 : Shape := ⟨2, ![2, 1024]⟩
abbrev S1024x5632 : Shape := ⟨2, ![1024, 5632]⟩
abbrev S2x3x5632 : Shape := ⟨3, ![2, 3, 5632]⟩
abbrev S2816x1024 : Shape := ⟨2, ![2816, 1024]⟩
abbrev S8x2048x1024 : Shape := ⟨3, ![8, 2048, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x3x5632 : Shape := ⟨3, ![1, 3, 5632]⟩
abbrev S3x5632 : Shape := ⟨2, ![3, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S2x1024, .f32⟩
  | .hbm, ⟨3, _⟩ => ⟨S2x1024, .f32⟩
  | .hbm, ⟨4, _⟩ => ⟨S1024x5632, .bf16⟩
  | .hbm, ⟨5, _⟩ => ⟨S2x3x5632, .f32⟩
  | .hbm, ⟨6, _⟩ => ⟨S2816x1024, .bf16⟩
  | .hbm, ⟨7, _⟩ => ⟨S8x2048x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1x1024, .f32⟩
  | .hbm, ⟨15, _⟩ => ⟨S1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1024x5632, .f32⟩
  | .hbm, ⟨40, _⟩ => ⟨S1x3x5632, .f32⟩
  | .hbm, ⟨41, _⟩ => ⟨S3x5632, .f32⟩
  | .hbm, ⟨42, _⟩ => ⟨S2816x1024, .f32⟩
  | .hbm, ⟨43, _⟩ => ⟨S8x2048x5632, .f32⟩
  | .hbm, ⟨44, _⟩ => ⟨S_, .i32⟩
  | .hbm, ⟨45, _⟩ => ⟨S_, .f32⟩
  | .hbm, ⟨46, _⟩ => ⟨S8x2050x5632, .f32⟩
  | .hbm, ⟨47, _⟩ => ⟨S8x2048x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S8x2048x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S8x2048x5632, .f32⟩
  | .hbm, ⟨58, _⟩ => ⟨S8x2048x5632, .f32⟩
  | .hbm, ⟨59, _⟩ => ⟨S8x2048x5632, .f32⟩
  | .hbm, ⟨60, _⟩ => ⟨S8x2048x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S8x2048x5632, .f32⟩
  | .hbm, ⟨65, _⟩ => ⟨S8x2048x5632, .f32⟩
  | .hbm, ⟨66, _⟩ => ⟨S8x2048x5632, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S8x2048x1024, .f32⟩
  | .hbm, ⟨80, _⟩ => ⟨S1x1024, .f32⟩
  | .hbm, ⟨81, _⟩ => ⟨S1024, .f32⟩
  | .hbm, ⟨82, _⟩ => ⟨S8x2048x1024, .f32⟩
  | .hbm, ⟨83, _⟩ => ⟨S_, .f32⟩
  | .hbm, ⟨84, _⟩ => ⟨S8x2048, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S_, .f32⟩
  | .hbm, ⟨90, _⟩ => ⟨S8x2048x1, .f32⟩
  | .hbm, ⟨91, _⟩ => ⟨S8x2048x1, .f32⟩
  | .hbm, ⟨92, _⟩ => ⟨S8x2048x1, .f32⟩
  | .hbm, ⟨93, _⟩ => ⟨S8x2048x1024, .f32⟩
  | .hbm, ⟨94, _⟩ => ⟨S8x2048x1024, .f32⟩
  | .hbm, ⟨95, _⟩ => ⟨S1x1x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_call0_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_cst_5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== FfnCtx.lean ====
abbrev S8192x1024 : Shape := ⟨2, ![8192, 1024]⟩
abbrev S1x1x6144 : Shape := ⟨3, ![1, 1, 6144]⟩
abbrev S2x1024 : Shape := ⟨2, ![2, 1024]⟩
abbrev S1024x5632 : Shape := ⟨2, ![1024, 5632]⟩
abbrev S2x3x5632 : Shape := ⟨3, ![2, 3, 5632]⟩
abbrev S2816x1024 : Shape := ⟨2, ![2816, 1024]⟩
abbrev S2x1x1024 : Shape := ⟨3, ![2, 1, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S1x1x1024 : Shape := ⟨3, ![1, 1, 1024]⟩
abbrev S1x3x5632 : Shape := ⟨3, ![1, 3, 5632]⟩
abbrev S1024x2816 : Shape := ⟨2, ![1024, 2816]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S1x1024x256 : Shape := ⟨3, ![1, 1024, 256]⟩
abbrev S1x3x256 : Shape := ⟨3, ![1, 3, 256]⟩
abbrev S3x256 : Shape := ⟨2, ![3, 256]⟩
abbrev S1x256 : Shape := ⟨2, ![1, 256]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S2x1024, .f32⟩
  | .hbm, ⟨3, _⟩ => ⟨S2x1024, .f32⟩
  | .hbm, ⟨4, _⟩ => ⟨S1024x5632, .bf16⟩
  | .hbm, ⟨5, _⟩ => ⟨S2x3x5632, .f32⟩
  | .hbm, ⟨6, _⟩ => ⟨S2816x1024, .bf16⟩
  | .hbm, ⟨7, _⟩ => ⟨S2x1x1024, .f32⟩
  | .hbm, ⟨8, _⟩ => ⟨S2x1x1024, .f32⟩
  | .hbm, ⟨9, _⟩ => ⟨S1x1024x5632, .bf16⟩
  | .hbm, ⟨10, _⟩ => ⟨S1x2816x1024, .bf16⟩
  | .hbm, ⟨11, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x5632, .bf16⟩
  | .local _ .vmem, ⟨6, _⟩ => ⟨S1x3x5632, .f32⟩
  | .local _ .vmem, ⟨7, _⟩ => ⟨S1x2816x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnCtxReferenceIdeal.lean ====
abbrev S8192x1024 : Shape := ⟨2, ![8192, 1024]⟩
abbrev S1x1x6144 : Shape := ⟨3, ![1, 1, 6144]⟩
abbrev S2x1024 : Shape := ⟨2, ![2, 1024]⟩
abbrev S1024x5632 : Shape := ⟨2, ![1024, 5632]⟩
abbrev S2x3x5632 : Shape := ⟨3, ![2, 3, 5632]⟩
abbrev S2816x1024 : Shape := ⟨2, ![2816, 1024]⟩
abbrev S32x256x1024 : Shape := ⟨3, ![32, 256, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x3x5632 : Shape := ⟨3, ![1, 3, 5632]⟩
abbrev S3x5632 : Shape := ⟨2, ![3, 5632]⟩
abbrev S32x256x5632 : Shape := ⟨3, ![32, 256, 5632]⟩
abbrev S32x258x5632 : Shape := ⟨3, ![32, 258, 5632]⟩
abbrev S1x5632 : Shape := ⟨2, ![1, 5632]⟩
abbrev S5632 : Shape := ⟨1, ![5632]⟩
abbrev S1x1x5632 : Shape := ⟨3, ![1, 1, 5632]⟩
abbrev S32x256x2816 : Shape := ⟨3, ![32, 256, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S2x1024, .f32⟩
  | .hbm, ⟨3, _⟩ => ⟨S2x1024, .f32⟩
  | .hbm, ⟨4, _⟩ => ⟨S1024x5632, .bf16⟩
  | .hbm, ⟨5, _⟩ => ⟨S2x3x5632, .f32⟩
  | .hbm, ⟨6, _⟩ => ⟨S2816x1024, .bf16⟩
  | .hbm, ⟨7, _⟩ => ⟨S32x256x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1024, .f32⟩
  | .hbm, ⟨15, _⟩ => ⟨S1024, .f32⟩
  | .hbm, ⟨16, _⟩ => ⟨S32x256x1024, .f32⟩
  | .hbm, ⟨17, _⟩ => ⟨S_, .f32⟩
  | .hbm, ⟨18, _⟩ => ⟨S32x256, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S1024x5632, .f32⟩
  | .hbm, ⟨40, _⟩ => ⟨S1x3x5632, .f32⟩
  | .hbm, ⟨41, _⟩ => ⟨S3x5632, .f32⟩
  | .hbm, ⟨42, _⟩ => ⟨S2816x1024, .f32⟩
  | .hbm, ⟨43, _⟩ => ⟨S32x256x5632, .f32⟩
  | .hbm, ⟨44, _⟩ => ⟨S_, .i32⟩
  | .hbm, ⟨45, _⟩ => ⟨S_, .f32⟩
  | .hbm, ⟨46, _⟩ => ⟨S32x258x5632, .f32⟩
  | .hbm, ⟨47, _⟩ => ⟨S32x256x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S32x256x5632, .f32⟩
  | .hbm, ⟨52, _⟩ => ⟨S32x256x5632, .f32⟩
  | .hbm, ⟨53, _⟩ => ⟨S32x256x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S32x256x5632, .f32⟩
  | .hbm, ⟨58, _⟩ => ⟨S32x256x5632, .f32⟩
  | .hbm, ⟨59, _⟩ => ⟨S32x256x5632, .f32⟩
  | .hbm, ⟨60, _⟩ => ⟨S32x256x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S32x256x5632, .f32⟩
  | .hbm, ⟨65, _⟩ => ⟨S32x256x5632, .f32⟩
  | .hbm, ⟨66, _⟩ => ⟨S32x256x5632, .f32⟩
  | .hbm, ⟨67, _⟩ => ⟨S32x256x2816, .f32⟩
  | .hbm, ⟨68, _⟩ => ⟨S32x256x2816, .f32⟩
  | .hbm, ⟨69, _⟩ => ⟨S32x256x2816, .f32⟩
  | .hbm, ⟨70, _⟩ => ⟨S32x256x2816, .f32⟩
  | .hbm, ⟨71, _⟩ => ⟨S_, .f32⟩
  | .hbm, ⟨72, _⟩ => ⟨S32x256x2816, .f32⟩
  | .hbm, ⟨73, _⟩ => ⟨S32x256x2816, .f32⟩
  | .hbm, ⟨74, _⟩ => ⟨S_, .f32⟩
  | .hbm, ⟨75, _⟩ => ⟨S32x256x2816, .f32⟩
  | .hbm, ⟨76, _⟩ => ⟨S32x256x2816, .f32⟩
  | .hbm, ⟨77, _⟩ => ⟨S32x256x2816, .f32⟩
  | .hbm, ⟨78, _⟩ => ⟨S32x256x2816, .f32⟩
  | .hbm, ⟨79, _⟩ => ⟨S32x256x1024, .f32⟩
  | .hbm, ⟨80, _⟩ => ⟨S1x1024, .f32⟩
  | .hbm, ⟨81, _⟩ => ⟨S1024, .f32⟩
  | .hbm, ⟨82, _⟩ => ⟨S32x256x1024, .f32⟩
  | .hbm, ⟨83, _⟩ => ⟨S_, .f32⟩
  | .hbm, ⟨84, _⟩ => ⟨S32x256, .f32⟩
  | .hbm, ⟨85, _⟩ => ⟨S32x256x1, .f32⟩
  | .hbm, ⟨86, _⟩ => ⟨S_, .f32⟩
  | .hbm, ⟨87, _⟩ => ⟨S32x256x1, .f32⟩
  | .hbm, ⟨88, _⟩ => ⟨S32x256x1, .f32⟩
  | .hbm, ⟨89, _⟩ => ⟨S_, .f32⟩
  | .hbm, ⟨90, _⟩ => ⟨S32x256x1, .f32⟩
  | .hbm, ⟨91, _⟩ => ⟨S32x256x1, .f32⟩
  | .hbm, ⟨92, _⟩ => ⟨S32x256x1, .f32⟩
  | .hbm, ⟨93, _⟩ => ⟨S32x256x1024, .f32⟩
  | .hbm, ⟨94, _⟩ => ⟨S32x256x1024, .f32⟩
  | .hbm, ⟨95, _⟩ => ⟨S1x1x1024, .f32⟩
  | .hbm, ⟨96, _⟩ => ⟨S32x256x1024, .f32⟩
  | .hbm, ⟨97, _⟩ => ⟨S32x256x1024, .f32⟩
  | .hbm, ⟨98, _⟩ => ⟨S32x256x1024, .f32⟩
  | .hbm, ⟨99, _⟩ => ⟨S32x256x1024, .f32⟩
  | .hbm, ⟨100, _⟩ => ⟨S32x256x1024, .f32⟩
  | .hbm, ⟨101, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_call0_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_cst_5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Qkv.lean ====
abbrev S8192x1024 : Shape := ⟨2, ![8192, 1024]⟩
abbrev S1x1x6144 : Shape := ⟨3, ![1, 1, 6144]⟩
abbrev S2x1024 : Shape := ⟨2, ![2, 1024]⟩
abbrev S1x1024x1536 : Shape := ⟨3, ![1, 1024, 1536]⟩
abbrev S1x128 : Shape := ⟨2, ![1, 128]⟩
abbrev S2x2816x1024 : Shape := ⟨3, ![2, 2816, 1024]⟩
abbrev S2x1x1024 : Shape := ⟨3, ![2, 1, 1024]⟩
abbrev S1x1x128 : Shape := ⟨3, ![1, 1, 128]⟩
abbrev S8192x256 : Shape := ⟨2, ![8192, 256]⟩
abbrev S16384x128 : Shape := ⟨2, ![16384, 128]⟩
abbrev S2816x1024 : Shape := ⟨2, ![2816, 1024]⟩
abbrev S1024x1024 : Shape := ⟨2, ![1024, 1024]⟩
abbrev S1x1x1024 : Shape := ⟨3, ![1, 1, 1024]⟩
abbrev S1x352x1024 : Shape := ⟨3, ![1, 352, 1024]⟩
abbrev S1024x256 : Shape := ⟨2, ![1024, 256]⟩
abbrev S2048x128 : Shape := ⟨2, ![2048, 128]⟩
abbrev S352x1024 : Shape := ⟨2, ![352, 1024]⟩
abbrev S1x1024 : Shape := ⟨2, ![1, 1024]⟩
abbrev S1024 : Shape := ⟨1, ![1024]⟩
abbrev S1024x1 : Shape := ⟨2, ![1024, 1]⟩
abbrev S1024x1536 : Shape := ⟨2, ![1024, 1536]⟩
abbrev S1024x128 : Shape := ⟨2, ![1024, 128]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S2x1024, .f32⟩
  | .hbm, ⟨3, _⟩ => ⟨S1x1024x1536, .f32⟩
  | .hbm, ⟨4, _⟩ => ⟨S1x128, .f32⟩
  | .hbm, ⟨5, _⟩ => ⟨S1x128, .f32⟩
  | .hbm, ⟨6, _⟩ => ⟨S2x2816x1024, .f32⟩
  | .hbm, ⟨7, _⟩ => ⟨S2x1x1024, .f32⟩
  | .hbm, ⟨8, _⟩ => ⟨S1x1024x1536, .bf16⟩
  | .hbm, ⟨9, _⟩ => ⟨S1x1x128, .f32⟩
  | .hbm, ⟨10, _⟩ => ⟨S1x1x128, .f32⟩
  | .hbm, ⟨11, _⟩ => ⟨S8192x1024, .bf16⟩
  | .hbm, ⟨12, _⟩ => ⟨S8192x256, .bf16⟩
  | .hbm, ⟨13, _⟩ => ⟨S8192x256, .bf16⟩
  | .hbm, ⟨14, _⟩ => ⟨S16384x128, .f32⟩
  | .hbm, ⟨15, _⟩ => ⟨S16384x128, .f32⟩
  | .hbm, ⟨16, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x1024, .f32⟩
  | .local _ .vmem, ⟨4, _⟩ => ⟨S1x1024x1536, .bf16⟩
  | .local _ .vmem, ⟨5, _⟩ => ⟨S1x1x128, .f32⟩
  | .local _ .vmem, ⟨6, _⟩ => ⟨S1x1x128, .f32⟩
  | .local _ .vmem, ⟨7, _⟩ => ⟨S1x352x1024, .f32⟩
  | .local _ .vmem, ⟨8, _⟩ => ⟨S1x352x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S352x1024, .bf16⟩
  | .local _ .vmem, ⟨20, _⟩ => ⟨S352x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S352x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvReferenceIdeal.lean ====
abbrev S8192x1024 : Shape := ⟨2, ![8192, 1024]⟩
abbrev S1x1x6144 : Shape := ⟨3, ![1, 1, 6144]⟩
abbrev S2x1024 : Shape := ⟨2, ![2, 1024]⟩
abbrev S1x1024x1536 : Shape := ⟨3, ![1, 1024, 1536]⟩
abbrev S1x128 : Shape := ⟨2, ![1, 128]⟩
abbrev S2x2816x1024 : Shape := ⟨3, ![2, 2816, 1024]⟩
abbrev S32x256x1024 : Shape := ⟨3, ![32, 256, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1024x1536 : Shape := ⟨2, ![1024, 1536]⟩
abbrev S128 : Shape := ⟨1, ![128]⟩
abbrev S32x256x1536 : Shape := ⟨3, ![32, 256, 1536]⟩
abbrev S32x256x8x128 : Shape := ⟨4, ![32, 256, 8, 128]⟩
abbrev S32x256x256 : Shape := ⟨3, ![32, 256, 256]⟩
abbrev S32x256x2x128 : Shape := ⟨4, ![32, 256, 2, 128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x2 : Shape := ⟨3, ![32, 256, 2]⟩
abbrev S32x256x2x1 : Shape := ⟨4, ![32, 256, 2, 1]⟩
abbrev S16384x128 : Shape := ⟨2, ![16384, 128]⟩
abbrev S8192x256 : Shape := ⟨2, ![8192, 256]⟩
abbrev S1x2816x1024 : Shape := ⟨3, ![1, 2816, 1024]⟩
abbrev S2816x1024 : Shape := ⟨2, ![2816, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S2x1024, .f32⟩
  | .hbm, ⟨3, _⟩ => ⟨S1x1024x1536, .f32⟩
  | .hbm, ⟨4, _⟩ => ⟨S1x128, .f32⟩
  | .hbm, ⟨5, _⟩ => ⟨S1x128, .f32⟩
  | .hbm, ⟨6, _⟩ => ⟨S2x2816x1024, .f32⟩
  | .hbm, ⟨7, _⟩ => ⟨S32x256x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1024, .f32⟩
  | .hbm, ⟨15, _⟩ => ⟨S1024, .f32⟩
  | .hbm, ⟨16, _⟩ => ⟨S32x256x1024, .f32⟩
  | .hbm, ⟨17, _⟩ => ⟨S_, .f32⟩
  | .hbm, ⟨18, _⟩ => ⟨S32x256, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S1024x1536, .f32⟩
  | .hbm, ⟨40, _⟩ => ⟨S128, .f32⟩
  | .hbm, ⟨41, _⟩ => ⟨S128, .f32⟩
  | .hbm, ⟨42, _⟩ => ⟨S32x256x1536, .f32⟩
  | .hbm, ⟨43, _⟩ => ⟨S32x256x1024, .f32⟩
  | .hbm, ⟨44, _⟩ => ⟨S32x256x8x128, .f32⟩
  | .hbm, ⟨45, _⟩ => ⟨S32x256x256, .f32⟩
  | .hbm, ⟨46, _⟩ => ⟨S32x256x2x128, .f32⟩
  | .hbm, ⟨47, _⟩ => ⟨S32x256x256, .f32⟩
  | .hbm, ⟨48, _⟩ => ⟨S32x256x2x128, .f32⟩
  | .hbm, ⟨49, _⟩ => ⟨S32x256x8x128, .f32⟩
  | .hbm, ⟨50, _⟩ => ⟨S_, .f32⟩
  | .hbm, ⟨51, _⟩ => ⟨S32x256x8, .f32⟩
  | .hbm, ⟨52, _⟩ => ⟨S32x256x8x1, .f32⟩
  | .hbm, ⟨53, _⟩ => ⟨S_, .f32⟩
  | .hbm, ⟨54, _⟩ => ⟨S32x256x8x1, .f32⟩
  | .hbm, ⟨55, _⟩ => ⟨S32x256x8x1, .f32⟩
  | .hbm, ⟨56, _⟩ => ⟨S_, .f32⟩
  | .hbm, ⟨57, _⟩ => ⟨S32x256x8x1, .f32⟩
  | .hbm, ⟨58, _⟩ => ⟨S32x256x8x1, .f32⟩
  | .hbm, ⟨59, _⟩ => ⟨S32x256x8x1, .f32⟩
  | .hbm, ⟨60, _⟩ => ⟨S32x256x8x128, .f32⟩
  | .hbm, ⟨61, _⟩ => ⟨S32x256x8x128, .f32⟩
  | .hbm, ⟨62, _⟩ => ⟨S1x1x1x128, .f32⟩
  | .hbm, ⟨63, _⟩ => ⟨S32x256x8x128, .f32⟩
  | .hbm, ⟨64, _⟩ => ⟨S32x256x8x128, .f32⟩
  | .hbm, ⟨65, _⟩ => ⟨S32x256x2x128, .f32⟩
  | .hbm, ⟨66, _⟩ => ⟨S_, .f32⟩
  | .hbm, ⟨67, _⟩ => ⟨S32x256x2, .f32⟩
  | .hbm, ⟨68, _⟩ => ⟨S32x256x2x1, .f32⟩
  | .hbm, ⟨69, _⟩ => ⟨S_, .f32⟩
  | .hbm, ⟨70, _⟩ => ⟨S32x256x2x1, .f32⟩
  | .hbm, ⟨71, _⟩ => ⟨S32x256x2x1, .f32⟩
  | .hbm, ⟨72, _⟩ => ⟨S_, .f32⟩
  | .hbm, ⟨73, _⟩ => ⟨S32x256x2x1, .f32⟩
  | .hbm, ⟨74, _⟩ => ⟨S32x256x2x1, .f32⟩
  | .hbm, ⟨75, _⟩ => ⟨S32x256x2x1, .f32⟩
  | .hbm, ⟨76, _⟩ => ⟨S32x256x2x128, .f32⟩
  | .hbm, ⟨77, _⟩ => ⟨S32x256x2x128, .f32⟩
  | .hbm, ⟨78, _⟩ => ⟨S1x1x1x128, .f32⟩
  | .hbm, ⟨79, _⟩ => ⟨S32x256x2x128, .f32⟩
  | .hbm, ⟨80, _⟩ => ⟨S32x256x2x128, .f32⟩
  | .hbm, ⟨81, _⟩ => ⟨S_, .f32⟩
  | .hbm, ⟨82, _⟩ => ⟨S32x256x8x128, .f32⟩
  | .hbm, ⟨83, _⟩ => ⟨S32x256x8x128, .f32⟩
  | .hbm, ⟨84, _⟩ => ⟨S16384x128, .f32⟩
  | .hbm, ⟨85, _⟩ => ⟨S16384x128, .f32⟩
  | .hbm, ⟨86, _⟩ => ⟨S8192x1024, .f32⟩
  | .hbm, ⟨87, _⟩ => ⟨S8192x1024, .bf16⟩
  | .hbm, ⟨88, _⟩ => ⟨S8192x256, .f32⟩
  | .hbm, ⟨89, _⟩ => ⟨S8192x256, .bf16⟩
  | .hbm, ⟨90, _⟩ => ⟨S8192x256, .f32⟩
  | .hbm, ⟨91, _⟩ => ⟨S8192x256, .bf16⟩
  | .hbm, ⟨92, _⟩ => ⟨S1x2816x1024, .f32⟩
  | .hbm, ⟨93, _⟩ => ⟨S2816x1024, .f32⟩
  | .hbm, ⟨94, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Mixer.lean ====
abbrev S16384x1024 : Shape := ⟨2, ![16384, 1024]⟩
abbrev S8x1x6144 : Shape := ⟨3, ![8, 1, 6144]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024x5632 : Shape := ⟨3, ![2, 1024, 5632]⟩
abbrev S2x1x1024 : Shape := ⟨3, ![2, 1, 1024]⟩
abbrev S1024x5632 : Shape := ⟨2, ![1024, 5632]⟩
abbrev S8x1024 : Shape := ⟨2, ![8, 1024]⟩
abbrev S1024x1024 : Shape := ⟨2, ![1024, 1024]⟩
abbrev S1x1x6144 : Shape := ⟨3, ![1, 1, 6144]⟩
abbrev S1x1x1024 : Shape := ⟨3, ![1, 1, 1024]⟩
abbrev S1x64x5632 : Shape := ⟨3, ![1, 64, 5632]⟩
abbrev S64x5632 : Shape := ⟨2, ![64, 5632]⟩
abbrev S1040x1024 : Shape := ⟨2, ![1040, 1024]⟩
abbrev S1x1024 : Shape := ⟨2, ![1, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1024x256 : Shape := ⟨2, ![1024, 256]⟩
abbrev S1x1024x256 : Shape := ⟨3, ![1, 1024, 256]⟩
abbrev S1040x256 : Shape := ⟨2, ![1040, 256]⟩
abbrev S1x3x256 : Shape := ⟨3, ![1, 3, 256]⟩
abbrev S3x256 : Shape := ⟨2, ![3, 256]⟩
abbrev S1x256 : Shape := ⟨2, ![1, 256]⟩

abbrev nBuf : Space → Nat
  | .hbm => 14
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S2x1024, .f32⟩
  | .hbm, ⟨3, _⟩ => ⟨S2x1024, .f32⟩
  | .hbm, ⟨4, _⟩ => ⟨S1x1024x3072, .f32⟩
  | .hbm, ⟨5, _⟩ => ⟨S1x3x1024, .f32⟩
  | .hbm, ⟨6, _⟩ => ⟨S1x1024x1024, .f32⟩
  | .hbm, ⟨7, _⟩ => ⟨S2x1024x5632, .f32⟩
  | .hbm, ⟨8, _⟩ => ⟨S2x1x1024, .f32⟩
  | .hbm, ⟨9, _⟩ => ⟨S2x1x1024, .f32⟩
  | .hbm, ⟨10, _⟩ => ⟨S1x1024x3072, .bf16⟩
  | .hbm, ⟨11, _⟩ => ⟨S1x1024x1024, .bf16⟩
  | .hbm, ⟨12, _⟩ => ⟨S16384x1024, .f32⟩
  | .hbm, ⟨13, _⟩ => ⟨S1024x5632, .bf16⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x3072, .bf16⟩
  | .local _ .vmem, ⟨11, _⟩ => ⟨S1x3x1024, .f32⟩
  | .local _ .vmem, ⟨12, _⟩ => ⟨S1x1024x1024, .bf16⟩
  | .local _ .vmem, ⟨13, _⟩ => ⟨S1x64x5632, .f32⟩
  | .local _ .vmem, ⟨14, _⟩ => ⟨S1x64x5632, .f32⟩
  | .local _ .vmem, ⟨15, _⟩ => ⟨S1024x1024, .f32⟩
  | .local _ .vmem, ⟨16, _⟩ => ⟨S1024x1024, .f32⟩
  | .local _ .vmem, ⟨17, _⟩ => ⟨S64x5632, .bf16⟩
  | .local _ .vmem, ⟨18, _⟩ => ⟨S64x5632, .bf16⟩
  | .local _ .vmem, ⟨19, _⟩ => ⟨S1040x1024, .bf16⟩
  | .local _ .vmem, ⟨20, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixerReferenceIdeal.lean ====
abbrev S16384x1024 : Shape := ⟨2, ![16384, 1024]⟩
abbrev S8x1x6144 : Shape := ⟨3, ![8, 1, 6144]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024x5632 : Shape := ⟨3, ![2, 1024, 5632]⟩
abbrev S8x2048x1024 : Shape := ⟨3, ![8, 2048, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S8x2048x3072 : Shape := ⟨3, ![8, 2048, 3072]⟩
abbrev S8x2050x1024 : Shape := ⟨3, ![8, 2050, 1024]⟩
abbrev S1x1024x5632 : Shape := ⟨3, ![1, 1024, 5632]⟩
abbrev S1024x5632 : Shape := ⟨2, ![1024, 5632]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x6144, .f32⟩
  | .hbm, ⟨2, _⟩ => ⟨S2x1024, .f32⟩
  | .hbm, ⟨3, _⟩ => ⟨S2x1024, .f32⟩
  | .hbm, ⟨4, _⟩ => ⟨S1x1024x3072, .f32⟩
  | .hbm, ⟨5, _⟩ => ⟨S1x3x1024, .f32⟩
  | .hbm, ⟨6, _⟩ => ⟨S1x1024x1024, .f32⟩
  | .hbm, ⟨7, _⟩ => ⟨S2x1024x5632, .f32⟩
  | .hbm, ⟨8, _⟩ => ⟨S8x2048x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S1x1024, .f32⟩
  | .hbm, ⟨16, _⟩ => ⟨S1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S1024x3072, .f32⟩
  | .hbm, ⟨41, _⟩ => ⟨S3x1024, .f32⟩
  | .hbm, ⟨42, _⟩ => ⟨S1024x1024, .f32⟩
  | .hbm, ⟨43, _⟩ => ⟨S8x2048x3072, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .i32⟩
  | .hbm, ⟨49, _⟩ => ⟨S_, .f32⟩
  | .hbm, ⟨50, _⟩ => ⟨S8x2050x1024, .f32⟩
  | .hbm, ⟨51, _⟩ => ⟨S8x2048x1024, .f32⟩
  | .hbm, ⟨52, _⟩ => ⟨S1x1024, .f32⟩
  | .hbm, ⟨53, _⟩ => ⟨S1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S1x1024, .f32⟩
  | .hbm, ⟨59, _⟩ => ⟨S1024, .f32⟩
  | .hbm, ⟨60, _⟩ => ⟨S1x1x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S1x1024, .f32⟩
  | .hbm, ⟨74, _⟩ => ⟨S1024, .f32⟩
  | .hbm, ⟨75, _⟩ => ⟨S8x2048x1024, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S8x2048x1, .f32⟩
  | .hbm, ⟨86, _⟩ => ⟨S8x2048x1024, .f32⟩
  | .hbm, ⟨87, _⟩ => ⟨S8x2048x1024, .f32⟩
  | .hbm, ⟨88, _⟩ => ⟨S1x1x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S16384x1024, .f32⟩
  | .hbm, ⟨95, _⟩ => ⟨S1x1024x5632, .f32⟩
  | .hbm, ⟨96, _⟩ => ⟨S1024x5632, .f32⟩
  | .hbm, ⟨97, _⟩ => ⟨S1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_3 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== Proof.AttnSoft.lean ====
/-
  The arithmetic of softmax in blocks. With real scores the shift that a softmax subtracts cancels, so a running maximum
  taken block after block and one maximum taken over all keys give the same weighted mean of the values; the values
  themselves may be infinite.
-/
module

public import Idealize.ShloMosaic.Lib.Pipeline.ValueKit

@[expose] public section

noncomputable section

namespace Cert.Attn

open Idealize.ShloMosaic

/-- The power of two, positive. -/
def pw (r : ℝ) : ℝ := Real.rpow 2 r

theorem pw_pos (r : ℝ) : 0 < pw r := Real.rpow_pos_of_pos (by norm_num) r

theorem pw_add (a b : ℝ) : pw (a + b) = pw a * pw b := Real.rpow_add (by norm_num) a b

/-- A nonnegative real factor goes into a sum of extended reals. -/
theorem coe_mul_sum {ι : Type*} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (by exact_mod_cast hr) (EReal.coe_ne_top r), ih]

theorem coe_mul_add (r : ℝ) (hr : 0 ≤ r) (a b : EReal) :
    (r : EReal) * (a + b) = (r : EReal) * a + (r : EReal) * b :=
  EReal.left_distrib_of_nonneg_of_ne_top (by exact_mod_cast hr) (EReal.coe_ne_top r) a b

theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_max (a b : ℝ) : ((max a b : ℝ) : EReal) = max (a : EReal) b :=
  EReal.coe_strictMono.monotone.map_max

/-- The largest of finitely many reals, started at the bottom or at any real, is a real. -/
theorem fold_max_real {ι : Type*} (S : Finset ι) (hS : S.Nonempty) (f : ι → ℝ) :
    ∃ m : ℝ, Finset.fold max (⊥ : EReal) (fun i => (f i : EReal)) S = m := by
  classical
  induction hS using Finset.Nonempty.cons_induction with
  | singleton a => exact ⟨f a, by simp⟩
  | cons a S ha hS ih =>
    obtain ⟨m, hm⟩ := ih
    exact ⟨max (f a) m, by rw [Finset.cons_eq_insert, Finset.fold_insert ha, hm, coe_max]⟩

theorem exp2_sub (a b : ℝ) : Ideal.exp2 ((a : EReal) - (b : EReal)) = ((pw (-b) * pw a : ℝ) : EReal) := by
  rw [← pw_add, ← EReal.coe_sub, show -b + a = a - b by ring]
  exact Ideal.exp2_coe _

/-- One rescaling of a running sum: going from the shift `a` to the shift `b`. -/
theorem rescale (a b : ℝ) (X : EReal) :
    ((pw (-b) * pw a : ℝ) : EReal) * (((pw (-a) : ℝ) : EReal) * X) = ((pw (-b) : ℝ) : EReal) * X := by
  rw [← mul_assoc, ← EReal.coe_mul, mul_assoc, ← pw_add, show a + -a = 0 by ring]
  congr 2
  simp [pw]

/-- A block's sum of weighted values, with its shift taken out. -/
theorem block_sum {ι : Type*} [Fintype ι] (s : ι → ℝ) (m : ℝ) (v : ι → EReal) :
    ∑ i, Ideal.exp2 ((s i : EReal) - (m : EReal)) * v i
      = ((pw (-m) : ℝ) : EReal) * ∑ i, ((pw (s i) : ℝ) : EReal) * v i := by
  rw [coe_mul_sum _ _ (pw_pos _).le]
  exact Finset.sum_congr rfl fun i _ => by rw [exp2_sub, EReal.coe_mul, mul_assoc]

theorem block_den {ι : Type*} [Fintype ι] (s : ι → ℝ) (m : ℝ) :
    ∑ i, Ideal.exp2 ((s i : EReal) - (m : EReal))
      = ((pw (-m) : ℝ) : EReal) * ((∑ i, pw (s i) : ℝ) : EReal) := by
  rw [coe_sum, coe_mul_sum _ _ (pw_pos _).le]
  exact Finset.sum_congr rfl fun i _ => by rw [exp2_sub, EReal.coe_mul]

theorem sum_pw_pos {ι : Type*} [Fintype ι] [Nonempty ι] (s : ι → ℝ) : 0 < ∑ i, pw (s i) :=
  Finset.sum_pos (fun i _ => pw_pos _) Finset.univ_nonempty

/-- The softmax mean of `v` over three blocks of keys with real scores. -/
def mean3 {ι κ l : Type*} [Fintype ι] [Fintype κ] [Fintype l] (s1 : ι → ℝ) (s2 : κ → ℝ) (s3 : l → ℝ)
    (v1 : ι → EReal) (v2 : κ → EReal) (v3 : l → EReal) : EReal :=
  (((∑ i, pw (s1 i) + ∑ i, pw (s2 i) + ∑ i, pw (s3 i))⁻¹ : ℝ) : EReal) *
    (∑ i, ((pw (s1 i) : ℝ) : EReal) * v1 i + ∑ i, ((pw (s2 i) : ℝ) : EReal) * v2 i + ∑ i, ((pw (s3 i) : ℝ) : EReal) * v3 i)

/-- The running-maximum form over three blocks: accumulator times the reciprocal of the denominator. -/
def online3 {ι κ l : Type*} [Fintype ι] [Fintype κ] [Fintype l] (s1 : ι → EReal) (s2 : κ → EReal) (s3 : l → EReal)
    (v1 : ι → EReal) (v2 : κ → EReal) (v3 : l → EReal) : EReal :=
  let m1 : EReal := Finset.fold max (Ideal.ofBits FTy.f32 4286578688#32) s1 Finset.univ
  let m2 : EReal := max m1 (Finset.fold max (Ideal.ofBits FTy.f32 4286578688#32) s2 Finset.univ)
  let m3 : EReal := max m2 (Finset.fold max (Ideal.ofBits FTy.f32 4286578688#32) s3 Finset.univ)
  let e (x : EReal) : EReal := Ideal.exp2 x
  (e (m2 - m3) * (e (m1 - m2) * ∑ x, e (s1 x - m1) * v1 x + ∑ x, e (s2 x - m2) * v2 x) + ∑ x, e (s3 x - m3) * v3 x)
    * Ideal.div 1 (e (m2 - m3) * (e (m1 - m2) * ∑ x, e (s1 x - m1) + ∑ x, e (s2 x - m2)) + ∑ x, e (s3 x - m3))

theorem bits_bot : Ideal.ofBits FTy.f32 4286578688#32 = (⊥ : EReal) := by
  simp [Ideal.ofBits, Ideal.ieee]

theorem div_one_coe (r : ℝ) (hr : 0 < r) : Ideal.div (1 : EReal) (r : EReal) = ((r⁻¹ : ℝ) : EReal) := by
  unfold Ideal.div
  rw [if_neg (by exact_mod_cast hr.ne'), one_mul, EReal.coe_inv]

/-- A shifted sum over a shifted denominator: the shift cancels. -/
theorem cancel (c : ℝ) (hc : 0 < c) (Z : ℝ) (hZ : 0 < Z) (A : EReal) :
    ((c : ℝ) : EReal) * A * Ideal.div 1 ((c : EReal) * (Z : EReal)) = ((Z⁻¹ : ℝ) : EReal) * A := by
  rw [← EReal.coe_mul, div_one_coe _ (mul_pos hc hZ), mul_comm, ← mul_assoc, ← EReal.coe_mul]
  congr 2
  field_simp

theorem online3_real {ι κ l : Type*} [Fintype ι] [Fintype κ] [Fintype l] [Nonempty ι] [Nonempty κ] [Nonempty l]
    (s1 : ι → ℝ) (s2 : κ → ℝ) (s3 : l → ℝ) (v1 : ι → EReal) (v2 : κ → EReal) (v3 : l → EReal) :
    online3 (fun i => (s1 i : EReal)) (fun i => (s2 i : EReal)) (fun i => (s3 i : EReal)) v1 v2 v3
      = mean3 s1 s2 s3 v1 v2 v3 := by
  obtain ⟨n1, h1⟩ := fold_max_real Finset.univ Finset.univ_nonempty s1
  obtain ⟨n2, h2⟩ := fold_max_real Finset.univ Finset.univ_nonempty s2
  obtain ⟨n3, h3⟩ := fold_max_real Finset.univ Finset.univ_nonempty s3
  unfold online3 mean3
  simp only [bits_bot, h1, h2, h3, ← coe_max]
  rw [exp2_sub, exp2_sub]
  simp only [block_sum, block_den]
  rw [rescale, rescale, ← coe_mul_add _ (pw_pos _).le, ← coe_mul_add _ (pw_pos _).le, rescale, rescale,
    ← coe_mul_add _ (pw_pos _).le, ← coe_mul_add _ (pw_pos _).le, ← EReal.coe_add, ← EReal.coe_add]
  exact cancel _ (pw_pos _) _ (add_pos (add_pos (sum_pw_pos _) (sum_pw_pos _)) (sum_pw_pos _)) _

/-- One softmax over all keys, written with `exp` of the score times the logarithm of two and any real shift. -/
theorem whole_real {ι : Type*} [Fintype ι] [Nonempty ι] (s : ι → ℝ) (M : ℝ) (v : ι → EReal) :
    ∑ i, v i * Ideal.div (Ideal.exp ((s i : EReal) * ((Real.log 2 : ℝ) : EReal) - (M : EReal)))
        (∑ j, Ideal.exp ((s j : EReal) * ((Real.log 2 : ℝ) : EReal) - (M : EReal)))
      = (((∑ i, pw (s i))⁻¹ : ℝ) : EReal) * ∑ i, ((pw (s i) : ℝ) : EReal) * v i := by
  have he : ∀ i, Ideal.exp ((s i : EReal) * ((Real.log 2 : ℝ) : EReal) - (M : EReal)) = ((Real.exp (-M) * pw (s i) : ℝ) : EReal) := by
    intro i
    rw [← EReal.coe_mul, ← EReal.coe_sub, Ideal.exp_coe]
    congr 1
    show _ = _ * (2 : ℝ) ^ (s i)
    rw [Real.rpow_def_of_pos (by norm_num), ← Real.exp_add]
    congr 1; ring
  have hZ := sum_pw_pos s
  simp only [he]
  rw [← coe_sum, ← Finset.mul_sum, coe_mul_sum _ _ (inv_pos.mpr hZ).le]
  refine Finset.sum_congr rfl fun i _ => ?_
  rw [mul_comm]
  unfold Ideal.div
  rw [if_neg (by exact_mod_cast (mul_pos (Real.exp_pos _) hZ).ne'), ← EReal.coe_inv, ← EReal.coe_mul, ← mul_assoc,
    ← EReal.coe_mul]
  congr 2
  have := Real.exp_ne_zero (-M)
  field_simp

end Cert.Attn
-- ==== Proof.AttnGroup.lean ====
/-
  One group of four query heads against one key/value head: the kernel's running-maximum softmax over three blocks of
  keys (512 cached, 1024 new, 1024 new), read at an index. `grp` is the arithmetic the body repeats for each of the two
  key/value heads; `pay12_eq` and `pay26_eq` say both printed copies are `grp` of their loads.
-/
module

public import proofs.«01_k».proof.Proof.Gen.KernelIdeal.Value
public import Idealize.ShloMosaic.Lib.Pipeline.ValueKit
public import proofs.«01_k».proof.Proof.AttnSoft
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The normalized accumulator of one group: `q` the group's stacked query rows, `ck cv` the cached keys and values,
    `ka va`, `kb vb` the two blocks of new keys and values. -/
def grp (q : FVec Ideal S1024x128 .bf16) (ck cv : FVec Ideal S512x128 .f32) (ka va kb vb : FVec Ideal S1024x128 .bf16) :
    FVec Ideal S1024x128 .f32 :=
  let s1 : FVec Ideal S1024x512 .f32 := matmul dot_S1024x128_S512x128_S1024x512_1_1_0_0_n_n none q
    (truncf .bf16 (shapeCast S512x128 ck shapeCasts_S512x128_S512x128) bitsLt_bf16_f32) (constant S1024x512 .f32 0x00000000#32)
  let m1 : FVec Ideal S1024x1 .f32 := shapeCast S1024x1 (multiReduction .maximumf [1] S1024 s1 0xFF800000#32 reduces_S1024x512_S1024 (.inl rfl) rfl) shapeCasts_S1024_S1024x1
  let p1 : FVec Ideal S1024x512 .f32 := exp2 (subf s1 (broadcastTo S1024x512 m1 broadcasts_S1024x1_S1024x512))
  let d1 : FVec Ideal S1024x1 .f32 := shapeCast S1024x1 (multiReduction .add [1] S1024 p1 0x00000000#32 reduces_S1024x512_S1024 (.inl rfl) rfl) shapeCasts_S1024_S1024x1
  let a1 : FVec Ideal S1024x128 .f32 := matmul dot_S1024x512_S512x128_S1024x128_1_0_0_1_n_n none (truncf .bf16 p1 bitsLt_bf16_f32)
    (truncf .bf16 (shapeCast S512x128 cv shapeCasts_S512x128_S512x128) bitsLt_bf16_f32) (constant S1024x128 .f32 0x00000000#32)
  let step (m d : FVec Ideal S1024x1 .f32) (a : FVec Ideal S1024x128 .f32) (k v : FVec Ideal S1024x128 .bf16) :
      FVec Ideal S1024x1 .f32 × FVec Ideal S1024x1 .f32 × FVec Ideal S1024x128 .f32 :=
    let s : FVec Ideal S1024x1024 .f32 := matmul dot_S1024x128_S1024x128_S1024x1024_1_1_0_0_n_n none q k (constant S1024x1024 .f32 0x00000000#32)
    let m' : FVec Ideal S1024x1 .f32 := maximumf m (shapeCast S1024x1 (multiReduction .maximumf [1] S1024 s 0xFF800000#32 reduces_S1024x1024_S1024 (.inl rfl) rfl) shapeCasts_S1024_S1024x1)
    let al : FVec Ideal S1024x1 .f32 := exp2 (subf m m')
    let p : FVec Ideal S1024x1024 .f32 := exp2 (subf s (broadcastTo S1024x1024 m' broadcasts_S1024x1_S1024x1024))
    (m', addf (mulf al d) (shapeCast S1024x1 (multiReduction .add [1] S1024 p 0x00000000#32 reduces_S1024x1024_S1024 (.inl rfl) rfl) shapeCasts_S1024_S1024x1),
      addf (mulf (broadcastTo S1024x128 al broadcasts_S1024x1_S1024x128) a)
        (matmul dot_S1024x1024_S1024x128_S1024x128_1_0_0_1_n_n none (truncf .bf16 p bitsLt_bf16_f32) v (constant S1024x128 .f32 0x00000000#32)))
  let r2 := step m1 d1 a1 ka va
  let r3 := step r2.1 r2.2.1 r2.2.2 kb vb
  mulf r3.2.2 (broadcastTo S1024x128 (divf (broadcast S1024x1 (Scalar.ofBits .f32 0x3F800000#32)) r3.2.1) broadcasts_S1024x1_S1024x128)

set_option maxRecDepth 65536 in
theorem pay12_eq (q0 q1 q2 q3 : FVec Ideal S256x128 .bf16) (ck cv : FVec Ideal S512x128 .f32) (ka va kb vb : FVec Ideal S1024x128 .bf16) :
    k0_pay12 (k0_pay2 q0 q1 q2 q3) (k0_pay6 q0 q1 q2 q3 ck cv) va (k0_pay8 q0 q1 q2 q3 ck ka) (k0_pay9 q0 q1 q2 q3 ck ka)
      (k0_pay10 q0 q1 q2 q3 ck ka) (k0_pay11 q0 q1 q2 q3 ck ka) kb vb
    = grp (k0_pay2 q0 q1 q2 q3) ck cv ka va kb vb := rfl

set_option maxRecDepth 65536 in
theorem pay26_eq (q0 q1 q2 q3 : FVec Ideal S256x128 .bf16) (ck cv : FVec Ideal S512x128 .f32) (ka va kb vb : FVec Ideal S1024x128 .bf16) :
    k0_pay26 (k0_pay18 q0 q1 q2 q3) (k0_pay20 q0 q1 q2 q3 ck) (k0_pay22 q0 q1 q2 q3 ck) (k0_pay23 q0 q1 q2 q3 ck cv)
      (k0_pay24 q0 q1 q2 q3 ka) va (k0_pay25 q0 q1 q2 q3 ck ka) kb vb
    = grp (k0_pay2 q0 q1 q2 q3) ck cv ka va kb vb := rfl

/-- One group read at a row and a column: the running-maximum softmax of the row's scores, over the column's values. -/
theorem grp_apply (q : FVec Ideal S1024x128 .bf16) (ck cv : FVec Ideal S512x128 .f32) (ka va kb vb : FVec Ideal S1024x128 .bf16)
    (r : Fin 1024) (d : Fin 128) : grp q ck cv ka va kb vb (ix2 r d)
      = online3 (fun x : Fin 512 => ∑ e : Fin 128, (q (ix2 r e) : EReal) * ck (ix2 x e)) (fun x : Fin 1024 => ∑ e : Fin 128, (q (ix2 r e) : EReal) * ka (ix2 x e))
          (fun x : Fin 1024 => ∑ e : Fin 128, (q (ix2 r e) : EReal) * kb (ix2 x e))
          (fun x => cv (ix2 x d)) (fun x => va (ix2 x d)) (fun x => vb (ix2 x d)) := by
  unfold grp
  pointwise [dot_S1024x128_S512x128_S1024x512_1_1_0_0_n_n, dot_S1024x512_S512x128_S1024x128_1_0_0_1_n_n, dot_S1024x128_S1024x128_S1024x1024_1_1_0_0_n_n, dot_S1024x1024_S1024x128_S1024x128_1_0_0_1_n_n]
  rfl

end Cert.Attn
-- ==== Proof.AttnSpec.lean ====
/-
  The attention sublayer in mathematics, from the arguments: both the kernel's array and the reference's result are read
  as `attnG` (the reference under finite queries and keys).
-/
module

public import proofs.«01_k».proof.Proof.AttnSoft
public import proofs.«01_k».proof.KernelIdeal
public import Idealize.ShloMosaic.Lib.Pointwise

@[expose] public section

set_option maxRecDepth 16384

noncomputable section

namespace Cert.Attn

open Cert.KernelIdeal Idealize.ShloMosaic

/-- The root-mean-square norm's scale for a row of 1024 values `y`. -/
def rms (y : Fin 1024 → EReal) : EReal :=
  Ideal.rsqrt (Ideal.div (∑ x, y x * y x) (Ideal.ofBits FTy.f32 1149239296#32) + Ideal.ofBits FTy.f32 897988541#32)

section
variable (A1 : FVec Ideal S16384x1024 .bf16) (A2 A3 : FVec Ideal S8x1x512x2x128 .f32) (A4 A5 : FVec Ideal S16384x256 .bf16)

/-- The score of query row `R` in head `h` against cached key `j` of the row's sequence. -/
def gsc1 (R : Fin 16384) (h : Fin 8) (j : Fin 512) : EReal :=
  ∑ e : Fin 128, (A1 (ix2 R (⟨h.val * 128 + e.val, by omega⟩ : Fin 1024)) : EReal)
    * A2 (ix5 (⟨R.val / 2048, by omega⟩ : Fin 8) 0 j (⟨h.val / 4, by omega⟩ : Fin 2) e)

/-- The score against new key `o + j`. -/
def gsc2 (o : ℕ) (ho : o ≤ 1024) (R : Fin 16384) (h : Fin 8) (j : Fin 1024) : EReal :=
  ∑ e : Fin 128, (A1 (ix2 R (⟨h.val * 128 + e.val, by omega⟩ : Fin 1024)) : EReal)
    * A4 (ix2 (⟨R.val / 2048 * 2048 + (o + j.val), by omega⟩ : Fin 16384) (⟨h.val / 4 * 128 + e.val, by omega⟩ : Fin 256))

/-- The attention output of row `R`, head `h`, at column `d` of the head. -/
def gatt (R : Fin 16384) (h : Fin 8) (d : Fin 128) : EReal :=
  online3 (gsc1 A1 A2 R h) (gsc2 A1 A4 0 (by decide) R h) (gsc2 A1 A4 1024 (by decide) R h)
    (fun j : Fin 512 => A3 (ix5 (⟨R.val / 2048, by omega⟩ : Fin 8) 0 j (⟨h.val / 4, by omega⟩ : Fin 2) d))
    (fun j : Fin 1024 => A5 (ix2 (⟨R.val / 2048 * 2048 + (0 + j.val), by omega⟩ : Fin 16384) (⟨h.val / 4 * 128 + d.val, by omega⟩ : Fin 256)))
    (fun j : Fin 1024 => A5 (ix2 (⟨R.val / 2048 * 2048 + (1024 + j.val), by omega⟩ : Fin 16384) (⟨h.val / 4 * 128 + d.val, by omega⟩ : Fin 256)))

/-- The eight heads side by side. -/
def gheads (R : Fin 16384) (e : Fin 1024) : EReal :=
  gatt A1 A2 A3 A4 A5 R ⟨e.val / 128, by omega⟩ ⟨e.val % 128, by omega⟩

end

/-- The sublayer's result: residual plus gate times the normalized projection of the heads. -/
def attnG (A0 : FVec Ideal S16384x1024 .f32) (A1 : FVec Ideal S16384x1024 .bf16) (A2 A3 : FVec Ideal S8x1x512x2x128 .f32)
    (A4 A5 : FVec Ideal S16384x256 .bf16) (A6 : FVec Ideal S8x1x6144 .f32) (A7 : FVec Ideal S2x1024 .f32) (A8 : FVec Ideal S1x1024x1024 .f32)
    (R : Fin 16384) (n : Fin 1024) : EReal :=
  A0 (ix2 R n) + A6 (ix3 (⟨R.val / 2048, by omega⟩ : Fin 8) 0 (⟨2048 + n.val, by omega⟩ : Fin 6144)) * A7 (ix2 (1 : Fin 2) n)
    * ((∑ e : Fin 1024, gheads A1 A2 A3 A4 A5 R e * A8 (ix3 0 e n)) * rms fun k => ∑ e : Fin 1024, gheads A1 A2 A3 A4 A5 R e * A8 (ix3 0 e k))

end Cert.Attn
-- ==== Proof.AttnBody.lean ====
/-
  What one grid point of the attention kernel writes: 256 rows of queries against the whole sequence's keys, eight heads
  in two groups of four, the heads' outputs side by side in a scratch, the output projection, the root-mean-square norm,
  the gate and the residual. `outVal` is that block in mathematics, and `out_apply` reads the body's block as it.
-/
module

public import proofs.«01_k».proof.Proof.AttnGroup
public import proofs.«01_k».proof.Proof.AttnSpec

@[expose] public section

set_option maxRecDepth 16384

noncomputable section

namespace Cert.Attn

open Cert.KernelIdeal Cert.KernelIdeal.Gen Idealize.ShloMosaic Idealize.ShloMosaic.TcCoe Idealize.SL.Sem

section
variable (x1 : Vec Ideal S256x1024 .bf16) (x2 x3 : Vec Ideal S1024x128 .f32) (x4 x5 : Vec Ideal S2048x256 .bf16)

/-- The score of row `r` in head `h` against cached key `j`; a cached key's two heads are adjacent rows. -/
def sc1 (r : Fin 256) (h : Fin 8) (j : Fin 512) : EReal :=
  ∑ e : Fin 128, (x1 (ix2 r (⟨h.val * 128 + e.val, by omega⟩ : Fin 1024)) : EReal) * x2 (ix2 (⟨2 * j.val + h.val / 4, by omega⟩ : Fin 1024) e)

/-- The score against new key `o + j`; a new key's two heads are adjacent column ranges. -/
def sc2 (o : ℕ) (ho : o ≤ 1024) (r : Fin 256) (h : Fin 8) (j : Fin 1024) : EReal :=
  ∑ e : Fin 128, (x1 (ix2 r (⟨h.val * 128 + e.val, by omega⟩ : Fin 1024)) : EReal)
    * x4 (ix2 (⟨o + j.val, by omega⟩ : Fin 2048) (⟨h.val / 4 * 128 + e.val, by omega⟩ : Fin 256))

/-- The attention output of row `r`, head `h`, at column `d` of the head. -/
def att (r : Fin 256) (h : Fin 8) (d : Fin 128) : EReal :=
  online3 (sc1 x1 x2 r h) (sc2 x1 x4 0 (by decide) r h) (sc2 x1 x4 1024 (by decide) r h)
    (fun j : Fin 512 => x3 (ix2 (⟨2 * j.val + h.val / 4, by omega⟩ : Fin 1024) d))
    (fun j : Fin 1024 => x5 (ix2 (⟨0 + j.val, by omega⟩ : Fin 2048) (⟨h.val / 4 * 128 + d.val, by omega⟩ : Fin 256)))
    (fun j : Fin 1024 => x5 (ix2 (⟨1024 + j.val, by omega⟩ : Fin 2048) (⟨h.val / 4 * 128 + d.val, by omega⟩ : Fin 256)))

/-- The eight heads side by side. -/
def heads (r : Fin 256) (e : Fin 1024) : EReal :=
  att x1 x2 x3 x4 x5 r ⟨e.val / 128, by omega⟩ ⟨e.val % 128, by omega⟩

theorem grp_at (q : FVec Ideal S1024x128 .bf16) (ck cv : FVec Ideal S512x128 .f32) (ka va kb vb : FVec Ideal S1024x128 .bf16)
    (r : Fin 256) (h : Fin 8) (d : Fin 128) (row : Fin 1024)
    (hq : ∀ e : Fin 128, q (ix2 row e) = x1 (ix2 r (⟨h.val * 128 + e.val, by omega⟩ : Fin 1024)))
    (hck : ∀ (j : Fin 512) (e : Fin 128), ck (ix2 j e) = x2 (ix2 (⟨2 * j.val + h.val / 4, by omega⟩ : Fin 1024) e))
    (hcv : ∀ (j : Fin 512) (e : Fin 128), cv (ix2 j e) = x3 (ix2 (⟨2 * j.val + h.val / 4, by omega⟩ : Fin 1024) e))
    (hka : ∀ (j : Fin 1024) (e : Fin 128), ka (ix2 j e) = x4 (ix2 (⟨0 + j.val, by omega⟩ : Fin 2048) (⟨h.val / 4 * 128 + e.val, by omega⟩ : Fin 256)))
    (hva : ∀ (j : Fin 1024) (e : Fin 128), va (ix2 j e) = x5 (ix2 (⟨0 + j.val, by omega⟩ : Fin 2048) (⟨h.val / 4 * 128 + e.val, by omega⟩ : Fin 256)))
    (hkb : ∀ (j : Fin 1024) (e : Fin 128), kb (ix2 j e) = x4 (ix2 (⟨1024 + j.val, by omega⟩ : Fin 2048) (⟨h.val / 4 * 128 + e.val, by omega⟩ : Fin 256)))
    (hvb : ∀ (j : Fin 1024) (e : Fin 128), vb (ix2 j e) = x5 (ix2 (⟨1024 + j.val, by omega⟩ : Fin 2048) (⟨h.val / 4 * 128 + e.val, by omega⟩ : Fin 256))) :
    grp q ck cv ka va kb vb (ix2 row d) = att x1 x2 x3 x4 x5 r h d := by
  rw [grp_apply]
  simp only [hq, hck, hcv, hka, hva, hkb, hvb]
  rfl

end

/-- Four heads' query rows stacked: row `256 * i + r` is row `r` of piece `i`. -/
theorem stack_apply (q : Fin 4 → Vec Ideal S256x128 .bf16) (i : Fin 4) (r : Fin 256) (row : Fin 1024)
    (hrow : row.val = i.val * 256 + r.val) (e : Fin 128) :
    k0_pay2 (q 0) (q 1) (q 2) (q 3) (ix2 row e) = q i (ix2 r e) := by
  unfold k0_pay2
  refine concatenate_ofFn_apply (t := S1024x128) (s₁ := S256x128) 0 q concatenates_S256x128_S256x128_S256x128_S256x128_S1024x128_d0 rfl 256 rfl (ix2 row e) i ?_ (ix2 r e) ?_ ?_
  · show row.val / 256 = _
    omega
  · show r.val = row.val % 256
    omega
  · intro b hb
    match b with
    | 0 => exact absurd rfl hb
    | 1 => rfl

/-- A row slice of a group's output read at an index. -/
theorem slice_at (G : FVec Ideal S1024x128 .f32) (o : ℕ) (hs : S1024x128.Slices ![o, 0] S256x128) (x : S256x128.Idx)
    (row : Fin 1024) (hrow : row.val = o + (x 0).val) :
    shapeCast S256x128 (truncf (F := Ideal) .bf16 (extractStridedSlice S256x128 ![o, 0] G hs) bitsLt_bf16_f32) shapeCasts_S256x128_S256x128 x
      = G (ix2 row (x 1)) := by
  rw [shapeCast_apply _ shapeCasts_S256x128_S256x128 x x rfl]
  show G _ = G _
  congr 1
  funext a
  apply Fin.ext
  match a with
  | 0 => exact hrow.symm
  | 1 => exact Nat.zero_add _

section
variable (x1 : Vec Ideal S256x1024 .bf16) (x2 x3 : Vec Ideal S1024x128 .f32) (x4 x5 : Vec Ideal S2048x256 .bf16)

/-- One store into the scratch: head `4 * kk + i`, from the loads of its group. -/
theorem piece_at {m2 m3 : Memref sig .tc .vmem S1024x128 .f32} (h2 : m2.IsWhole) (h3 : m3.IsWhole)
    (kk : Fin 2) (i : Fin 4) (q0 q1 q2 q3 o kc so : ℕ)
    (hq0 : q0 = kk.val * 512 + 0 * 128) (hq1 : q1 = kk.val * 512 + 1 * 128) (hq2 : q2 = kk.val * 512 + 2 * 128) (hq3 : q3 = kk.val * 512 + 3 * 128)
    (ho : o = i.val * 256) (hkc : kc = kk.val * 128) (hso : so = kk.val)
    (i0 : ∀ a, ![0, q0] a + ![256, 128] a ≤ S256x1024.size a) (i1 : ∀ a, ![0, q1] a + ![256, 128] a ≤ S256x1024.size a)
    (i2 : ∀ a, ![0, q2] a + ![256, 128] a ≤ S256x1024.size a) (i3 : ∀ a, ![0, q3] a + ![256, 128] a ≤ S256x1024.size a)
    (hin : ∀ a, ![512, 128] a = 0 ∨ ![so, 0] a + ![2, 1] a * (![512, 128] a - 1) < S1024x128.size a)
    (ja : ∀ a, ![0, kc] a + ![1024, 128] a ≤ S2048x256.size a) (jb : ∀ a, ![1024, kc] a + ![1024, 128] a ≤ S2048x256.size a)
    (hs : S1024x128.Slices ![o, 0] S256x128) (x : S256x128.Idx) (r : Fin 256) (e : Fin 1024)
    (hr : r.val = (x 0).val) (he : e.val = kk.val * 512 + i.val * 128 + (x 1).val) :
    shapeCast S256x128 (truncf (F := Ideal) .bf16 (extractStridedSlice S256x128 ![o, 0]
        (grp (k0_pay2 (View.ld x1 (Rect.unit ![0, q0] ![256, 128] i0)) (View.ld x1 (Rect.unit ![0, q1] ![256, 128] i1))
            (View.ld x1 (Rect.unit ![0, q2] ![256, 128] i2)) (View.ld x1 (Rect.unit ![0, q3] ![256, 128] i3)))
          (View.readAt (Elt Ideal) m2.view { off := ![so, 0], size := ![512, 128], stride := ![2, 1], inb := hin } (h2.unread x2))
          (View.readAt (Elt Ideal) m3.view { off := ![so, 0], size := ![512, 128], stride := ![2, 1], inb := hin } (h3.unread x3))
          (View.ld x4 (Rect.unit ![0, kc] ![1024, 128] ja)) (View.ld x5 (Rect.unit ![0, kc] ![1024, 128] ja))
          (View.ld x4 (Rect.unit ![1024, kc] ![1024, 128] jb)) (View.ld x5 (Rect.unit ![1024, kc] ![1024, 128] jb))) hs) bitsLt_bf16_f32)
      shapeCasts_S256x128_S256x128 x = heads x1 x2 x3 x4 x5 r e := by
  have x0_lt : (x 0).val < 256 := (x 0).isLt
  have x1_lt : (x 1).val < 128 := (x 1).isLt
  have hrow : o + (x 0).val < 1024 := by omega
  rw [slice_at _ o hs x ⟨o + (x 0).val, hrow⟩ rfl]
  unfold heads
  obtain ⟨h, hdef⟩ : ∃ h : Fin 8, h = ⟨e.val / 128, by omega⟩ := ⟨_, rfl⟩
  have hh : h.val = kk.val * 4 + i.val := by rw [hdef]; show e.val / 128 = _; omega
  have hd : (⟨e.val % 128, by omega⟩ : Fin 128) = x 1 := by apply Fin.ext; show e.val % 128 = _; omega
  rw [← hdef, show att x1 x2 x3 x4 x5 r h ⟨e.val % 128, by omega⟩ = att x1 x2 x3 x4 x5 r h (x 1) from congrArg _ hd]
  have hg : h.val / 4 = kk.val := by omega
  subst hq0 hq1 hq2 hq3 hkc hso
  refine grp_at x1 x2 x3 x4 x5 _ _ _ _ _ _ _ r h (x 1) _ ?_ ?_ ?_ ?_ ?_ ?_ ?_
  · intro d
    refine (stack_apply (fun k => View.ld x1 (Rect.unit ![0, kk.val * 512 + k.val * 128] ![256, 128] (match k with | 0 => i0 | 1 => i1 | 2 => i2 | 3 => i3))) i r _ (by show o + (x 0).val = _; omega) d).trans ?_
    refine View.ld_unit_apply_of _ _ _ _ _ _ fun a => ?_
    match a with
    | 0 => exact (Nat.zero_add _).symm
    | 1 => show h.val * 128 + d.val = kk.val * 512 + i.val * 128 + d.val; omega
  · intro j d
    rw [View.readAt_apply, h2.read_unread]
    congr 1
    funext a
    apply Fin.ext
    match a with
    | 0 => show kk.val + 2 * j.val = 2 * j.val + h.val / 4; omega
    | 1 => show 0 + 1 * d.val = d.val; omega
  · intro j d
    rw [View.readAt_apply, h3.read_unread]
    congr 1
    funext a
    apply Fin.ext
    match a with
    | 0 => show kk.val + 2 * j.val = 2 * j.val + h.val / 4; omega
    | 1 => show 0 + 1 * d.val = d.val; omega
  all_goals
    intro j d
    refine View.ld_unit_apply_of _ _ _ _ _ _ fun a => ?_
    match a with
    | 0 => rfl
    | 1 => show h.val / 4 * 128 + d.val = kk.val * 128 + d.val; omega

end

/-- The projection, the norm, the gate and the residual, from the heads' outputs. -/
def outVal (x0 : Vec Ideal S256x1024 .f32) (x6 : Vec Ideal S1x1x1024 .f32) (x7 : Vec Ideal S1x1x1024 .f32) (x8 : Vec Ideal S1x1024x1024 .bf16)
    (o : Fin 256 → Fin 1024 → EReal) (r : Fin 256) (n : Fin 1024) : EReal :=
  x0 (ix2 r n) + x6 (ix3 0 0 n) * x7 (ix3 0 0 n) * ((∑ e : Fin 1024, o r e * x8 (ix3 0 e n)) * rms fun k => ∑ e : Fin 1024, o r e * x8 (ix3 0 e k))

theorem finish (S : Vec Ideal S256x1024 .bf16) (o : Fin 256 → Fin 1024 → EReal) (hS : ∀ r e, S (ix2 r e) = o r e)
    (x0 : Vec Ideal S256x1024 .f32) (x6 : Vec Ideal S1x1x1024 .f32) (x7 : Vec Ideal S1x1x1024 .f32) (x8 : Vec Ideal S1x1024x1024 .bf16)
    (r : Fin 256) (n : Fin 1024) : k0_pay1 x0 (k0_pay32 S x8 x6 x7) (ix2 r n) = outVal x0 x6 x7 x8 o r n := by
  unfold k0_pay1 k0_pay32
  pointwise [dot_S256x1024_S1024x1024_S256x1024_1_0_0_1_n_n]
  simp only [hS]
  rfl

theorem out_apply (c : Dev nD) (t : Fin cfg0.N)
    (x0 : Vec Ideal S256x1024 .f32) (x1 : Vec Ideal S256x1024 .bf16) (x2 x3 : Vec Ideal S1024x128 .f32) (x4 x5 : Vec Ideal S2048x256 .bf16)
    (x6 : Vec Ideal S1x1x6144 .f32) (x7 : Vec Ideal S1x1x1024 .f32) (x8 : Vec Ideal S1x1024x1024 .bf16) (r : Fin 256) (n : Fin 1024) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) x0 x1 x2 x3 x4 x5 x6 x7 x8 (ix2 r n)
      = outVal x0 (View.ld x6 (Rect.unit ![0, 0, 2048] ![1, 1, 1024] (by decide))) x7 x8 (heads x1 x2 x3 x4 x5) r n := by
  unfold out0_A_9
  rw [View.read_writes_eq_canon _ _ _ (cover0_A_9 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp (disch := decide) only [View.canon_cons_unit_lit, View.ld_unit_lit]
  refine finish _ _ ?_ _ _ _ _ r n
  intro r e
  rw [View.readCov_eq_canon']
  have hr : ∀ a b, (Rect.unit ![0, 0] ![256, 1024] inb_S256x1024_S256x1024_0_0).idx (ix2 a b) = ix2 a b := by
    intro a b
    funext k
    apply Fin.ext
    match k with
    | 0 => exact (Rect.idx_unit_val _ _ _ _ _).trans (Nat.zero_add _)
    | 1 => exact (Rect.idx_unit_val _ _ _ _ _).trans (Nat.zero_add _)
  beta_reduce
  rw [show ((Rect.unit ![0, 0] ![256, 1024] inb_S256x1024_S256x1024_0_0).toLoadRect.idx (ix2 r e)) = ix2 r e from hr r e]
  simp only [k0_pay13, k0_pay14, k0_pay15, k0_pay16, k0_pay17, k0_pay27, k0_pay28, k0_pay29, k0_pay30, k0_pay31, pay12_eq, pay26_eq]
  canon_tiles x h
  case piece0 => exact piece_at x1 x2 x3 x4 x5 _ _ 1 3 _ _ _ _ _ _ _ rfl rfl rfl rfl rfl rfl rfl _ _ _ _ _ _ _ _ x r e h0 (h1.trans (by show _ = 1 * 512 + 3 * 128 + _; omega))
  case piece1 => exact piece_at x1 x2 x3 x4 x5 _ _ 1 2 _ _ _ _ _ _ _ rfl rfl rfl rfl rfl rfl rfl _ _ _ _ _ _ _ _ x r e h0 (h1.trans (by show _ = 1 * 512 + 2 * 128 + _; omega))
  case piece2 => exact piece_at x1 x2 x3 x4 x5 _ _ 1 1 _ _ _ _ _ _ _ rfl rfl rfl rfl rfl rfl rfl _ _ _ _ _ _ _ _ x r e h0 (h1.trans (by show _ = 1 * 512 + 1 * 128 + _; omega))
  case piece3 => exact piece_at x1 x2 x3 x4 x5 _ _ 1 0 _ _ _ _ _ _ _ rfl rfl rfl rfl rfl rfl rfl _ _ _ _ _ _ _ _ x r e h0 (h1.trans (by show _ = 1 * 512 + 0 * 128 + _; omega))
  case piece4 => exact piece_at x1 x2 x3 x4 x5 _ _ 0 3 _ _ _ _ _ _ _ rfl rfl rfl rfl rfl rfl rfl _ _ _ _ _ _ _ _ x r e h0 (h1.trans (by show _ = 0 * 512 + 3 * 128 + _; omega))
  case piece5 => exact piece_at x1 x2 x3 x4 x5 _ _ 0 2 _ _ _ _ _ _ _ rfl rfl rfl rfl rfl rfl rfl _ _ _ _ _ _ _ _ x r e h0 (h1.trans (by show _ = 0 * 512 + 2 * 128 + _; omega))
  case piece6 => exact piece_at x1 x2 x3 x4 x5 _ _ 0 1 _ _ _ _ _ _ _ rfl rfl rfl rfl rfl rfl rfl _ _ _ _ _ _ _ _ x r e h0 (h1.trans (by show _ = 0 * 512 + 1 * 128 + _; omega))
  case piece7 => exact piece_at x1 x2 x3 x4 x5 _ _ 0 0 _ _ _ _ _ _ _ rfl rfl rfl rfl rfl rfl rfl _ _ _ _ _ _ _ _ x r e h0 (h1.trans (by show _ = 0 * 512 + 0 * 128 + _; omega))

end Cert.Attn
-- ==== Proof.AttnArray.lean ====
/-
  The attention kernel's result array after the run, at every index, from the arguments: `attnG`.
-/
module

public import proofs.«01_k».proof.Proof.AttnBody

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- Where each window's block stands at a grid point: tile `t` of the rows, sequence `t / 8`. -/
theorem win_idx : ∀ t : Fin cfg0.N, win0_0.index t = ![t.val, 0] ∧ win0_1.index t = ![t.val, 0] ∧ win0_2.index t = ![t.val / 8, 0]
    ∧ win0_3.index t = ![t.val / 8, 0] ∧ win0_4.index t = ![t.val / 8, 0] ∧ win0_5.index t = ![t.val / 8, 0]
    ∧ win0_6.index t = ![t.val / 8, 0, 0] ∧ win0_7.index t = ![1, 0, 0] ∧ win0_8.index t = ![0, 0, 0] ∧ win0_9.index t = ![t.val, 0] :=
  (by decide +kernel : ∀ t : Fin grid0.N, win0_0.index t = ![t.val, 0] ∧ win0_1.index t = ![t.val, 0] ∧ win0_2.index t = ![t.val / 8, 0]
    ∧ win0_3.index t = ![t.val / 8, 0] ∧ win0_4.index t = ![t.val / 8, 0] ∧ win0_5.index t = ![t.val / 8, 0]
    ∧ win0_6.index t = ![t.val / 8, 0, 0] ∧ win0_7.index t = ![1, 0, 0] ∧ win0_8.index t = ![0, 0, 0] ∧ win0_9.index t = ![t.val, 0])

variable (m : (ℓ : Loc nD τ sig) → Buf (Elt Ideal) ℓ) (c : Dev nD)

theorem lt64 (t : Fin cfg0.N) : t.val < 64 := t.isLt

theorem blk0 (t : Fin cfg0.N) (r : Fin 256) (n : Fin 1024) :
    iblk m c 0 t (ix2 r n) = m ((c : Thread nD τ).loc main_arg0) (ix2 (⟨t.val * 256 + r.val, by have := lt64 t; omega⟩ : Fin 16384) n) := by
  blk_ext [iblk, V, win_idx t]

theorem blk1 (t : Fin cfg0.N) (r : Fin 256) (n : Fin 1024) :
    iblk m c 1 t (ix2 r n) = m ((c : Thread nD τ).loc main_arg1) (ix2 (⟨t.val * 256 + r.val, by have := lt64 t; omega⟩ : Fin 16384) n) := by
  blk_ext [iblk, V, win_idx t]

theorem blk4 (t : Fin cfg0.N) (r : Fin 2048) (n : Fin 256) :
    iblk m c 4 t (ix2 r n) = m ((c : Thread nD τ).loc main_arg4) (ix2 (⟨t.val / 8 * 2048 + r.val, by have := lt64 t; omega⟩ : Fin 16384) n) := by
  blk_ext [iblk, V, win_idx t]

theorem blk5 (t : Fin cfg0.N) (r : Fin 2048) (n : Fin 256) :
    iblk m c 5 t (ix2 r n) = m ((c : Thread nD τ).loc main_arg5) (ix2 (⟨t.val / 8 * 2048 + r.val, by have := lt64 t; omega⟩ : Fin 16384) n) := by
  blk_ext [iblk, V, win_idx t]

theorem blk6 (t : Fin cfg0.N) (n : Fin 6144) :
    iblk m c 6 t (ix3 0 0 n) = m ((c : Thread nD τ).loc main_arg6) (ix3 (⟨t.val / 8, by have := lt64 t; omega⟩ : Fin 8) 0 n) := by
  blk_ext [iblk, V, win_idx t]

theorem blk2 (t : Fin cfg0.N) (j : Fin 512) (kk : Fin 2) (e : Fin 128) :
    iblk m c 2 t (ix2 (⟨2 * j.val + kk.val, by omega⟩ : Fin 1024) e)
      = m ((c : Thread nD τ).loc main_arg2) (ix5 (⟨t.val / 8, by have := lt64 t; omega⟩ : Fin 8) 0 j kk e) := by
  blk_point [iblk, V, win_idx t]

theorem blk3 (t : Fin cfg0.N) (j : Fin 512) (kk : Fin 2) (e : Fin 128) :
    iblk m c 3 t (ix2 (⟨2 * j.val + kk.val, by omega⟩ : Fin 1024) e)
      = m ((c : Thread nD τ).loc main_arg3) (ix5 (⟨t.val / 8, by have := lt64 t; omega⟩ : Fin 8) 0 j kk e) := by
  blk_point [iblk, V, win_idx t]

theorem blk7 (t : Fin cfg0.N) (n : Fin 1024) :
    iblk m c 7 t (ix3 0 0 n) = m ((c : Thread nD τ).loc main_arg7) (ix2 (1 : Fin 2) n) := by
  blk_point [iblk, V, win_idx t]

theorem blk8 (t : Fin cfg0.N) (e n : Fin 1024) :
    iblk m c 8 t (ix3 0 e n) = m ((c : Thread nD τ).loc main_arg8) (ix3 0 e n) := by
  blk_point [iblk, V, win_idx t]

/-- The heads of a block's row are those of the array's row. -/
theorem heads_blk (t : Fin cfg0.N) (r : Fin 256) (R : Fin 16384) (hR : R.val = t.val * 256 + r.val) (e : Fin 1024) :
    heads (iblk m c 1 t) (iblk m c 2 t) (iblk m c 3 t) (iblk m c 4 t) (iblk m c 5 t) r e
      = gheads (m ((c : Thread nD τ).loc main_arg1)) (m ((c : Thread nD τ).loc main_arg2)) (m ((c : Thread nD τ).loc main_arg3))
          (m ((c : Thread nD τ).loc main_arg4)) (m ((c : Thread nD τ).loc main_arg5)) R e := by
  have ht := lt64 t
  have hb : R.val / 2048 = t.val / 8 := by omega
  unfold heads gheads
  generalize (⟨e.val / 128, by omega⟩ : Fin 8) = h
  generalize (⟨e.val % 128, by omega⟩ : Fin 128) = d
  have hq : ∀ k : Fin 1024, iblk m c 1 t (ix2 r k) = m ((c : Thread nD τ).loc main_arg1) (ix2 R k) := fun k => by
    rw [blk1]; congr 2; exact Fin.ext hR.symm
  have e2 : ∀ (j : Fin 512) (e : Fin 128), iblk m c 2 t (ix2 (⟨2 * j.val + h.val / 4, by omega⟩ : Fin 1024) e)
      = m ((c : Thread nD τ).loc main_arg2) (ix5 (⟨R.val / 2048, by omega⟩ : Fin 8) 0 j (⟨h.val / 4, by omega⟩ : Fin 2) e) := fun j e => by
    rw [blk2 m c t j ⟨h.val / 4, by omega⟩ e]; congr 2; exact Fin.ext hb.symm
  have e3 : ∀ (j : Fin 512) (e : Fin 128), iblk m c 3 t (ix2 (⟨2 * j.val + h.val / 4, by omega⟩ : Fin 1024) e)
      = m ((c : Thread nD τ).loc main_arg3) (ix5 (⟨R.val / 2048, by omega⟩ : Fin 8) 0 j (⟨h.val / 4, by omega⟩ : Fin 2) e) := fun j e => by
    rw [blk3 m c t j ⟨h.val / 4, by omega⟩ e]; congr 2; exact Fin.ext hb.symm
  have e4 : ∀ (k : Fin 2048) (e : Fin 256), iblk m c 4 t (ix2 k e)
      = m ((c : Thread nD τ).loc main_arg4) (ix2 (⟨R.val / 2048 * 2048 + k.val, by omega⟩ : Fin 16384) e) := fun k e => by
    rw [blk4]; congr 2; exact Fin.ext (by show _ = R.val / 2048 * 2048 + _; rw [hb])
  have e5 : ∀ (k : Fin 2048) (e : Fin 256), iblk m c 5 t (ix2 k e)
      = m ((c : Thread nD τ).loc main_arg5) (ix2 (⟨R.val / 2048 * 2048 + k.val, by omega⟩ : Fin 16384) e) := fun k e => by
    rw [blk5]; congr 2; exact Fin.ext (by show _ = R.val / 2048 * 2048 + _; rw [hb])
  unfold att gatt
  congr 1
  · funext j; unfold sc1 gsc1; exact Finset.sum_congr rfl fun e _ => congrArg₂ _ (hq _) (e2 _ _)
  · funext j; unfold sc2 gsc2; exact Finset.sum_congr rfl fun e _ => congrArg₂ _ (hq _) (e4 _ _)
  · funext j; unfold sc2 gsc2; exact Finset.sum_congr rfl fun e _ => congrArg₂ _ (hq _) (e4 _ _)
  · funext j; exact e3 _ _
  · funext j; exact e5 _ _
  · funext j; exact e5 _ _

/-- The result array after the run. -/
theorem arr_eq : (dats m 0 c).arrAt 9 cfg0.N = fun i : S16384x1024.Idx =>
    attnG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (i 0) (i 1) := by
  refine (dats m 0 c).arrAt_eq_of_covers 9 _ (by decide +kernel) fun t hf y => ?_
  blk_simp
  rw [after0_9]
  simp only [outsAt0]
  obtain ⟨r, n, hy⟩ : ∃ (r : Fin 256) (n : Fin 1024), ((cfg0.win 9).xinj (cfg0.grid.coords t) y : S256x1024.Idx) = ix2 r n :=
    ⟨_, _, (by funext a; match a with | 0 => rfl | 1 => rfl : _ = ix2 (((cfg0.win 9).xinj (cfg0.grid.coords t) y : S256x1024.Idx) 0) (((cfg0.win 9).xinj (cfg0.grid.coords t) y : S256x1024.Idx) 1))⟩
  have hi := win_idx t
  have ht := lt64 t
  have hR : ((((cfg0.win 9).blk t).view.emb y) 0).val = t.val * 256 + r.val := by
    have h0 : r.val = (y 0).val := (congrArg (fun i : S256x1024.Idx => (i 0).val) hy).symm
    blk_simp [hi]
    simp
    omega
  have hN : ((((cfg0.win 9).blk t).view.emb y) 1).val = n.val := by
    have h0 : n.val = (y 1).val := (congrArg (fun i : S256x1024.Idx => (i 1).val) hy).symm
    blk_simp [hi]
    simp
    omega
  refine (congrArg _ hy).trans ((out_apply c t _ _ _ _ _ _ _ _ _ r n).trans ?_)
  obtain ⟨R, hRd⟩ : ∃ R : Fin 16384, R = (((cfg0.win 9).blk t).view.emb y) 0 := ⟨_, rfl⟩
  have hN' : n = (((cfg0.win 9).blk t).view.emb y) 1 := Fin.ext hN.symm
  rw [← hRd] at hR ⊢
  rw [← hN']
  unfold outVal attnG
  have hb : R.val / 2048 = t.val / 8 := by omega
  have h8 : ∀ k : Fin 1024, (∑ e : Fin 1024, heads (iblk m c 1 t) (iblk m c 2 t) (iblk m c 3 t) (iblk m c 4 t) (iblk m c 5 t) r e * iblk m c 8 t (ix3 0 e k))
      = ∑ e : Fin 1024, gheads (m ((c : Thread nD τ).loc main_arg1)) (m ((c : Thread nD τ).loc main_arg2)) (m ((c : Thread nD τ).loc main_arg3))
          (m ((c : Thread nD τ).loc main_arg4)) (m ((c : Thread nD τ).loc main_arg5)) R e * m ((c : Thread nD τ).loc main_arg8) (ix3 0 e k) := fun k =>
    Finset.sum_congr rfl fun e _ => congrArg₂ _ (heads_blk m c t r R hR e) (blk8 m c t e k)
  have h6 : View.ld (iblk m c 6 t : Vec Ideal S1x1x6144 .f32) (Rect.unit (s := S1x1x6144) ![0, 0, 2048] ![1, 1, 1024] (by decide)) (ix3 0 0 n)
      = m ((c : Thread nD τ).loc main_arg6) (ix3 (⟨R.val / 2048, by omega⟩ : Fin 8) 0 (⟨2048 + n.val, by omega⟩ : Fin 6144)) := by
    refine (View.ld_unit_apply_of _ _ _ _ _ (ix3 0 0 (⟨2048 + n.val, by omega⟩ : Fin 6144)) fun a => ?_).trans ?_
    · match a with
      | 0 => rfl
      | 1 => rfl
      | 2 => rfl
    · rw [blk6]; congr 2; exact Fin.ext hb.symm
  refine congrArg₂ _ ((blk0 m c t r n).trans ?_) (congrArg₂ _ (congrArg₂ _ h6 (blk7 m c t n)) (congrArg₂ _ (h8 n) (congrArg rms (funext h8))))
  congr 2; exact Fin.ext hR.symm

end Cert.Attn
-- ==== Proof.AttnRef.lean ====
/-
  The reference of the attention sublayer, read: under finite queries and keys its result is `attnG` of the arguments.

  Rows are numbered by the sequence `b` and the position `s` in it, heads by the key head `k` and the query head `g` of
  the key head's group.
-/
module

public import proofs.«01_k».proof.Proof.AttnSpec
public import proofs.«01_k».proof.Proof.Gen.ReferenceIdeal.Read

@[expose] public section

set_option maxRecDepth 16384

noncomputable section

namespace Cert.Attn

open Cert.ReferenceIdeal Cert.ReferenceIdeal.Gen Cert.ReferenceIdeal.Read Idealize.ShloMosaic Idealize.ShloMosaic.TcCoe

/-- The gate and the gain may be multiplied first. -/
theorem reorder (x g w y r : EReal) : x + g * (y * r * w) = x + g * w * (y * r) := by
  rw [mul_comm (y * r) w, mul_assoc]

/-- The zero word is zero. -/
theorem bits_zero : Ideal.ofBits FTy.f32 0x00000000#32 = (0 : EReal) := by
  simp [Ideal.ofBits, Ideal.ieee]

/-- A sum of reals is a real. -/
theorem sum_real {ι : Type*} (S : Finset ι) (f : ι → EReal) (h : ∀ i, ∃ r : ℝ, f i = r) : ∃ r : ℝ, ∑ i ∈ S, f i = r := by
  choose g hg using h
  exact ⟨∑ i ∈ S, g i, by rw [coe_sum]; exact Finset.sum_congr rfl fun i _ => hg i⟩

/-- A sum over the 2560 keys is the sum over the cached ones and over the two halves of the new ones. -/
theorem sum_keys {M : Type*} [AddCommMonoid M] (f : Fin 2560 → M) :
    ∑ i, f i = ∑ i : Fin 512, f ⟨i.val, by omega⟩ + ∑ i : Fin 1024, f ⟨512 + (0 + i.val), by omega⟩
      + ∑ i : Fin 1024, f ⟨512 + (1024 + i.val), by omega⟩ := by
  have h1 := Fin.sum_univ_add (a := 512) (b := 2048) f
  have h2 := Fin.sum_univ_add (a := 1024) (b := 1024) fun i => f (Fin.natAdd 512 i)
  rw [h1, h2, ← add_assoc]
  refine congrArg₂ _ (congrArg₂ _ rfl (Finset.sum_congr rfl fun i _ => congrArg f (Fin.ext ?_))) rfl
  simp

section
variable (X1 : FVec Ideal S16384x1024 .bf16) (X2 X3 : FVec Ideal S8x1x512x2x128 .f32) (X4 X5 : FVec Ideal S16384x256 .bf16)

theorem q_at (b : Fin 8) (s : Fin 2048) (k : Fin 2) (g : Fin 4) (e : Fin 128) :
    val_main_v8 (F := Ideal) X1 (ix5 b s k g e)
      = X1 (ix2 (⟨b.val * 2048 + s.val, by omega⟩ : Fin 16384) (⟨(k.val * 4 + g.val) * 128 + e.val, by omega⟩ : Fin 1024)) := by
  rw [val_main_v8_apply, val_main_v7_apply]
  refine congrArg X1 (funext fun a => Fin.ext ?_)
  match a with
  | ⟨0, _⟩ => dsimp [ix5, ix2]; omega
  | ⟨1, _⟩ => dsimp [ix5, ix2]; omega

theorem new_at (b : Fin 8) (j : Fin 2048) (k : Fin 2) (e : Fin 128) :
    val_main_v10 (F := Ideal) X4 (ix4 b j k e)
      = X4 (ix2 (⟨b.val * 2048 + j.val, by omega⟩ : Fin 16384) (⟨k.val * 128 + e.val, by omega⟩ : Fin 256)) := by
  rw [val_main_v10_apply, val_main_v9_apply]
  refine congrArg X4 (funext fun a => Fin.ext ?_)
  match a with
  | ⟨0, _⟩ => dsimp [ix4, ix2]; omega
  | ⟨1, _⟩ => dsimp [ix4, ix2]; omega

theorem old_at (b : Fin 8) (j : Fin 512) (k : Fin 2) (e : Fin 128) :
    val_main_v13 (F := Ideal) X2 (ix4 b j k e) = X2 (ix5 b 0 j k e) := by
  rw [val_main_v13_apply]
  refine congrArg X2 (funext fun a => Fin.ext ?_)
  match a with
  | ⟨0, _⟩ => dsimp [ix4, ix5]; omega
  | ⟨1, _⟩ => dsimp [ix4, ix5]; try omega
  | ⟨2, _⟩ => dsimp [ix4, ix5]; omega
  | ⟨3, _⟩ => dsimp [ix4, ix5]; omega
  | ⟨4, _⟩ => dsimp [ix4, ix5]; omega

theorem keys_old (b : Fin 8) (j : Fin 512) (k : Fin 2) (e : Fin 128) :
    val_main_v14 (F := Ideal) X2 X4 (ix4 b (⟨j.val, by omega⟩ : Fin 2560) k e) = X2 (ix5 b 0 j k e) := by
  unfold val_main_v14
  rw [concatenate_pair_apply_left (t := S8x2560x2x128) (s₁ := S8x512x2x128) (s₂ := S8x2048x2x128) 1 _ _ _ _ rfl (ix4 b j k e), old_at]
  intro a
  match a with
  | ⟨0, _⟩ => rfl
  | ⟨1, _⟩ => rfl
  | ⟨2, _⟩ => rfl
  | ⟨3, _⟩ => rfl

theorem keys_new (b : Fin 8) (j : Fin 2048) (k : Fin 2) (e : Fin 128) :
    val_main_v14 (F := Ideal) X2 X4 (ix4 b (⟨512 + j.val, by omega⟩ : Fin 2560) k e)
      = X4 (ix2 (⟨b.val * 2048 + j.val, by omega⟩ : Fin 16384) (⟨k.val * 128 + e.val, by omega⟩ : Fin 256)) := by
  unfold val_main_v14
  rw [concatenate_pair_apply_right (t := S8x2560x2x128) (s₁ := S8x512x2x128) (s₂ := S8x2048x2x128) 1 _ _ _ _ rfl rfl (ix4 b j k e), new_at]
  · intro a
    match a with
    | ⟨0, _⟩ => exact fun _ => rfl
    | ⟨1, _⟩ => exact fun h => absurd rfl h
    | ⟨2, _⟩ => exact fun _ => rfl
    | ⟨3, _⟩ => exact fun _ => rfl
  · exact Nat.add_comm _ _

/-- The values stand as the keys do. -/
theorem vals_eq : val_main_v16 (F := Ideal) X3 X5 = val_main_v14 (F := Ideal) X3 X5 := rfl

theorem score_at (b : Fin 8) (k : Fin 2) (g : Fin 4) (s : Fin 2048) (j : Fin 2560) :
    val_main_v18 (F := Ideal) X1 X2 X4 (ix5 b k g s j)
      = ∑ e : Fin 128, val_main_v14 (F := Ideal) X2 X4 (ix4 b j k e)
          * X1 (ix2 (⟨b.val * 2048 + s.val, by omega⟩ : Fin 16384) (⟨(k.val * 4 + g.val) * 128 + e.val, by omega⟩ : Fin 1024)) := by
  rw [val_main_v18_apply, val_main_v17_apply]
  refine Finset.sum_congr rfl fun e _ => ?_
  rw [← q_at X1]
  refine congrArg₂ _ (congrArg _ (funext fun a => Fin.ext ?_)) (congrArg _ (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

theorem score_old (b : Fin 8) (k : Fin 2) (g : Fin 4) (s : Fin 2048) (j : Fin 512) :
    val_main_v18 (F := Ideal) X1 X2 X4 (ix5 b k g s (⟨j.val, by omega⟩ : Fin 2560))
      = gsc1 X1 X2 ⟨b.val * 2048 + s.val, by omega⟩ ⟨k.val * 4 + g.val, by omega⟩ j := by
  rw [score_at]
  refine Finset.sum_congr rfl fun e _ => ?_
  rw [keys_old, mul_comm]
  refine congrArg₂ _ rfl (congrArg X2 (funext fun a => Fin.ext ?_))
  match a with
  | ⟨0, _⟩ => dsimp [ix5]; omega
  | ⟨1, _⟩ => rfl
  | ⟨2, _⟩ => rfl
  | ⟨3, _⟩ => dsimp [ix5]; omega
  | ⟨4, _⟩ => rfl

theorem score_new (o : ℕ) (ho : o ≤ 1024) (b : Fin 8) (k : Fin 2) (g : Fin 4) (s : Fin 2048) (j : Fin 1024) :
    val_main_v18 (F := Ideal) X1 X2 X4 (ix5 b k g s (⟨512 + (o + j.val), by omega⟩ : Fin 2560))
      = gsc2 X1 X4 o ho ⟨b.val * 2048 + s.val, by omega⟩ ⟨k.val * 4 + g.val, by omega⟩ j := by
  rw [score_at]
  refine Finset.sum_congr rfl fun e _ => ?_
  rw [keys_new X2 X4 b ⟨o + j.val, by omega⟩, mul_comm]
  refine congrArg₂ _ rfl (congrArg X4 (funext fun a => Fin.ext ?_))
  match a with
  | ⟨0, _⟩ => dsimp [ix2]; omega
  | ⟨1, _⟩ => dsimp [ix2]; omega

variable (h1 : ∀ i, ∃ r : ℝ, X1 i = (r : EReal)) (h2 : ∀ i, ∃ r : ℝ, X2 i = (r : EReal)) (h4 : ∀ i, ∃ r : ℝ, X4 i = (r : EReal))
include h1 h2 h4

theorem keys_real (b : Fin 8) (j : Fin 2560) (k : Fin 2) (e : Fin 128) :
    ∃ r : ℝ, val_main_v14 (F := Ideal) X2 X4 (ix4 b j k e) = (r : EReal) := by
  by_cases hj : j.val < 512
  · have := keys_old X2 X4 b ⟨j.val, hj⟩ k e
    exact this ▸ h2 _
  · have := keys_new X2 X4 b ⟨j.val - 512, by omega⟩ k e
    have he : (⟨512 + (j.val - 512), by omega⟩ : Fin 2560) = j := Fin.ext (by dsimp; omega)
    dsimp only at this
    rw [he] at this
    exact this ▸ h4 _

theorem score_real (b : Fin 8) (k : Fin 2) (g : Fin 4) (s : Fin 2048) (j : Fin 2560) :
    ∃ r : ℝ, val_main_v18 (F := Ideal) X1 X2 X4 (ix5 b k g s j) = (r : EReal) := by
  rw [score_at]
  refine sum_real _ _ fun e => ?_
  obtain ⟨p, hp⟩ := keys_real X1 X2 X4 h1 h2 h4 b j k e
  obtain ⟨q, hq⟩ := h1 (ix2 (⟨b.val * 2048 + s.val, by omega⟩ : Fin 16384) (⟨(k.val * 4 + g.val) * 128 + e.val, by omega⟩ : Fin 1024))
  exact ⟨p * q, by rw [hp, hq, EReal.coe_mul]⟩

omit h1 h2 h4 in
/-- The factor the scores are scaled by: the natural logarithm of two. -/
theorem scale_at (i : S8x2x4x2048x2560.Idx) : val_main_v21 (F := Ideal) i = ((Real.log 2 : ℝ) : EReal) := by
  rw [val_main_v21_apply]
  show Ideal.log (Ideal.ofBits FTy.f32 0x40000000#32) = _
  have : Ideal.ofBits FTy.f32 0x40000000#32 = ((2 : ℝ) : EReal) := by
    simp [Ideal.ofBits, Ideal.ieee]
    rw [← EReal.coe_mul]
    norm_num
  rw [this, Ideal.log_coe, if_neg (by norm_num)]

theorem scaled_real (b : Fin 8) (k : Fin 2) (g : Fin 4) (s : Fin 2048) (j : Fin 2560) :
    ∃ r : ℝ, val_main_v22 (F := Ideal) X1 X2 X4 (ix5 b k g s j) = (r : EReal) := by
  obtain ⟨r, hr⟩ := score_real X1 X2 X4 h1 h2 h4 b k g s j
  exact ⟨r * Real.log 2, by rw [val_main_v22_apply, hr, scale_at, EReal.coe_mul]; rfl⟩

/-- The largest scaled score of a row is a real. -/
theorem max_real (i : S8x2x4x2048.Idx) : ∃ M : ℝ, val_main_v25 (F := Ideal) X1 X2 X4 i = (M : EReal) := by
  have hall : ∀ i : S8x2x4x2048x2560.Idx, ∃ r : ℝ, val_main_v22 (F := Ideal) X1 X2 X4 i = (r : EReal) := fun i => by
    have he : i = ix5 (i 0) (i 1) (i 2) (i 3) (i 4) := by
      funext a
      match a with
      | ⟨0, _⟩ => rfl
      | ⟨1, _⟩ => rfl
      | ⟨2, _⟩ => rfl
      | ⟨3, _⟩ => rfl
      | ⟨4, _⟩ => rfl
    rw [he]
    exact scaled_real X1 X2 X4 h1 h2 h4 _ _ _ _ _
  choose f hf using hall
  have hr : ∃ M : ℝ, val_main_v23 (F := Ideal) X1 X2 X4 i = (M : EReal) := by
    have hd : S8x2x4x2048x2560.Reduces [4] S8x2x4x2048 := by decide
    obtain ⟨m, hm⟩ := fold_max_real (Finset.univ : Finset (Fin 2560)) Finset.univ_nonempty fun q => f (hd.lift i q)
    refine ⟨m, Eq.trans ?_ hm⟩
    unfold val_main_v23
    refine (Host.reduce_eq_fold_single (max : EReal → EReal → EReal) (val_main_v22 (F := Ideal) X1 X2 X4) (val_main_cst_0 (F := Ideal))
      reducesTo_S8x2x4x2048x2560_S8x2x4x2048_d4 hd h_S_ i).trans ?_
    exact congrArg₂ (fun (b : EReal) (v : Fin 2560 → EReal) => Finset.fold max b v Finset.univ) bits_bot (funext fun q => hf _)
  obtain ⟨M, hM⟩ := hr
  refine ⟨M, ?_⟩
  rw [val_main_v25_apply, hM, val_main_v24_apply]
  show max (Ideal.ofBits FTy.f32 4286578688#32) (M : EReal) = _
  rw [bits_bot]
  exact max_eq_right bot_le

/-- The attention output, from the reference. -/
theorem att_ref (b : Fin 8) (k : Fin 2) (d : Fin 128) (g : Fin 4) (s : Fin 2048) :
    val_main_v34 (F := Ideal) X1 X2 X3 X4 X5 (ix5 b k d g s)
      = gatt X1 X2 X3 X4 X5 ⟨b.val * 2048 + s.val, by omega⟩ ⟨k.val * 4 + g.val, by omega⟩ d := by
  have hs := score_real X1 X2 X4 h1 h2 h4 b k g s
  choose S hS using hs
  obtain ⟨M, hM⟩ := max_real X1 X2 X4 h1 h2 h4 (ix4 b k g s)
  have hw : ∀ j : Fin 2560, val_main_v29 (F := Ideal) X1 X2 X4 (ix5 b k g s j)
      = Ideal.exp ((S j : EReal) * ((Real.log 2 : ℝ) : EReal) - (M : EReal)) := fun j => by
    have hi : idx_main_v26 (idx_main_v27 (ix5 b k g s j)) = ix4 b k g s := funext fun a => by
      match a with
      | ⟨0, _⟩ => rfl
      | ⟨1, _⟩ => rfl
      | ⟨2, _⟩ => rfl
      | ⟨3, _⟩ => rfl
    rw [val_main_v29_apply, val_main_v28_apply, val_main_v22_apply, val_main_v27_apply, val_main_v26_apply, hi, hS, scale_at, hM]
    rfl
  have hden : ∀ j : Fin 2560, val_main_v32 (F := Ideal) X1 X2 X4 (ix5 b k g s j)
      = ∑ j, Ideal.exp ((S j : EReal) * ((Real.log 2 : ℝ) : EReal) - (M : EReal)) := fun j => by
    rw [val_main_v32_apply, val_main_v31_apply, val_main_v30_apply, val_main_cst_2_apply]
    have hz : (FloatOps.ofBits FTy.f32 0x00000000#32 : Ideal .f32) = (0 : EReal) := bits_zero
    rw [hz]
    refine (zero_add _).trans (Finset.sum_congr rfl fun q _ => ?_)
    rw [← hw q]
    refine congrArg _ (funext fun a => ?_)
    match a with
    | ⟨0, _⟩ => rfl
    | ⟨1, _⟩ => rfl
    | ⟨2, _⟩ => rfl
    | ⟨3, _⟩ => rfl
    | ⟨4, _⟩ => rfl
  have hprob : val_main_v34 (F := Ideal) X1 X2 X3 X4 X5 (ix5 b k d g s)
      = ∑ j : Fin 2560, val_main_v14 (F := Ideal) X3 X5 (ix4 b j k d)
        * Ideal.div (Ideal.exp ((S j : EReal) * ((Real.log 2 : ℝ) : EReal) - (M : EReal)))
          (∑ j, Ideal.exp ((S j : EReal) * ((Real.log 2 : ℝ) : EReal) - (M : EReal))) := by
    rw [val_main_v34_apply]
    refine Finset.sum_congr rfl fun j _ => ?_
    have hr : ridx_main_v34 (ix5 b k d g s) j = ix5 b k g s j := funext fun a => by
      match a with
      | ⟨0, _⟩ => rfl
      | ⟨1, _⟩ => rfl
      | ⟨2, _⟩ => rfl
      | ⟨3, _⟩ => rfl
      | ⟨4, _⟩ => rfl
    rw [hr, val_main_v33_apply, hw, hden, vals_eq]
    refine congrArg₂ (fun x y : EReal => x * y) (congrArg _ (funext fun a => ?_)) rfl
    match a with
    | ⟨0, _⟩ => rfl
    | ⟨1, _⟩ => rfl
    | ⟨2, _⟩ => rfl
    | ⟨3, _⟩ => rfl
  have hold : gsc1 X1 X2 ⟨b.val * 2048 + s.val, by omega⟩ ⟨k.val * 4 + g.val, by omega⟩
      = fun j : Fin 512 => (S ⟨j.val, by omega⟩ : EReal) := funext fun j => by
    rw [← hS, score_old]
  have hnew : ∀ (o : ℕ) (ho : o ≤ 1024), gsc2 X1 X4 o ho ⟨b.val * 2048 + s.val, by omega⟩ ⟨k.val * 4 + g.val, by omega⟩
      = fun j : Fin 1024 => (S ⟨512 + (o + j.val), by omega⟩ : EReal) := fun o ho => funext fun j => by
    rw [← hS, score_new X1 X2 X4 o ho]
  rw [hprob, whole_real, gatt, hold, hnew, hnew, online3_real, mean3, sum_keys, sum_keys fun j => ((pw (S j) : ℝ) : EReal) * _]
  have hv : ∀ (o : ℕ) (ho : o ≤ 1024) (j : Fin 1024), val_main_v14 (F := Ideal) X3 X5 (ix4 b (⟨512 + (o + j.val), by omega⟩ : Fin 2560) k d)
      = X5 (ix2 (⟨(b.val * 2048 + s.val) / 2048 * 2048 + (o + j.val), by omega⟩ : Fin 16384)
          (⟨(k.val * 4 + g.val) / 4 * 128 + d.val, by omega⟩ : Fin 256)) := fun o ho j => by
    rw [keys_new X3 X5 b ⟨o + j.val, by omega⟩]
    refine congrArg X5 (funext fun a => Fin.ext ?_)
    match a with
    | ⟨0, _⟩ => dsimp [ix2]; omega
    | ⟨1, _⟩ => dsimp [ix2]; omega
  have hv0 : ∀ j : Fin 512, val_main_v14 (F := Ideal) X3 X5 (ix4 b (⟨j.val, by omega⟩ : Fin 2560) k d)
      = X3 (ix5 (⟨(b.val * 2048 + s.val) / 2048, by omega⟩ : Fin 8) 0 j (⟨(k.val * 4 + g.val) / 4, by omega⟩ : Fin 2) d) := fun j => by
    rw [keys_old]
    refine congrArg X3 (funext fun a => Fin.ext ?_)
    match a with
    | ⟨0, _⟩ => dsimp [ix5]; omega
    | ⟨1, _⟩ => rfl
    | ⟨2, _⟩ => rfl
    | ⟨3, _⟩ => dsimp [ix5]; omega
    | ⟨4, _⟩ => rfl
  simp only [hv0, hv 0 (by decide), hv 1024 (by decide)]

/-- The heads side by side, from the reference. -/
theorem heads_ref (b : Fin 8) (s : Fin 2048) (e : Fin 1024) :
    val_main_v36 (F := Ideal) X1 X2 X3 X4 X5 (ix3 b s e) = gheads X1 X2 X3 X4 X5 ⟨b.val * 2048 + s.val, by omega⟩ e := by
  rw [val_main_v36_apply, val_main_v35_apply]
  have he : idx_main_v35 (idx_main_v36 (ix3 b s e))
      = ix5 b (⟨e.val / 512, by omega⟩ : Fin 2) (⟨e.val % 128, by omega⟩ : Fin 128) (⟨e.val / 128 % 4, by omega⟩ : Fin 4) s :=
    funext fun a => Fin.ext (by
      match a with
      | ⟨0, _⟩ => dsimp [ix3, ix5]; omega
      | ⟨1, _⟩ => dsimp [ix3, ix5]; omega
      | ⟨2, _⟩ => dsimp [ix3, ix5]; omega
      | ⟨3, _⟩ => dsimp [ix3, ix5]; omega
      | ⟨4, _⟩ => dsimp [ix3, ix5]; omega)
  rw [he, att_ref X1 X2 X3 X4 X5 h1 h2 h4, gheads]
  exact congrArg (fun h => gatt X1 X2 X3 X4 X5 _ h _) (Fin.ext (by dsimp; omega))

variable (X0 : FVec Ideal S16384x1024 .f32) (X6 : FVec Ideal S8x1x6144 .f32) (X7 : FVec Ideal S2x1024 .f32) (X8 : FVec Ideal S1x1024x1024 .f32)

/-- The projection of the heads, from the reference. -/
theorem proj_ref (b : Fin 8) (s : Fin 2048) (n : Fin 1024) :
    val_main_v38 (F := Ideal) X1 X2 X3 X4 X5 X8 (ix3 b s n)
      = ∑ e : Fin 1024, gheads X1 X2 X3 X4 X5 ⟨b.val * 2048 + s.val, by omega⟩ e * X8 (ix3 0 e n) := by
  rw [val_main_v38_apply]
  refine Finset.sum_congr rfl fun e _ => ?_
  rw [← heads_ref X1 X2 X3 X4 X5 h1 h2 h4, val_main_v37_apply]
  refine congrArg₂ (fun x y : EReal => x * y) (congrArg _ (funext fun a => ?_)) (congrArg _ (funext fun a => Fin.ext ?_))
  · match a with
    | ⟨0, _⟩ => rfl
    | ⟨1, _⟩ => rfl
    | ⟨2, _⟩ => rfl
  · match a with
    | ⟨0, _⟩ => dsimp [ix3]; try omega
    | ⟨1, _⟩ => dsimp [ix3]; omega
    | ⟨2, _⟩ => dsimp [ix3]; omega

/-- The norm's scale, from the reference. -/
theorem rms_ref (b : Fin 8) (s : Fin 2048) (n : Fin 1024) :
    val_main_v49 (F := Ideal) X1 X2 X3 X4 X5 X8 (ix3 b s n)
      = rms fun k => ∑ e : Fin 1024, gheads X1 X2 X3 X4 X5 ⟨b.val * 2048 + s.val, by omega⟩ e * X8 (ix3 0 e k) := by
  rw [val_main_v49_apply, val_main_v48_apply, val_main_v47_apply, val_main_v45_apply, val_main_v43_apply, val_main_v42_apply,
    val_main_cst_3_apply]
  have hz : (FloatOps.ofBits FTy.f32 0x00000000#32 : Ideal .f32) = (0 : EReal) := bits_zero
  have hsum : (FloatOps.ofBits FTy.f32 0x00000000#32 : Ideal .f32) + ∑ k : Fin 1024, val_main_v41 (F := Ideal) X1 X2 X3 X4 X5 X8
        (idx_main_v42 (idx_main_v43 (idx_main_v49 (ix3 b s n))) k)
      = ∑ k : Fin 1024, (∑ e : Fin 1024, gheads X1 X2 X3 X4 X5 ⟨b.val * 2048 + s.val, by omega⟩ e * X8 (ix3 0 e k))
        * (∑ e : Fin 1024, gheads X1 X2 X3 X4 X5 ⟨b.val * 2048 + s.val, by omega⟩ e * X8 (ix3 0 e k)) := by
    rw [hz]
    refine (zero_add _).trans (Finset.sum_congr rfl fun q _ => ?_)
    have he : idx_main_v42 (idx_main_v43 (idx_main_v49 (ix3 b s n))) q = ix3 b s q := funext fun a => by
      match a with
      | ⟨0, _⟩ => rfl
      | ⟨1, _⟩ => rfl
      | ⟨2, _⟩ => rfl
    rw [he, val_main_v41_apply, proj_ref X1 X2 X3 X4 X5 h1 h2 h4]
    rfl
  rw [hsum]
  rfl

/-- The reference's result is the sublayer in mathematics. -/
theorem out_ref (i : S16384x1024.Idx) :
    val_main_v57 (F := Ideal) X0 X1 X2 X3 X4 X5 X6 X7 X8 i = attnG X0 X1 X2 X3 X4 X5 X6 X7 X8 (i 0) (i 1) := by
  obtain ⟨R, n, rfl⟩ : ∃ (R : Fin 16384) (n : Fin 1024), i = ix2 R n := ⟨i 0, i 1, funext fun a => by
    match a with
    | ⟨0, _⟩ => rfl
    | ⟨1, _⟩ => rfl⟩
  have he : idx_main_v57 (ix2 R n) = ix3 (⟨R.val / 2048, by omega⟩ : Fin 8) (⟨R.val % 2048, by omega⟩ : Fin 2048) n :=
    funext fun a => Fin.ext (by
      match a with
      | ⟨0, _⟩ => dsimp [ix2, ix3]; omega
      | ⟨1, _⟩ => dsimp [ix2, ix3]; omega
      | ⟨2, _⟩ => dsimp [ix2, ix3]; omega)
  have hR : (⟨R.val / 2048 * 2048 + R.val % 2048, by omega⟩ : Fin 16384) = R := Fin.ext (by dsimp; omega)
  rw [val_main_v57_apply, he, val_main_v56_apply, val_main_v55_apply, val_main_v53_apply, val_main_v50_apply,
    rms_ref X1 X2 X3 X4 X5 h1 h2 h4, proj_ref X1 X2 X3 X4 X5 h1 h2 h4, val_main_v0_apply, val_main_v54_apply, val_main_v3_apply,
    val_main_v52_apply, val_main_v51_apply, val_main_v40_apply, val_main_v39_apply]
  dsimp only
  rw [hR]
  have e0 : idx_main_v0 (ix3 (⟨R.val / 2048, by omega⟩ : Fin 8) (⟨R.val % 2048, by omega⟩ : Fin 2048) n) = ix2 R n :=
    funext fun a => Fin.ext (by
      match a with
      | ⟨0, _⟩ => dsimp [ix2, ix3]; omega
      | ⟨1, _⟩ => dsimp [ix2, ix3]; omega)
  have e6 : idx_main_v3 (idx_main_v54 (ix3 (⟨R.val / 2048, by omega⟩ : Fin 8) (⟨R.val % 2048, by omega⟩ : Fin 2048) n))
      = ix3 (⟨R.val / 2048, by omega⟩ : Fin 8) 0 (⟨2048 + n.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e7 : idx_main_v39 (idx_main_v40 (idx_main_v51 (idx_main_v52 (ix3 (⟨R.val / 2048, by omega⟩ : Fin 8) (⟨R.val % 2048, by omega⟩ : Fin 2048) n))))
      = ix2 (1 : Fin 2) n := funext fun a => Fin.ext (by
    match a with
    | ⟨0, _⟩ => dsimp [ix2, ix3]; try omega
    | ⟨1, _⟩ => dsimp [ix2, ix3]; try omega)
  rw [e0, e6, e7]
  exact reorder _ _ _ _ _
end

end Cert.Attn
-- ==== Proof.AttnClaim.lean ====
/-
  The claims about the attention sublayer: the reference's frame, and that the kernel and the reference end with equal
  results when the queries and the keys are finite.
-/
module

public import proofs.«01_k».proof.Defs
public import proofs.«01_k».proof.Proof.AttnArray
public import proofs.«01_k».proof.Proof.AttnRef
public import proofs.«01_k».proof.Proof.Gen.KernelIdeal.Value
public import proofs.«01_k».proof.Proof.Gen.Pre_finite_scores

@[expose] public section

set_option maxRecDepth 16384

noncomputable section

namespace Cert.Attn

open Idealize.ShloMosaic Idealize.ShloMosaic.TcCoe Idealize.SL.Sem

/-- A value whose magnitude compares below infinity is a real. -/
theorem real_of_lt (x : EReal) (h : Ideal.cmp .olt (max x (-x)) (Ideal.ofBits FTy.f32 0x7F800000#32) = 1#1) : ∃ r : ℝ, x = r := by
  have ht : Ideal.ofBits FTy.f32 0x7F800000#32 = ⊤ := by simp [Ideal.ofBits, Ideal.ieee]
  rw [ht] at h
  induction x with
  | bot => simp [Ideal.cmp] at h
  | coe r => exact ⟨r, rfl⟩
  | top => simp [Ideal.cmp] at h

/-- The reference runs, keeps its arguments, and declares no semaphore. -/
theorem ref_frame : Cert.quiescent_ReferenceIdeal (hReferenceIdeal := Cert.ReferenceIdeal.Gen.facts) := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- From equal arguments the kernel and the reference end with equal results, for finite queries and keys. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  refine ⟨fun c => (Cert.KernelIdeal.Gen.dats m 0 c).arrAt 9 Cert.KernelIdeal.cfg0.N, Cert.KernelIdeal.Value.run_blocks m g, ?_⟩
  refine (θ_run (Cert.ReferenceIdeal.defs (F := Ideal)) _ _).mono (fun r h c => ?_) (Cert.ReferenceIdeal.Value.run (F := Ideal) m' g')
  obtain ⟨hv, hk⟩ := h c
  refine ⟨hv.trans ?_, hk⟩
  obtain ⟨a0, a1, a2, a3, a4, a5, a6, a7, a8⟩ := hargs c
  obtain ⟨p1, p2, p4⟩ := hpre c
  rw [Cert.ReferenceIdeal.Read.val_main_v57_eq, a0, a1, a2, a3, a4, a5, a6, a7, a8]
  refine Eq.trans (funext fun i => ?_) (arr_eq m c).symm
  exact out_ref _ _ _ _ _ (fun i => real_of_lt _ (congrFun p1 i)) (fun i => real_of_lt _ (congrFun p2 i))
    (fun i => real_of_lt _ (congrFun p4 i)) _ _ _ _ i

end Cert.Attn
-- ==== Proof.FfnChunk.lean ====
/-
  The arithmetic of one chunk of 256 hidden columns of the feed-forward kernel: two up-projections of the normalized
  rows, the three-tap convolution of each along the rows, the gated activation. `act` is that arithmetic; the body
  repeats it for eleven chunks, with its intermediate values cut at different places, and `pay20_eq` … `pay100_eq` say
  that each printed copy is `act` of its loads. `act_apply` reads it at an index.
-/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.Ffn1

open Cert.FfnIdeal Cert.FfnIdeal.Gen Idealize.ShloMosaic Idealize.ShloMosaic.TcCoe Idealize.SL.Sem

/-- One chunk's activation: `f0 f1` the factors of the rows before and after the tile, `m0 m1` the first-row and last-row
    masks, `U` the normalized rows and the halo rows, `wg wu` the up-projections, `kg ku` the taps. -/
def act (f0 f1 : Ideal .f32) (m0 m1 : IVec S1024x256 1) (U : FVec Ideal S1040x1024 .bf16) (wg wu : FVec Ideal S1x1024x256 .bf16)
    (kg ku : FVec Ideal S1x3x256 .f32) : FVec Ideal S1024x256 .bf16 :=
  let g : FVec Ideal S1024x256 .f32 := k0_pay15 f0 f1 m0 m1 (k0_pay13 U wg) kg
  let u : FVec Ideal S1024x256 .f32 := k0_pay15 f0 f1 m0 m1 (k0_pay13 U wu) ku
  let one : FVec Ideal S1024x256 .f32 := broadcast S1024x256 (Scalar.ofBits .f32 0x3F800000#32)
  let s : FVec Ideal S1024x256 .f32 := divf one (addf one (exp (subf (broadcast S1024x256 (Scalar.ofBits .f32 0x00000000#32)) g)))
  shapeCast S1024x256 (truncf .bf16 (mulf (mulf g s) u) bitsLt_bf16_f32) shapeCasts_S1024x256_S1024x256

section
variable (f0 f1 : Ideal .f32) (m0 m1 : IVec S1024x256 1) (U : FVec Ideal S1040x1024 .bf16) (wg wu : FVec Ideal S1x1024x256 .bf16)
    (kg ku : FVec Ideal S1x3x256 .f32)

theorem pay20_eq : k0_pay20 (k0_pay15 f0 f1 m0 m1 (k0_pay13 U wg) kg) (k0_pay16 ku) (k0_pay18 f1 m1 (k0_pay14 U wu)) (k0_pay19 f0 m0 (k0_pay14 U wu) ku)
    = act f0 f1 m0 m1 U wg wu kg ku := rfl

theorem pay29_eq : k0_pay29 (k0_pay27 f0 f1 m0 m1 (k0_pay22 U wu) ku) (k0_pay28 m1 (k0_pay23 kg) (k0_pay24 U wg) (k0_pay25 f1 U wg) (k0_pay26 f0 m0 U wg))
    = act f0 f1 m0 m1 U wg wu kg ku := rfl

theorem pay36_eq : k0_pay36 f0 f1 m0 m1 (k0_pay31 U wu) (k0_pay34 f0 m0 U wg kg) (k0_pay35 f1 m1 U wg kg) ku
    = act f0 f1 m0 m1 U wg wu kg ku := rfl

theorem pay44_eq : k0_pay44 m0 m1 (k0_pay38 f0 f1 m0 m1 U wg kg) (k0_pay39 ku) (k0_pay40 U wu) (k0_pay41 f0 U wu) (k0_pay42 f1 U wu) (k0_pay43 U wu)
    = act f0 f1 m0 m1 U wg wu kg ku := rfl

theorem pay52_eq : k0_pay52 (k0_pay47 f0 f1 m0 m1 (k0_pay45 U wg) kg) (k0_pay48 ku) (k0_pay50 f1 m1 (k0_pay46 U wu)) (k0_pay51 f0 m0 (k0_pay46 U wu) ku)
    = act f0 f1 m0 m1 U wg wu kg ku := rfl

theorem pay61_eq : k0_pay61 (k0_pay59 f0 f1 m0 m1 (k0_pay54 U wu) ku) (k0_pay60 m1 (k0_pay55 kg) (k0_pay56 U wg) (k0_pay57 f1 U wg) (k0_pay58 f0 m0 U wg))
    = act f0 f1 m0 m1 U wg wu kg ku := rfl

theorem pay68_eq : k0_pay68 f0 f1 m0 m1 (k0_pay63 U wu) (k0_pay66 f0 m0 U wg kg) (k0_pay67 f1 m1 U wg kg) ku
    = act f0 f1 m0 m1 U wg wu kg ku := rfl

theorem pay76_eq : k0_pay76 m0 m1 (k0_pay70 f0 f1 m0 m1 U wg kg) (k0_pay71 ku) (k0_pay72 U wu) (k0_pay73 f0 U wu) (k0_pay74 f1 U wu) (k0_pay75 U wu)
    = act f0 f1 m0 m1 U wg wu kg ku := rfl

theorem pay84_eq : k0_pay84 (k0_pay79 f0 f1 m0 m1 (k0_pay77 U wg) kg) (k0_pay80 ku) (k0_pay82 f1 m1 (k0_pay78 U wu)) (k0_pay83 f0 m0 (k0_pay78 U wu) ku)
    = act f0 f1 m0 m1 U wg wu kg ku := rfl

theorem pay93_eq : k0_pay93 (k0_pay91 f0 f1 m0 m1 (k0_pay86 U wu) ku) (k0_pay92 m1 (k0_pay87 kg) (k0_pay88 U wg) (k0_pay89 f1 U wg) (k0_pay90 f0 m0 U wg))
    = act f0 f1 m0 m1 U wg wu kg ku := rfl

theorem pay100_eq : k0_pay100 f0 f1 m0 m1 (k0_pay95 U wu) (k0_pay98 f0 m0 U wg kg) (k0_pay99 f1 m1 U wg kg) ku
    = act f0 f1 m0 m1 U wg wu kg ku := rfl

end

/-- The mask that holds at the tile's first row. -/
theorem mask0 (r : Fin 1024) (n : Fin 256) : (k0_pay11 (ix2 r n) : BitVec 1) = if r.val = 0 then 1#1 else 0#1 := by
  have h : ∀ r : Fin 1024, IntOp.cmpi .eq (IntOp.remsi .vector (BitVec.ofNat 32 r.val) 1024#32) 0#32 = if r.val = 0 then 1#1 else 0#1 := by decide +kernel
  rw [← h r]
  unfold k0_pay11 k0_pay10
  pointwise

/-- The mask that holds at the tile's last row. -/
theorem mask1 (r : Fin 1024) (n : Fin 256) : (k0_pay12 (ix2 r n) : BitVec 1) = if r.val = 1023 then 1#1 else 0#1 := by
  have h : ∀ r : Fin 1024, IntOp.cmpi .eq (IntOp.remsi .vector (BitVec.ofNat 32 r.val) 1024#32) 1023#32 = if r.val = 1023 then 1#1 else 0#1 := by decide +kernel
  rw [← h r]
  unfold k0_pay12 k0_pay10
  pointwise

/-- The three-tap convolution along the rows of a tile whose halo rows are 1031 (before) and 1032 (after). -/
def conv (f0 f1 : EReal) (H : Fin 1040 → EReal) (k : Fin 3 → EReal) (r : Fin 1024) : EReal :=
  (if r.val = 0 then H 1031 * f0 else H ⟨r.val - 1, by omega⟩) * k 0 + H ⟨r.val, by omega⟩ * k 1
    + (if r.val = 1023 then H 1032 * f1 else H ⟨r.val + 1, by omega⟩) * k 2

theorem conv_apply (f0 f1 : Ideal .f32) (H : FVec Ideal S1040x256 .f32) (k : FVec Ideal S1x3x256 .f32) (r : Fin 1024) (n : Fin 256) :
    k0_pay15 f0 f1 k0_pay11 k0_pay12 H k (ix2 r n) = conv f0 f1 (fun x => H (ix2 x n)) (fun a => k (ix3 0 a n)) r := by
  unfold k0_pay15
  pointwise
  rw [mask0, mask1]
  unfold conv
  refine congrArg₂ _ (congrArg₂ _ (congrArg₂ _ ?_ rfl) rfl) (congrArg₂ _ ?_ rfl)
  · by_cases h : r.val = 0
    · rw [if_pos h, if_pos h]; rfl
    · rw [if_neg h, if_neg h]
      refine congrArg (fun x : Fin 1040 => H (ix2 x n)) (Fin.ext ?_)
      show (r.val + 1024 - 1) % 1024 = r.val - 1
      omega
  · by_cases h : r.val = 1023
    · rw [if_pos h, if_pos h]; rfl
    · rw [if_neg h, if_neg h]
      refine congrArg (fun x : Fin 1040 => H (ix2 x n)) (Fin.ext ?_)
      show (r.val + 1024 - 1023) % 1024 = r.val + 1
      omega

/-- One row of an up-projection. -/
theorem up_apply (U : FVec Ideal S1040x1024 .bf16) (w : FVec Ideal S1x1024x256 .bf16) (r : Fin 1040) (n : Fin 256) :
    (k0_pay13 (F := Ideal) U w (ix2 r n) : EReal) = ∑ e : Fin 1024, (U (ix2 r e) : EReal) * w (ix3 0 e n) := by
  unfold k0_pay13
  pointwise [dot_S1040x1024_S1024x256_S1040x256_1_0_0_1_n_n]

/-- The gated activation of a gate and an up value. -/
def gated (g u : EReal) : EReal :=
  g * Ideal.div 1 (1 + Ideal.exp (0 - g)) * u

/-- One chunk read at an index. -/
theorem act_apply (f0 f1 : Ideal .f32) (U : FVec Ideal S1040x1024 .bf16) (wg wu : FVec Ideal S1x1024x256 .bf16)
    (kg ku : FVec Ideal S1x3x256 .f32) (r : Fin 1024) (n : Fin 256) :
    act f0 f1 k0_pay11 k0_pay12 U wg wu kg ku (ix2 r n)
      = gated (conv f0 f1 (fun x => ∑ e : Fin 1024, (U (ix2 x e) : EReal) * wg (ix3 0 e n)) (fun a => kg (ix3 0 a n)) r)
          (conv f0 f1 (fun x => ∑ e : Fin 1024, (U (ix2 x e) : EReal) * wu (ix3 0 e n)) (fun a => ku (ix3 0 a n)) r) := by
  have hg := conv_apply f0 f1 (k0_pay13 U wg) kg r n
  have hu := conv_apply f0 f1 (k0_pay13 U wu) ku r n
  simp only [up_apply] at hg hu
  rw [← hg, ← hu]
  unfold act
  generalize k0_pay15 f0 f1 k0_pay11 k0_pay12 (k0_pay13 U wg) kg = G
  generalize k0_pay15 f0 f1 k0_pay11 k0_pay12 (k0_pay13 U wu) ku = V
  pointwise
  rfl

end Cert.Ffn1
-- ==== Proof.FfnBody.lean ====
/-
  What one grid point of the feed-forward kernel writes: 1024 rows of the hidden state. `outVal` is that block in
  mathematics, and `out_apply` reads the body's block as it.
-/
module

public import proofs.«01_k».proof.Proof.FfnChunk
public import proofs.«01_k».proof.Proof.AttnSpec

@[expose] public section

set_option maxRecDepth 16384

noncomputable section

namespace Cert.Ffn1

open Cert.FfnIdeal Cert.FfnIdeal.Gen Idealize.ShloMosaic Idealize.ShloMosaic.TcCoe Idealize.SL.Sem
open Cert.Attn (rms)

/-- A row normalized and modulated. -/
def urow (x g sc sh : Fin 1024 → EReal) (e : Fin 1024) : EReal := x e * rms x * (g e * (1 + sc e)) + sh e

/-- The tile's rows and its two blocks of halo rows, as the scratch stacks them. -/
def blkrow (x0 : Vec Ideal S8x1024 .f32) (x1 : Vec Ideal S1024x1024 .f32) (x2 : Vec Ideal S8x1024 .f32) (r : Fin 1040) (e : Fin 1024) : EReal :=
  if h : r.val < 1024 then x1 (ix2 ⟨r.val, h⟩ e)
  else if h' : r.val < 1032 then x0 (ix2 ⟨r.val - 1024, by omega⟩ e) else x2 (ix2 ⟨r.val - 1032, by omega⟩ e)

theorem pay7_at (sh sc g : Vec Ideal S1x1x1024 .f32) (x1 : Vec Ideal S1024x1024 .f32) (r e : Fin 1024) :
    (k0_pay7 (F := Ideal) (k0_pay2 sh) (k0_pay3 sc g) x1 (k0_pay5 x1) k0_pay6 (ix2 r e) : EReal)
      = urow (fun k => x1 (ix2 r k)) (fun k => g (ix3 0 0 k)) (fun k => sc (ix3 0 0 k)) (fun k => sh (ix3 0 0 k)) e := by
  unfold k0_pay7 k0_pay2 k0_pay3 k0_pay5 k0_pay6
  pointwise
  rfl

theorem pay4_at (sh sc g : Vec Ideal S1x1x1024 .f32) (x0 x2 : Vec Ideal S8x1024 .f32) (r : Fin 16) (e : Fin 1024) :
    (k0_pay4 (F := Ideal) sh sc g x0 x2 (ix2 r e) : EReal)
      = urow (fun k => if h : r.val < 8 then x0 (ix2 ⟨r.val, h⟩ k) else x2 (ix2 ⟨r.val - 8, by omega⟩ k)) (fun k => g (ix3 0 0 k)) (fun k => sc (ix3 0 0 k)) (fun k => sh (ix3 0 0 k)) e := by
  have hX : ∀ k : Fin 1024, concatenate S16x1024 0 [⟨S8x1024, x0⟩, ⟨S8x1024, x2⟩] concatenates_S8x1024_S8x1024_S16x1024_d0 (ix2 r k)
      = if h : r.val < 8 then x0 (ix2 ⟨r.val, h⟩ k) else x2 (ix2 ⟨r.val - 8, by omega⟩ k) := by
    intro k
    pointwise
  unfold k0_pay4 k0_pay2 k0_pay3
  simp only [← hX]
  generalize concatenate S16x1024 0 [⟨S8x1024, x0⟩, ⟨S8x1024, x2⟩] concatenates_S8x1024_S8x1024_S16x1024_d0 = X
  pointwise
  rfl

/-- The scratch of normalized rows as each chunk loads it. -/
def ubuf (sh sc g : Vec Ideal S1x1x1024 .f32) (x0 : Vec Ideal S8x1024 .f32) (x1 : Vec Ideal S1024x1024 .f32) (x2 : Vec Ideal S8x1024 .f32) :
    FVec Ideal S1040x1024 .bf16 :=
  View.readCov (Val := Elt Ideal) scM0_0.view
    [⟨Rect.unit (s := S1040x1024) ![0, 0] ![1024, 1024] inb_S1040x1024_S1024x1024_0_0, k0_pay7 (F := Ideal) (k0_pay2 sh) (k0_pay3 sc g) x1 (k0_pay5 x1) k0_pay6⟩,
      ⟨Rect.unit (s := S1040x1024) ![1024, 0] ![16, 1024] inb_S1040x1024_S16x1024_1024_0, k0_pay4 (F := Ideal) sh sc g x0 x2⟩]
    (Rect.unit (s := S1040x1024) ![0, 0] ![1040, 1024] inb_S1040x1024_S1040x1024_0_0).toLoadRect

theorem ubuf_at (sh sc g : Vec Ideal S1x1x1024 .f32) (x0 : Vec Ideal S8x1024 .f32) (x1 : Vec Ideal S1024x1024 .f32) (x2 : Vec Ideal S8x1024 .f32)
    (r : Fin 1040) (e : Fin 1024) :
    ubuf sh sc g x0 x1 x2 (ix2 r e) = urow (blkrow x0 x1 x2 r) (fun k => g (ix3 0 0 k)) (fun k => sc (ix3 0 0 k)) (fun k => sh (ix3 0 0 k)) e := by
  unfold ubuf
  rw [View.readCov_eq_canon']
  beta_reduce
  have hr : (Rect.unit (s := S1040x1024) ![0, 0] ![1040, 1024] inb_S1040x1024_S1040x1024_0_0).toLoadRect.idx (ix2 r e) = ix2 r e := by
    funext k
    apply Fin.ext
    match k with
    | 0 => exact (Rect.idx_unit_val _ _ _ _ _).trans (Nat.zero_add _)
    | 1 => exact (Rect.idx_unit_val _ _ _ _ _).trans (Nat.zero_add _)
  rw [hr]
  canon_tiles x h using (View.cover_of_tiledBy _ ![16, 1024] (by sl_kernel_rfl) _)
  case piece0 =>
    have h0' : r.val = (x 0).val := h0
    have h1' : e.val = (x 1).val := h1
    have hx : x = ix2 (⟨r.val, by omega⟩ : Fin 1024) e := by
      funext a
      apply Fin.ext
      match a with
      | 0 => show (x 0).val = r.val; omega
      | 1 => show (x 1).val = e.val; omega
    rw [hx, pay7_at]
    refine congrArg (fun X => urow X _ _ _ e) (funext fun k => ?_)
    unfold blkrow
    rw [dif_pos]
  case piece1 =>
    have h0' : r.val = 1024 + (x 0).val := h0
    have h1' : e.val = (x 1).val := h1
    have hx : x = ix2 (⟨r.val - 1024, by omega⟩ : Fin 16) e := by
      funext a
      apply Fin.ext
      match a with
      | 0 => show (x 0).val = r.val - 1024; omega
      | 1 => show (x 1).val = e.val; omega
    rw [hx, pay4_at]
    refine congrArg (fun X => urow X _ _ _ e) (funext fun k => ?_)
    unfold blkrow
    have h1024 : ¬ r.val < 1024 := by omega
    rw [dif_neg h1024]
    by_cases hlt : r.val < 1032
    · rw [dif_pos hlt, dif_pos (show r.val - 1024 < 8 by omega)]
    · rw [dif_neg hlt, dif_neg (show ¬ r.val - 1024 < 8 by omega)]
      refine congrArg (fun y : Fin 8 => x2 (ix2 y k)) (Fin.ext ?_)
      show r.val - 1024 - 8 = r.val - 1032
      omega

section
variable (x0 : Vec Ideal S8x1024 .f32) (x1 : Vec Ideal S1024x1024 .f32) (x2 : Vec Ideal S8x1024 .f32) (g sc sh : Fin 1024 → EReal)
  (x6 : Vec Ideal S1x1024x5632 .bf16) (x7 : Vec Ideal S1x3x5632 .f32) (f0 f1 : EReal)

/-- One hidden column of the up-projection at a row of the stacked rows. -/
def bh (n : Fin 5632) (r : Fin 1040) : EReal := ∑ e : Fin 1024, urow (blkrow x0 x1 x2 r) g sc sh e * x6 (ix3 0 e n)

/-- One hidden column after the convolution. -/
def bconv (n : Fin 5632) (r : Fin 1024) : EReal := conv f0 f1 (bh x0 x1 x2 g sc sh x6 n) (fun a => x7 (ix3 0 a n)) r

/-- The activation: the gate column and the up column half the hidden width further. -/
def bact (r : Fin 1024) (j : Fin 2816) : EReal :=
  gated (bconv x0 x1 x2 g sc sh x6 x7 f0 f1 ⟨j.val, by omega⟩ r) (bconv x0 x1 x2 g sc sh x6 x7 f0 f1 ⟨2816 + j.val, by omega⟩ r)

/-- One store into the activation scratch: columns from `o`. -/
theorem piece_at (U : FVec Ideal S1040x1024 .bf16) (hU : ∀ r e, U (ix2 r e) = urow (blkrow x0 x1 x2 r) g sc sh e) (o o' : ℕ) (ho' : o' = 2816 + o)
    (i6 : ∀ a, ![0, 0, o] a + ![1, 1024, 256] a ≤ S1x1024x5632.size a) (i6' : ∀ a, ![0, 0, o'] a + ![1, 1024, 256] a ≤ S1x1024x5632.size a)
    (i7 : ∀ a, ![0, 0, o] a + ![1, 3, 256] a ≤ S1x3x5632.size a) (i7' : ∀ a, ![0, 0, o'] a + ![1, 3, 256] a ≤ S1x3x5632.size a)
    (x : S1024x256.Idx) (r : Fin 1024) (j : Fin 2816) (hr : r.val = (x 0).val) (hj : j.val = o + (x 1).val) :
    act f0 f1 k0_pay11 k0_pay12 U (View.ld x6 (Rect.unit ![0, 0, o] ![1, 1024, 256] i6)) (View.ld x6 (Rect.unit ![0, 0, o'] ![1, 1024, 256] i6'))
      (View.ld x7 (Rect.unit ![0, 0, o] ![1, 3, 256] i7)) (View.ld x7 (Rect.unit ![0, 0, o'] ![1, 3, 256] i7')) x
      = bact x0 x1 x2 g sc sh x6 x7 f0 f1 r j := by
  subst ho'
  obtain ⟨l, hl⟩ : ∃ l : Fin 256, l = x 1 := ⟨_, rfl⟩
  have hx : x = ix2 r l := by
    funext a
    apply Fin.ext
    match a with
    | 0 => exact hr.symm
    | 1 => exact (congrArg Fin.val hl).symm
  have hj' : j.val = o + l.val := hj.trans (by rw [hl])
  have ld6 : ∀ (p : ℕ) (i : ∀ a, ![0, 0, p] a + ![1, 1024, 256] a ≤ S1x1024x5632.size a) (e : Fin 1024) (n : Fin 5632), n.val = p + l.val →
      View.ld x6 (Rect.unit ![0, 0, p] ![1, 1024, 256] i) (ix3 0 e l) = x6 (ix3 0 e n) := fun p i e n hn =>
    View.ld_unit_apply_of _ _ _ _ _ _ fun a => by
      match a with
      | 0 => rfl
      | 1 => exact (Nat.zero_add _).symm
      | 2 => exact hn
  have ld7 : ∀ (p : ℕ) (i : ∀ a, ![0, 0, p] a + ![1, 3, 256] a ≤ S1x3x5632.size a) (e : Fin 3) (n : Fin 5632), n.val = p + l.val →
      View.ld x7 (Rect.unit ![0, 0, p] ![1, 3, 256] i) (ix3 0 e l) = x7 (ix3 0 e n) := fun p i e n hn =>
    View.ld_unit_apply_of _ _ _ _ _ _ fun a => by
      match a with
      | 0 => rfl
      | 1 => exact (Nat.zero_add _).symm
      | 2 => exact hn
  rw [hx, act_apply]
  unfold bact bconv bh
  simp only [hU]
  refine congrArg₂ gated (congrArg₂ (fun H k => conv f0 f1 H k r) (funext fun y => Finset.sum_congr rfl fun e _ => congrArg _ ?_) (funext fun a => ?_))
    (congrArg₂ (fun H k => conv f0 f1 H k r) (funext fun y => Finset.sum_congr rfl fun e _ => congrArg _ ?_) (funext fun a => ?_))
  · exact ld6 _ _ e _ hj'
  · exact ld7 _ _ a _ hj'
  · exact ld6 _ _ e _ (by show 2816 + j.val = _; omega)
  · exact ld7 _ _ a _ (by show 2816 + j.val = _; omega)

end

/-- The down-projection, the norm, the gate and the residual, from the activation. -/
def outVal (x1 : Vec Ideal S1024x1024 .f32) (gate gp : Vec Ideal S1x1x1024 .f32) (x8 : Vec Ideal S1x2816x1024 .bf16)
    (o : Fin 1024 → Fin 2816 → EReal) (r n : Fin 1024) : EReal :=
  x1 (ix2 r n) + gate (ix3 0 0 n) * gp (ix3 0 0 n) * ((∑ e : Fin 2816, o r e * x8 (ix3 0 e n)) * rms fun k => ∑ e : Fin 2816, o r e * x8 (ix3 0 e k))

theorem finish (A : Vec Ideal S1024x2816 .bf16) (o : Fin 1024 → Fin 2816 → EReal) (hA : ∀ r e, A (ix2 r e) = o r e)
    (x1 : Vec Ideal S1024x1024 .f32) (gate gp : Vec Ideal S1x1x1024 .f32) (x8 : Vec Ideal S1x2816x1024 .bf16) (r n : Fin 1024) :
    (k0_pay1 (F := Ideal) A x8 gate x1 gp (ix2 r n) : EReal) = outVal x1 gate gp x8 o r n := by
  unfold k0_pay1
  pointwise [dot_S1024x2816_S2816x1024_S1024x1024_1_0_0_1_n_n]
  simp only [hA]
  rfl

theorem out_apply (c : Dev nD) (t : Fin cfg0.N)
    (x0 : Vec Ideal S8x1024 .f32) (x1 : Vec Ideal S1024x1024 .f32) (x2 : Vec Ideal S8x1024 .f32) (x3 : Vec Ideal S1x1x6144 .f32)
    (x4 x5 : Vec Ideal S1x1x1024 .f32) (x6 : Vec Ideal S1x1024x5632 .bf16) (x7 : Vec Ideal S1x3x5632 .f32) (x8 : Vec Ideal S1x2816x1024 .bf16) (r n : Fin 1024) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) x0 x1 x2 x3 x4 x5 x6 x7 x8 (ix2 r n)
      = outVal x1 (View.ld x3 (Rect.unit ![0, 0, 5120] ![1, 1, 1024] (by decide))) x5 x8
          (bact x0 x1 x2 (fun k => x4 (ix3 0 0 k)) (fun k => View.ld x3 (Rect.unit (s := S1x1x6144) ![0, 0, 4096] ![1, 1, 1024] (by decide)) (ix3 0 0 k))
            (fun k => View.ld x3 (Rect.unit (s := S1x1x6144) ![0, 0, 3072] ![1, 1, 1024] (by decide)) (ix3 0 0 k)) x6 x7
            (k0_pay8 (F := Ideal) (BitVec.ofNat 32 (grid0.coords t 0).val)) (k0_pay9 (F := Ideal) (BitVec.ofNat 32 (grid0.coords t 0).val))) r n := by
  unfold out0_A_9
  rw [View.read_writes_eq_canon _ _ _ (cover0_A_9 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp (disch := decide) only [View.canon_cons_unit_lit, View.ld_unit_lit]
  refine finish _ _ ?_ _ _ _ _ r n
  intro r e
  rw [View.readCov_eq_canon']
  beta_reduce
  have hr : (Rect.unit (s := S1024x2816) ![0, 0] ![1024, 2816] inb_S1024x2816_S1024x2816_0_0).toLoadRect.idx (ix2 r e) = ix2 r e := by
    funext k
    apply Fin.ext
    match k with
    | 0 => exact (Rect.idx_unit_val _ _ _ _ _).trans (Nat.zero_add _)
    | 1 => exact (Rect.idx_unit_val _ _ _ _ _).trans (Nat.zero_add _)
  rw [hr]
  simp only [pay20_eq, pay29_eq, pay36_eq, pay44_eq, pay52_eq, pay61_eq, pay68_eq, pay76_eq, pay84_eq, pay93_eq, pay100_eq]
  canon_tiles x h
  case piece0 => exact piece_at x0 x1 x2 _ _ _ x6 x7 _ _ _ (ubuf_at _ _ x4 x0 x1 x2) 2560 5376 rfl _ _ _ _ x r e h0 h1
  case piece1 => exact piece_at x0 x1 x2 _ _ _ x6 x7 _ _ _ (ubuf_at _ _ x4 x0 x1 x2) 2304 5120 rfl _ _ _ _ x r e h0 h1
  case piece2 => exact piece_at x0 x1 x2 _ _ _ x6 x7 _ _ _ (ubuf_at _ _ x4 x0 x1 x2) 2048 4864 rfl _ _ _ _ x r e h0 h1
  case piece3 => exact piece_at x0 x1 x2 _ _ _ x6 x7 _ _ _ (ubuf_at _ _ x4 x0 x1 x2) 1792 4608 rfl _ _ _ _ x r e h0 h1
  case piece4 => exact piece_at x0 x1 x2 _ _ _ x6 x7 _ _ _ (ubuf_at _ _ x4 x0 x1 x2) 1536 4352 rfl _ _ _ _ x r e h0 h1
  case piece5 => exact piece_at x0 x1 x2 _ _ _ x6 x7 _ _ _ (ubuf_at _ _ x4 x0 x1 x2) 1280 4096 rfl _ _ _ _ x r e h0 h1
  case piece6 => exact piece_at x0 x1 x2 _ _ _ x6 x7 _ _ _ (ubuf_at _ _ x4 x0 x1 x2) 1024 3840 rfl _ _ _ _ x r e h0 h1
  case piece7 => exact piece_at x0 x1 x2 _ _ _ x6 x7 _ _ _ (ubuf_at _ _ x4 x0 x1 x2) 768 3584 rfl _ _ _ _ x r e h0 h1
  case piece8 => exact piece_at x0 x1 x2 _ _ _ x6 x7 _ _ _ (ubuf_at _ _ x4 x0 x1 x2) 512 3328 rfl _ _ _ _ x r e h0 h1
  case piece9 => exact piece_at x0 x1 x2 _ _ _ x6 x7 _ _ _ (ubuf_at _ _ x4 x0 x1 x2) 256 3072 rfl _ _ _ _ x r e h0 h1
  case piece10 => exact piece_at x0 x1 x2 _ _ _ x6 x7 _ _ _ (ubuf_at _ _ x4 x0 x1 x2) 0 2816 rfl _ _ _ _ x r e h0 (h1.trans (Nat.zero_add _).symm)

end Cert.Ffn1
-- ==== Proof.FfnSpec.lean ====
/-
  The feed-forward sublayer in mathematics, from the arguments: both the kernel's array and the reference's result are
  read as `ffnG`.
-/
module

public import proofs.«01_k».proof.Proof.FfnBody

@[expose] public section

set_option maxRecDepth 16384

noncomputable section

namespace Cert.Ffn1

open Cert.FfnIdeal Idealize.ShloMosaic
open Cert.Attn (rms)

section
variable (A0 : FVec Ideal S16384x1024 .f32) (A1 : FVec Ideal S8x1x6144 .f32) (A2 : FVec Ideal S2x1024 .f32)
  (A4 : FVec Ideal S1024x5632 .bf16) (A5 : FVec Ideal S2x3x5632 .f32) (A6 : FVec Ideal S2816x1024 .bf16)

/-- Row `R` normalized, with its sequence's scale and shift. -/
def gu (R : Fin 16384) (e : Fin 1024) : EReal :=
  urow (fun k => A0 (ix2 R k)) (fun k => A2 (ix2 (1 : Fin 2) k))
    (fun k => A1 (ix3 (⟨R.val / 2048, by omega⟩ : Fin 8) 0 (⟨4096 + k.val, by omega⟩ : Fin 6144)))
    (fun k => A1 (ix3 (⟨R.val / 2048, by omega⟩ : Fin 8) 0 (⟨3072 + k.val, by omega⟩ : Fin 6144))) e

/-- Hidden column `n` of row `R`. -/
def gh (R : Fin 16384) (n : Fin 5632) : EReal := ∑ e : Fin 1024, gu A0 A1 A2 R e * A4 (ix2 e n)

/-- The three-tap convolution along a sequence, zero beyond its ends. -/
def gconv (R : Fin 16384) (n : Fin 5632) : EReal :=
  (if h : R.val % 2048 = 0 then 0 else gh A0 A1 A2 A4 ⟨R.val - 1, by omega⟩ n) * A5 (ix3 (1 : Fin 2) (0 : Fin 3) n)
    + gh A0 A1 A2 A4 R n * A5 (ix3 (1 : Fin 2) (1 : Fin 3) n)
    + (if h : R.val % 2048 = 2047 then 0 else gh A0 A1 A2 A4 ⟨R.val + 1, by omega⟩ n) * A5 (ix3 (1 : Fin 2) (2 : Fin 3) n)

/-- The gated activation. -/
def gact (R : Fin 16384) (j : Fin 2816) : EReal :=
  gated (gconv A0 A1 A2 A4 A5 R ⟨j.val, by omega⟩) (gconv A0 A1 A2 A4 A5 R ⟨2816 + j.val, by omega⟩)

/-- The down-projection. -/
def gy (R : Fin 16384) (n : Fin 1024) : EReal := ∑ e : Fin 2816, gact A0 A1 A2 A4 A5 R e * A6 (ix2 e n)

/-- The sublayer's result: residual plus gate times the normalized down-projection. -/
def ffnG (A3 : FVec Ideal S2x1024 .f32) (R : Fin 16384) (n : Fin 1024) : EReal :=
  A0 (ix2 R n) + A1 (ix3 (⟨R.val / 2048, by omega⟩ : Fin 8) 0 (⟨5120 + n.val, by omega⟩ : Fin 6144)) * A3 (ix2 (1 : Fin 2) n)
    * (gy A0 A1 A2 A4 A5 A6 R n * rms (gy A0 A1 A2 A4 A5 A6 R))

end

end Cert.Ffn1
-- ==== Proof.FfnArray.lean ====
/-
  The feed-forward kernel's result array after the run, at every index, from the arguments: `ffnG`.
-/
module

public import proofs.«01_k».proof.Proof.FfnSpec

@[expose] public section

set_option maxRecDepth 16384

noncomputable section

namespace Cert.Ffn1

open Cert.FfnIdeal Cert.FfnIdeal.Gen Cert.FfnIdeal.Value Idealize.ShloMosaic Idealize.ShloMosaic.TcCoe Idealize.SL.Sem
open Cert.Attn (rms)

/-- Where each window's block stands at a grid point: tile `t` of 1024 rows, the eight rows before it and the eight
    after it (held inside the array at its ends), sequence `t / 2`. -/
theorem win_idx : ∀ t : Fin cfg0.N, win0_0.index t = ![t.val * 128 - 1, 0] ∧ win0_1.index t = ![t.val, 0] ∧ win0_2.index t = ![min ((t.val + 1) * 128) 2047, 0]
    ∧ win0_3.index t = ![t.val / 2, 0, 0] ∧ win0_4.index t = ![1, 0, 0] ∧ win0_5.index t = ![1, 0, 0]
    ∧ win0_6.index t = ![0, 0, 0] ∧ win0_7.index t = ![1, 0, 0] ∧ win0_8.index t = ![0, 0, 0] ∧ win0_9.index t = ![t.val, 0] :=
  (by decide +kernel : ∀ t : Fin grid0.N, win0_0.index t = ![t.val * 128 - 1, 0] ∧ win0_1.index t = ![t.val, 0] ∧ win0_2.index t = ![min ((t.val + 1) * 128) 2047, 0]
    ∧ win0_3.index t = ![t.val / 2, 0, 0] ∧ win0_4.index t = ![1, 0, 0] ∧ win0_5.index t = ![1, 0, 0]
    ∧ win0_6.index t = ![0, 0, 0] ∧ win0_7.index t = ![1, 0, 0] ∧ win0_8.index t = ![0, 0, 0] ∧ win0_9.index t = ![t.val, 0])

/-- The factor of the row before the tile: zero at a sequence's first tile. -/
theorem flag0 (t : Fin cfg0.N) : (k0_pay8 (F := Ideal) (BitVec.ofNat 32 (grid0.coords t 0).val) : EReal) = if t.val % 2 = 0 then 0 else 1 := by
  have h : ∀ t : Fin grid0.N, (Scalar.extui (Scalar.cmpi .ne (Scalar.remsi (BitVec.ofNat 32 (grid0.coords t 0).val) 2#32) 0#32) : BitVec 32)
      = if t.val % 2 = 0 then 0#32 else 1#32 := by decide +kernel
  unfold k0_pay8
  dsimp only
  rw [h t]
  by_cases h2 : t.val % 2 = 0
  · rw [if_pos h2, if_pos h2]
    show (((0#32 : BitVec 32).toInt : ℝ) : EReal) = 0
    simp
  · rw [if_neg h2, if_neg h2]
    show (((1#32 : BitVec 32).toInt : ℝ) : EReal) = 1
    simp

/-- The factor of the row after the tile: zero at a sequence's last tile. -/
theorem flag1 (t : Fin cfg0.N) : (k0_pay9 (F := Ideal) (BitVec.ofNat 32 (grid0.coords t 0).val) : EReal) = if t.val % 2 = 1 then 0 else 1 := by
  have h : ∀ t : Fin grid0.N, (Scalar.extui (Scalar.cmpi .ne (Scalar.remsi (BitVec.ofNat 32 (grid0.coords t 0).val) 2#32) 1#32) : BitVec 32)
      = if t.val % 2 = 1 then 0#32 else 1#32 := by decide +kernel
  unfold k0_pay9
  dsimp only
  rw [h t]
  by_cases h2 : t.val % 2 = 1
  · rw [if_pos h2, if_pos h2]
    show (((0#32 : BitVec 32).toInt : ℝ) : EReal) = 0
    simp
  · rw [if_neg h2, if_neg h2]
    show (((1#32 : BitVec 32).toInt : ℝ) : EReal) = 1
    simp

variable (m : (ℓ : Loc nD τ sig) → Buf (Elt Ideal) ℓ) (c : Dev nD)

theorem lt16 (t : Fin cfg0.N) : t.val < 16 := t.isLt

theorem blk0 (t : Fin cfg0.N) (r : Fin 8) (n : Fin 1024) :
    iblk m c 0 t (ix2 r n) = m ((c : Thread nD τ).loc main_arg0) (ix2 (⟨(t.val * 128 - 1) * 8 + r.val, by have := lt16 t; omega⟩ : Fin 16384) n) := by
  blk_ext [iblk, V, win_idx t]

theorem blk1 (t : Fin cfg0.N) (r : Fin 1024) (n : Fin 1024) :
    iblk m c 1 t (ix2 r n) = m ((c : Thread nD τ).loc main_arg0) (ix2 (⟨t.val * 1024 + r.val, by have := lt16 t; omega⟩ : Fin 16384) n) := by
  blk_ext [iblk, V, win_idx t]

theorem blk2 (t : Fin cfg0.N) (r : Fin 8) (n : Fin 1024) :
    iblk m c 2 t (ix2 r n) = m ((c : Thread nD τ).loc main_arg0) (ix2 (⟨min ((t.val + 1) * 128) 2047 * 8 + r.val, by have := lt16 t; omega⟩ : Fin 16384) n) := by
  blk_ext [iblk, V, win_idx t]

theorem blk3 (t : Fin cfg0.N) (n : Fin 6144) :
    iblk m c 3 t (ix3 0 0 n) = m ((c : Thread nD τ).loc main_arg1) (ix3 (⟨t.val / 2, by have := lt16 t; omega⟩ : Fin 8) 0 n) := by
  blk_ext [iblk, V, win_idx t]

theorem blk4 (t : Fin cfg0.N) (n : Fin 1024) :
    iblk m c 4 t (ix3 0 0 n) = m ((c : Thread nD τ).loc main_arg2) (ix2 (1 : Fin 2) n) := by
  blk_point [iblk, V, win_idx t]

theorem blk5 (t : Fin cfg0.N) (n : Fin 1024) :
    iblk m c 5 t (ix3 0 0 n) = m ((c : Thread nD τ).loc main_arg3) (ix2 (1 : Fin 2) n) := by
  blk_point [iblk, V, win_idx t]

theorem blk6 (t : Fin cfg0.N) (e : Fin 1024) (n : Fin 5632) :
    iblk m c 6 t (ix3 0 e n) = m ((c : Thread nD τ).loc main_arg4) (ix2 e n) := by
  blk_point [iblk, V, win_idx t]

theorem blk7 (t : Fin cfg0.N) (a : Fin 3) (n : Fin 5632) :
    iblk m c 7 t (ix3 0 a n) = m ((c : Thread nD τ).loc main_arg5) (ix3 (1 : Fin 2) a n) := by
  blk_ext [iblk, V, win_idx t]

theorem blk8 (t : Fin cfg0.N) (e : Fin 2816) (n : Fin 1024) :
    iblk m c 8 t (ix3 0 e n) = m ((c : Thread nD τ).loc main_arg6) (ix2 e n) := by
  blk_point [iblk, V, win_idx t]

/-- A slice of 1024 modulation values read in the block's sequence. -/
theorem mod_at (t : Fin cfg0.N) (o : ℕ) (i : ∀ a, ![0, 0, o] a + ![1, 1, 1024] a ≤ S1x1x6144.size a) (R : Fin 16384) (hb : R.val / 2048 = t.val / 2) (k : Fin 1024)
    (n : Fin 6144) (hn : n.val = o + k.val) :
    View.ld (iblk m c 3 t : Vec Ideal S1x1x6144 .f32) (Rect.unit (s := S1x1x6144) ![0, 0, o] ![1, 1, 1024] i) (ix3 0 0 k)
      = m ((c : Thread nD τ).loc main_arg1) (ix3 (⟨R.val / 2048, by omega⟩ : Fin 8) 0 n) := by
  refine (View.ld_unit_apply_of _ _ _ _ _ (ix3 0 0 n) fun a => ?_).trans ?_
  · match a with
    | 0 => rfl
    | 1 => rfl
    | 2 => exact hn
  · rw [blk3]; congr 2; exact Fin.ext hb.symm

/-- The gain, scale and shift blocks as the body reads them. -/
abbrev gB (t : Fin cfg0.N) (k : Fin 1024) : EReal := iblk m c 4 t (ix3 0 0 k)
abbrev scB (t : Fin cfg0.N) (k : Fin 1024) : EReal :=
  View.ld (iblk m c 3 t : Vec Ideal S1x1x6144 .f32) (Rect.unit (s := S1x1x6144) ![0, 0, 4096] ![1, 1, 1024] (by decide)) (ix3 0 0 k)
abbrev shB (t : Fin cfg0.N) (k : Fin 1024) : EReal :=
  View.ld (iblk m c 3 t : Vec Ideal S1x1x6144 .f32) (Rect.unit (s := S1x1x6144) ![0, 0, 3072] ![1, 1, 1024] (by decide)) (ix3 0 0 k)

/-- A stacked row that is row `R` of the array has that row's hidden columns. -/
theorem bh_eq (t : Fin cfg0.N) (y : Fin 1040) (R : Fin 16384) (hb : R.val / 2048 = t.val / 2)
    (hrow : ∀ k, blkrow (iblk m c 0 t) (iblk m c 1 t) (iblk m c 2 t) y k = m ((c : Thread nD τ).loc main_arg0) (ix2 R k)) (n : Fin 5632) :
    bh (iblk m c 0 t) (iblk m c 1 t) (iblk m c 2 t) (gB m c t) (scB m c t) (shB m c t) (iblk m c 6 t) n y
      = gh (m ((c : Thread nD τ).loc main_arg0)) (m ((c : Thread nD τ).loc main_arg1)) (m ((c : Thread nD τ).loc main_arg2)) (m ((c : Thread nD τ).loc main_arg4)) R n := by
  unfold bh gh gu
  refine Finset.sum_congr rfl fun e _ => congrArg₂ _ ?_ (blk6 m c t e n)
  rw [show blkrow (iblk m c 0 t) (iblk m c 1 t) (iblk m c 2 t) y = fun k => m ((c : Thread nD τ).loc main_arg0) (ix2 R k) from funext hrow,
    show gB m c t = fun k => m ((c : Thread nD τ).loc main_arg2) (ix2 (1 : Fin 2) k) from funext fun k => blk4 m c t k,
    show scB m c t = _ from funext fun k => mod_at m c t 4096 _ R hb k ⟨4096 + k.val, by omega⟩ rfl,
    show shB m c t = _ from funext fun k => mod_at m c t 3072 _ R hb k ⟨3072 + k.val, by omega⟩ rfl]

/-- The convolution of a block's row is that of the array's row. -/
theorem bconv_eq (t : Fin cfg0.N) (r : Fin 1024) (R : Fin 16384) (hR : R.val = t.val * 1024 + r.val) (n : Fin 5632) :
    bconv (iblk m c 0 t) (iblk m c 1 t) (iblk m c 2 t) (gB m c t) (scB m c t) (shB m c t) (iblk m c 6 t) (iblk m c 7 t)
        (k0_pay8 (F := Ideal) (BitVec.ofNat 32 (grid0.coords t 0).val)) (k0_pay9 (F := Ideal) (BitVec.ofNat 32 (grid0.coords t 0).val)) n r
      = gconv (m ((c : Thread nD τ).loc main_arg0)) (m ((c : Thread nD τ).loc main_arg1)) (m ((c : Thread nD τ).loc main_arg2)) (m ((c : Thread nD τ).loc main_arg4))
          (m ((c : Thread nD τ).loc main_arg5)) R n := by
  have ht := lt16 t
  have inner : ∀ (y : Fin 1040) (Q : Fin 16384), y.val < 1024 → Q.val = t.val * 1024 + y.val →
      bh (iblk m c 0 t) (iblk m c 1 t) (iblk m c 2 t) (gB m c t) (scB m c t) (shB m c t) (iblk m c 6 t) n y
        = gh (m ((c : Thread nD τ).loc main_arg0)) (m ((c : Thread nD τ).loc main_arg1)) (m ((c : Thread nD τ).loc main_arg2)) (m ((c : Thread nD τ).loc main_arg4)) Q n := by
    intro y Q hy hQ
    refine bh_eq m c t y Q (by omega) (fun k => ?_) n
    unfold blkrow
    rw [dif_pos hy, blk1]
    congr 2
    exact Fin.ext hQ.symm
  unfold bconv conv gconv
  rw [flag0, flag1]
  refine congrArg₂ _ (congrArg₂ _ (congrArg₂ _ ?_ (blk7 m c t 0 n)) (congrArg₂ _ (inner _ R r.isLt hR) (blk7 m c t 1 n))) (congrArg₂ _ ?_ (blk7 m c t 2 n))
  · by_cases hr : r.val = 0
    · rw [if_pos hr]
      by_cases h2 : t.val % 2 = 0
      · rw [if_pos h2, mul_zero, dif_pos (by omega)]
      · rw [if_neg h2, mul_one, dif_neg (by omega)]
        refine bh_eq m c t 1031 _ (by show (R.val - 1) / 2048 = _; omega) (fun k => ?_) n
        unfold blkrow
        rw [dif_neg (by decide), dif_pos (by decide), blk0]
        congr 2
        refine Fin.ext ?_
        show (t.val * 128 - 1) * 8 + (1031 - 1024) = R.val - 1
        omega
    · rw [if_neg hr, dif_neg (by omega)]
      exact inner _ _ (by show r.val - 1 < 1024; omega) (by show R.val - 1 = t.val * 1024 + (r.val - 1); omega)
  · by_cases hr : r.val = 1023
    · rw [if_pos hr]
      by_cases h2 : t.val % 2 = 1
      · rw [if_pos h2, mul_zero, dif_pos (by omega)]
      · rw [if_neg h2, mul_one, dif_neg (by omega)]
        refine bh_eq m c t 1032 _ (by show (R.val + 1) / 2048 = _; omega) (fun k => ?_) n
        unfold blkrow
        rw [dif_neg (by decide), dif_neg (by decide), blk2]
        congr 2
        refine Fin.ext ?_
        show min ((t.val + 1) * 128) 2047 * 8 + (1032 - 1032) = R.val + 1
        omega
    · rw [if_neg hr, dif_neg (by omega)]
      exact inner _ _ (by show r.val + 1 < 1024; omega) (by show R.val + 1 = t.val * 1024 + (r.val + 1); omega)

/-- The result array after the run. -/
theorem arr_eq : (dats m 0 c).arrAt 9 cfg0.N = fun i : S16384x1024.Idx =>
    ffnG (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg3)) (i 0) (i 1) := by
  refine (dats m 0 c).arrAt_eq_of_covers 9 _ (by decide +kernel) fun t hf y => ?_
  blk_simp
  rw [after0_9]
  simp only [outsAt0]
  obtain ⟨r, n, hy⟩ : ∃ (r : Fin 1024) (n : Fin 1024), ((cfg0.win 9).xinj (cfg0.grid.coords t) y : S1024x1024.Idx) = ix2 r n :=
    ⟨_, _, (by funext a; match a with | 0 => rfl | 1 => rfl : _ = ix2 (((cfg0.win 9).xinj (cfg0.grid.coords t) y : S1024x1024.Idx) 0) (((cfg0.win 9).xinj (cfg0.grid.coords t) y : S1024x1024.Idx) 1))⟩
  have hi := win_idx t
  have ht := lt16 t
  have hR : ((((cfg0.win 9).blk t).view.emb y) 0).val = t.val * 1024 + r.val := by
    have h0 : r.val = (y 0).val := (congrArg (fun i : S1024x1024.Idx => (i 0).val) hy).symm
    blk_simp [hi]
    simp
    omega
  have hN : ((((cfg0.win 9).blk t).view.emb y) 1).val = n.val := by
    have h0 : n.val = (y 1).val := (congrArg (fun i : S1024x1024.Idx => (i 1).val) hy).symm
    blk_simp [hi]
    simp
    omega
  refine (congrArg _ hy).trans ((out_apply c t _ _ _ _ _ _ _ _ _ r n).trans ?_)
  obtain ⟨R, hRd⟩ : ∃ R : Fin 16384, R = (((cfg0.win 9).blk t).view.emb y) 0 := ⟨_, rfl⟩
  have hN' : n = (((cfg0.win 9).blk t).view.emb y) 1 := Fin.ext hN.symm
  rw [← hRd] at hR ⊢
  rw [← hN']
  unfold outVal ffnG gy
  have h8 : ∀ k : Fin 1024, (∑ e : Fin 2816, bact (iblk m c 0 t) (iblk m c 1 t) (iblk m c 2 t) (gB m c t) (scB m c t) (shB m c t) (iblk m c 6 t) (iblk m c 7 t)
        (k0_pay8 (F := Ideal) (BitVec.ofNat 32 (grid0.coords t 0).val)) (k0_pay9 (F := Ideal) (BitVec.ofNat 32 (grid0.coords t 0).val)) r e * iblk m c 8 t (ix3 0 e k))
      = ∑ e : Fin 2816, gact (m ((c : Thread nD τ).loc main_arg0)) (m ((c : Thread nD τ).loc main_arg1)) (m ((c : Thread nD τ).loc main_arg2))
          (m ((c : Thread nD τ).loc main_arg4)) (m ((c : Thread nD τ).loc main_arg5)) R e * m ((c : Thread nD τ).loc main_arg6) (ix2 e k) := fun k =>
    Finset.sum_congr rfl fun e _ => congrArg₂ _ (congrArg₂ gated (bconv_eq m c t r R hR _) (bconv_eq m c t r R hR _)) (blk8 m c t e k)
  refine congrArg₂ _ ((blk1 m c t r n).trans ?_) (congrArg₂ _ (congrArg₂ _ (mod_at m c t 5120 _ R (by omega) n ⟨5120 + n.val, by omega⟩ rfl) (blk5 m c t n))
    (congrArg₂ _ (h8 n) (congrArg rms (funext h8))))
  congr 2; exact Fin.ext hR.symm

end Cert.Ffn1
-- ==== Proof.FfnRef.lean ====
/-
  The reference of the feed-forward sublayer, read: its result is `ffnG` of the arguments. Rows are numbered by the
  sequence `b` and the position `s` in it.
-/
module

public import proofs.«01_k».proof.Proof.FfnSpec
public import proofs.«01_k».proof.Proof.AttnRef
public import proofs.«01_k».proof.Proof.Gen.FfnReferenceIdeal.Read
public import Idealize.ShloMosaic.Lib.KernelVsHost
public import Idealize.ShloMosaic.Lib.IdealHost

@[expose] public section

set_option maxRecDepth 16384

noncomputable section

namespace Cert.Ffn1

open Cert.FfnReferenceIdeal Cert.FfnReferenceIdeal.Gen Cert.FfnReferenceIdeal.Read Idealize.ShloMosaic Idealize.ShloMosaic.TcCoe
open Cert.Attn (rms bits_zero reorder)

section
variable (X0 : FVec Ideal S16384x1024 .f32) (X1 : FVec Ideal S8x1x6144 .f32) (X2 : FVec Ideal S2x1024 .f32)

/-- The residual's row, split by sequence. -/
theorem row_ref (b : Fin 8) (s : Fin 2048) (e : Fin 1024) :
    val_main_v0 (F := Ideal) X0 (ix3 b s e) = X0 (ix2 (⟨b.val * 2048 + s.val, by omega⟩ : Fin 16384) e) := by
  rw [val_main_v0_apply]
  refine congrArg X0 (funext fun a => Fin.ext ?_)
  match a with
  | ⟨0, _⟩ => dsimp [ix2, ix3]; omega
  | ⟨1, _⟩ => dsimp [ix2, ix3]; omega

/-- The first norm's scale. -/
theorem norm_ref (b : Fin 8) (s : Fin 2048) (e : Fin 1024) :
    val_main_v17 (F := Ideal) X0 (ix3 b s e) = rms fun k => X0 (ix2 (⟨b.val * 2048 + s.val, by omega⟩ : Fin 16384) k) := by
  rw [val_main_v17_apply, val_main_v16_apply, val_main_v15_apply, val_main_v13_apply, val_main_v11_apply, val_main_v10_apply, val_main_cst_apply]
  have hz : (FloatOps.ofBits FTy.f32 0x00000000#32 : Ideal .f32) = (0 : EReal) := bits_zero
  have hsum : (FloatOps.ofBits FTy.f32 0x00000000#32 : Ideal .f32) + ∑ k : Fin 1024, val_main_v9 (F := Ideal) X0
        (idx_main_v10 (idx_main_v11 (idx_main_v17 (ix3 b s e))) k)
      = ∑ k : Fin 1024, (X0 (ix2 (⟨b.val * 2048 + s.val, by omega⟩ : Fin 16384) k) : EReal) * X0 (ix2 (⟨b.val * 2048 + s.val, by omega⟩ : Fin 16384) k) := by
    rw [hz]
    refine (zero_add _).trans (Finset.sum_congr rfl fun q _ => ?_)
    have he : idx_main_v10 (idx_main_v11 (idx_main_v17 (ix3 b s e))) q = ix3 b s q := funext fun a => by
      match a with
      | ⟨0, _⟩ => rfl
      | ⟨1, _⟩ => rfl
      | ⟨2, _⟩ => rfl
    rw [he, val_main_v9_apply, row_ref]
    rfl
  rw [hsum]
  rfl

/-- The normalized, modulated row. -/
theorem u_ref (b : Fin 8) (s : Fin 2048) (e : Fin 1024) :
    val_main_v27 (F := Ideal) X0 X1 X2 (ix3 b s e) = gu X0 X1 X2 ⟨b.val * 2048 + s.val, by omega⟩ e := by
  have hb : (⟨(b.val * 2048 + s.val) / 2048, by omega⟩ : Fin 8) = b := Fin.ext (by dsimp; omega)
  rw [val_main_v27_apply, val_main_v25_apply, val_main_v21_apply, val_main_v18_apply, row_ref, norm_ref, val_main_v20_apply,
    val_main_v19_apply, val_main_v8_apply, val_main_v7_apply, val_main_v24_apply, val_main_v23_apply, val_main_v22_apply, val_main_cst_2_apply,
    val_main_v5_apply, val_main_v26_apply, val_main_v4_apply]
  have e2 : idx_main_v7 (idx_main_v8 (idx_main_v19 (idx_main_v20 (ix3 b s e)))) = ix2 (1 : Fin 2) e := funext fun a => Fin.ext (by
    match a with
    | ⟨0, _⟩ => dsimp [ix2, ix3]; try omega
    | ⟨1, _⟩ => dsimp [ix2, ix3]; try omega)
  have e5 : idx_main_v5 (idx_main_v24 (ix3 b s e)) = ix3 b 0 (⟨4096 + e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e4 : idx_main_v4 (idx_main_v26 (ix3 b s e)) = ix3 b 0 (⟨3072 + e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  rw [e2, e5, e4]
  unfold gu urow
  rw [hb]
  have h1 : (FloatOps.ofBits FTy.f32 0x3F800000#32 : Ideal .f32) = (1 : EReal) := Ideal.ofBits_one_f32
  rw [h1]
  refine congrArg₂ (fun x y : EReal => x + y) ?_ rfl
  exact mul_assoc (G := EReal) _ _ _

variable (X4 : FVec Ideal S1024x5632 .bf16)

/-- The up projection. -/
theorem h_ref (b : Fin 8) (s : Fin 2048) (n : Fin 5632) :
    val_main_v32 (F := Ideal) X0 X1 X2 X4 (ix3 b s n) = gh X0 X1 X2 X4 ⟨b.val * 2048 + s.val, by omega⟩ n := by
  rw [val_main_v32_apply]
  refine Finset.sum_congr rfl fun e _ => ?_
  rw [← u_ref, val_main_v28_apply]
  refine congrArg₂ (fun x y : EReal => x * y) (congrArg _ (funext fun a => ?_)) (congrArg X4 (funext fun a => ?_))
  · match a with
    | ⟨0, _⟩ => rfl
    | ⟨1, _⟩ => rfl
    | ⟨2, _⟩ => rfl
  · match a with
    | ⟨0, _⟩ => rfl
    | ⟨1, _⟩ => rfl

/-- The padding value is zero. -/
theorem pad_zero (i : S_.Idx) : val_main_call0_v0 (F := Ideal) i = (0 : EReal) := by
  rw [val_main_call0_v0_apply, val_main_c_apply]
  show (((0#32 : BitVec 32).toInt : ℝ) : EReal) = 0
  simp

/-- A padded row inside the sequence. -/
theorem pad_in (b : Fin 8) (p : Fin 2050) (s : Fin 2048) (h : p.val = s.val + 1) (n : Fin 5632) :
    val_main_v33 (F := Ideal) X0 X1 X2 X4 (ix3 b p n) = gh X0 X1 X2 X4 ⟨b.val * 2048 + s.val, by omega⟩ n := by
  rw [← h_ref]
  unfold val_main_v33
  refine pad_apply_of_inside _ _ _ _ _ _ _ (ix3 b p n) (ix3 b s n) fun a => ?_
  match a with
  | ⟨0, _⟩ => show b.val = 0 + b.val * (0 + 1); omega
  | ⟨1, _⟩ => show p.val = 1 + s.val * (0 + 1); omega
  | ⟨2, _⟩ => show n.val = 0 + n.val * (0 + 1); omega

/-- A padded row beyond an end of the sequence. -/
theorem pad_out (b : Fin 8) (p : Fin 2050) (h : p.val = 0 ∨ p.val = 2049) (n : Fin 5632) :
    val_main_v33 (F := Ideal) X0 X1 X2 X4 (ix3 b p n) = (0 : EReal) := by
  unfold val_main_v33
  refine (pad_apply_of_not_inside _ _ _ _ _ _ _ (ix3 b p n) (1 : Fin 3) ?_).trans (pad_zero _)
  show ¬(1 ≤ p.val ∧ (p.val - 1) % (0 + 1) = 0 ∧ (p.val - 1) / (0 + 1) < 2048)
  omega

variable (X5 : FVec Ideal S2x3x5632 .f32)

/-- The convolution. -/
theorem conv_ref (b : Fin 8) (s : Fin 2048) (n : Fin 5632) :
    val_main_v53 (F := Ideal) X0 X1 X2 X4 X5 (ix3 b s n) = gconv X0 X1 X2 X4 X5 ⟨b.val * 2048 + s.val, by omega⟩ n := by
  rw [val_main_v53_apply, val_main_v46_apply, val_main_v39_apply, val_main_v45_apply, val_main_v52_apply,
    val_main_v34_apply, val_main_v40_apply, val_main_v47_apply,
    val_main_v38_apply, val_main_v37_apply, val_main_v36_apply, val_main_v35_apply,
    val_main_v44_apply, val_main_v43_apply, val_main_v42_apply, val_main_v41_apply,
    val_main_v51_apply, val_main_v50_apply, val_main_v49_apply, val_main_v48_apply]
  simp only [val_main_v30_apply, val_main_v29_apply]
  have k0 : idx_main_v29 (idx_main_v30 (idx_main_v35 (idx_main_v36 (idx_main_v37 (idx_main_v38 (ix3 b s n)))))) = ix3 (1 : Fin 2) (0 : Fin 3) n :=
    funext fun a => Fin.ext (by
      match a with
      | ⟨0, _⟩ => dsimp [ix3]; try omega
      | ⟨1, _⟩ => dsimp [ix3]; try omega
      | ⟨2, _⟩ => dsimp [ix3]; try omega)
  have k1 : idx_main_v29 (idx_main_v30 (idx_main_v41 (idx_main_v42 (idx_main_v43 (idx_main_v44 (ix3 b s n)))))) = ix3 (1 : Fin 2) (1 : Fin 3) n :=
    funext fun a => Fin.ext (by
      match a with
      | ⟨0, _⟩ => dsimp [ix3]; try omega
      | ⟨1, _⟩ => dsimp [ix3]; try omega
      | ⟨2, _⟩ => dsimp [ix3]; try omega)
  have k2 : idx_main_v29 (idx_main_v30 (idx_main_v48 (idx_main_v49 (idx_main_v50 (idx_main_v51 (ix3 b s n)))))) = ix3 (1 : Fin 2) (2 : Fin 3) n :=
    funext fun a => Fin.ext (by
      match a with
      | ⟨0, _⟩ => dsimp [ix3]; try omega
      | ⟨1, _⟩ => dsimp [ix3]; try omega
      | ⟨2, _⟩ => dsimp [ix3]; try omega)
  have r0 : idx_main_v34 (ix3 b s n) = ix3 b (⟨s.val, by omega⟩ : Fin 2050) n := funext fun a => by
    match a with
    | ⟨0, _⟩ => rfl
    | ⟨1, _⟩ => rfl
    | ⟨2, _⟩ => rfl
  have r1 : idx_main_v40 (ix3 b s n) = ix3 b (⟨1 + s.val, by omega⟩ : Fin 2050) n := funext fun a => by
    match a with
    | ⟨0, _⟩ => rfl
    | ⟨1, _⟩ => rfl
    | ⟨2, _⟩ => rfl
  have r2 : idx_main_v47 (ix3 b s n) = ix3 b (⟨2 + s.val, by omega⟩ : Fin 2050) n := funext fun a => by
    match a with
    | ⟨0, _⟩ => rfl
    | ⟨1, _⟩ => rfl
    | ⟨2, _⟩ => rfl
  rw [k0, k1, k2, r0, r1, r2]
  unfold gconv
  refine congrArg₂ (fun x y : EReal => x + y) (congrArg₂ (fun x y : EReal => x + y) (congrArg₂ (fun x y : EReal => x * y) ?_ rfl)
    (congrArg₂ (fun x y : EReal => x * y) ?_ rfl)) (congrArg₂ (fun x y : EReal => x * y) ?_ rfl)
  · by_cases h : s.val = 0
    · rw [pad_out X0 X1 X2 X4 b _ (Or.inl h), dif_pos (by dsimp; omega)]
    · rw [pad_in X0 X1 X2 X4 b _ ⟨s.val - 1, by omega⟩ (by dsimp; omega), dif_neg (by dsimp; omega)]
      exact congrArg (fun R => gh X0 X1 X2 X4 R n) (Fin.ext (by dsimp; omega))
  · exact pad_in X0 X1 X2 X4 b _ s (by dsimp; omega) n
  · by_cases h : s.val = 2047
    · rw [pad_out X0 X1 X2 X4 b _ (Or.inr (by dsimp; omega)), dif_pos (by dsimp; omega)]
    · rw [pad_in X0 X1 X2 X4 b _ ⟨s.val + 1, by omega⟩ (by dsimp; omega), dif_neg (by dsimp; omega)]
      exact congrArg (fun R => gh X0 X1 X2 X4 R n) (Fin.ext (by dsimp; omega))

/-- The gated activation. -/
theorem act_ref (b : Fin 8) (s : Fin 2048) (j : Fin 2816) :
    val_main_v57 (F := Ideal) X0 X1 X2 X4 X5 (ix3 b s j) = gact X0 X1 X2 X4 X5 ⟨b.val * 2048 + s.val, by omega⟩ j := by
  rw [val_main_v57_apply, val_main_v56_apply, val_main_call1_v5_apply, val_main_call1_v4_apply, val_main_call1_cst_0_apply,
    val_main_call1_v3_apply, val_main_call1_v2_apply, val_main_call1_cst_apply, val_main_call1_v1_apply, val_main_call1_v0_apply,
    val_main_v54_apply, val_main_v55_apply]
  have e0 : idx_main_v54 (ix3 b s j) = ix3 b s (⟨j.val, by omega⟩ : Fin 5632) := funext fun a => by
    match a with
    | ⟨0, _⟩ => rfl
    | ⟨1, _⟩ => rfl
    | ⟨2, _⟩ => rfl
  have e1 : idx_main_v55 (ix3 b s j) = ix3 b s (⟨2816 + j.val, by omega⟩ : Fin 5632) := funext fun a => by
    match a with
    | ⟨0, _⟩ => rfl
    | ⟨1, _⟩ => rfl
    | ⟨2, _⟩ => rfl
  have h1 : (FloatOps.ofBits FTy.f32 0x3F800000#32 : Ideal .f32) = (1 : EReal) := Ideal.ofBits_one_f32
  rw [e0, e1, conv_ref, conv_ref, h1]
  unfold gact gated
  rw [zero_sub (G := EReal)]
  rfl

variable (X6 : FVec Ideal S2816x1024 .bf16)

/-- The down projection. -/
theorem y_ref (b : Fin 8) (s : Fin 2048) (n : Fin 1024) :
    val_main_v58 (F := Ideal) X0 X1 X2 X4 X5 X6 (ix3 b s n) = gy X0 X1 X2 X4 X5 X6 ⟨b.val * 2048 + s.val, by omega⟩ n := by
  rw [val_main_v58_apply]
  refine Finset.sum_congr rfl fun e _ => ?_
  rw [← act_ref, val_main_v31_apply]
  refine congrArg₂ (fun x y : EReal => x * y) (congrArg _ (funext fun a => ?_)) (congrArg X6 (funext fun a => ?_))
  · match a with
    | ⟨0, _⟩ => rfl
    | ⟨1, _⟩ => rfl
    | ⟨2, _⟩ => rfl
  · match a with
    | ⟨0, _⟩ => rfl
    | ⟨1, _⟩ => rfl

/-- The second norm's scale. -/
theorem rms_ref (b : Fin 8) (s : Fin 2048) (n : Fin 1024) :
    val_main_v69 (F := Ideal) X0 X1 X2 X4 X5 X6 (ix3 b s n) = rms (gy X0 X1 X2 X4 X5 X6 ⟨b.val * 2048 + s.val, by omega⟩) := by
  rw [val_main_v69_apply, val_main_v68_apply, val_main_v67_apply, val_main_v65_apply, val_main_v63_apply, val_main_v62_apply, val_main_cst_3_apply]
  have hz : (FloatOps.ofBits FTy.f32 0x00000000#32 : Ideal .f32) = (0 : EReal) := bits_zero
  have hsum : (FloatOps.ofBits FTy.f32 0x00000000#32 : Ideal .f32) + ∑ k : Fin 1024, val_main_v61 (F := Ideal) X0 X1 X2 X4 X5 X6
        (idx_main_v62 (idx_main_v63 (idx_main_v69 (ix3 b s n))) k)
      = ∑ k : Fin 1024, gy X0 X1 X2 X4 X5 X6 ⟨b.val * 2048 + s.val, by omega⟩ k * gy X0 X1 X2 X4 X5 X6 ⟨b.val * 2048 + s.val, by omega⟩ k := by
    rw [hz]
    refine (zero_add _).trans (Finset.sum_congr rfl fun q _ => ?_)
    have he : idx_main_v62 (idx_main_v63 (idx_main_v69 (ix3 b s n))) q = ix3 b s q := funext fun a => by
      match a with
      | ⟨0, _⟩ => rfl
      | ⟨1, _⟩ => rfl
      | ⟨2, _⟩ => rfl
    rw [he, val_main_v61_apply, y_ref]
    rfl
  rw [hsum]
  rfl

variable (X3 : FVec Ideal S2x1024 .f32)

/-- The reference's result is the sublayer in mathematics. -/
theorem out_ref (i : S16384x1024.Idx) :
    val_main_v77 (F := Ideal) X0 X1 X2 X3 X4 X5 X6 i = ffnG X0 X1 X2 X4 X5 X6 X3 (i 0) (i 1) := by
  obtain ⟨R, n, rfl⟩ : ∃ (R : Fin 16384) (n : Fin 1024), i = ix2 R n := ⟨i 0, i 1, funext fun a => by
    match a with
    | ⟨0, _⟩ => rfl
    | ⟨1, _⟩ => rfl⟩
  have he : idx_main_v77 (ix2 R n) = ix3 (⟨R.val / 2048, by omega⟩ : Fin 8) (⟨R.val % 2048, by omega⟩ : Fin 2048) n :=
    funext fun a => Fin.ext (by
      match a with
      | ⟨0, _⟩ => dsimp [ix2, ix3]; omega
      | ⟨1, _⟩ => dsimp [ix2, ix3]; omega
      | ⟨2, _⟩ => dsimp [ix2, ix3]; omega)
  have hR : (⟨R.val / 2048 * 2048 + R.val % 2048, by omega⟩ : Fin 16384) = R := Fin.ext (by dsimp; omega)
  rw [val_main_v77_apply, he, val_main_v76_apply, val_main_v75_apply, val_main_v73_apply, val_main_v70_apply, rms_ref, y_ref, row_ref,
    val_main_v74_apply, val_main_v6_apply, val_main_v72_apply, val_main_v71_apply, val_main_v60_apply, val_main_v59_apply]
  dsimp only
  rw [hR]
  have e6 : idx_main_v6 (idx_main_v74 (ix3 (⟨R.val / 2048, by omega⟩ : Fin 8) (⟨R.val % 2048, by omega⟩ : Fin 2048) n))
      = ix3 (⟨R.val / 2048, by omega⟩ : Fin 8) 0 (⟨5120 + n.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e7 : idx_main_v59 (idx_main_v60 (idx_main_v71 (idx_main_v72 (ix3 (⟨R.val / 2048, by omega⟩ : Fin 8) (⟨R.val % 2048, by omega⟩ : Fin 2048) n))))
      = ix2 (1 : Fin 2) n := funext fun a => Fin.ext (by
    match a with
    | ⟨0, _⟩ => dsimp [ix2, ix3]; try omega
    | ⟨1, _⟩ => dsimp [ix2, ix3]; try omega)
  rw [e6, e7]
  exact reorder _ _ _ _ _
end

end Cert.Ffn1
-- ==== Proof.FfnClaim.lean ====
/-
  The value claim of the feed-forward sublayer: from equal arguments the kernel and the reference end with equal results.
-/
module

public import proofs.«01_k».proof.Defs
public import proofs.«01_k».proof.Proof.FfnArray
public import proofs.«01_k».proof.Proof.FfnRef
public import proofs.«01_k».proof.Proof.Gen.FfnReferenceIdeal.Run
public import proofs.«01_k».proof.Proof.Gen.FfnIdeal.Value

@[expose] public section

set_option maxRecDepth 16384

noncomputable section

namespace Cert.Ffn1

open Idealize.ShloMosaic Idealize.ShloMosaic.TcCoe Idealize.SL.Sem

/-- From equal arguments the kernel and the reference end with equal results. -/
theorem algebraic : Cert.algebraic_FfnIdeal_FfnReferenceIdeal (hFfnIdeal := Cert.FfnIdeal.Gen.facts)
    (hFfnReferenceIdeal := Cert.FfnReferenceIdeal.Gen.facts) := by
  intro m g m' g' _ hargs
  refine ⟨fun c => (Cert.FfnIdeal.Gen.dats m 0 c).arrAt 9 Cert.FfnIdeal.cfg0.N, Cert.FfnIdeal.Value.run_blocks m g, ?_⟩
  refine (θ_run (Cert.FfnReferenceIdeal.defs (F := Ideal)) _ _).mono (fun r h c => ?_) (Cert.FfnReferenceIdeal.Value.run (F := Ideal) m' g')
  obtain ⟨hv, hk⟩ := h c
  refine ⟨hv.trans ?_, hk⟩
  obtain ⟨a0, a1, a2, a3, a4, a5, a6⟩ := hargs c
  rw [Cert.FfnReferenceIdeal.Read.val_main_v77_eq, a0, a1, a2, a3, a4, a5, a6]
  refine Eq.trans (funext fun i => ?_) (arr_eq m c).symm
  exact out_ref _ _ _ _ _ _ _ i

end Cert.Ffn1
-- ==== Proof.CtxChunk.lean ====
/-
  The arithmetic of one chunk of 256 hidden columns of the prompt's feed-forward kernel. A tile holds four whole
  sequences, so there are no halo rows: beyond a sequence's ends the convolution takes zero. `act` is that arithmetic,
  `pay13_eq` … `pay77_eq` say that each of the eleven printed copies is `act` of its loads, and `act_apply` reads it at an
  index.
-/
module

public import proofs.«01_k».proof.Proof.Gen.FfnCtxIdeal.Value
public import proofs.«01_k».proof.Proof.FfnChunk

@[expose] public section

set_option maxRecDepth 16384

noncomputable section

namespace Cert.FfnC

open Cert.FfnCtxIdeal Cert.FfnCtxIdeal.Gen Idealize.ShloMosaic Idealize.ShloMosaic.TcCoe Idealize.SL.Sem
open Cert.Ffn1 (gated)

/-- One chunk's activation: `m0 m1` the masks of the sequences' first and last rows, `U` the normalized rows, `wg wu` the
    up-projections, `kg ku` the taps. -/
def act (m0 m1 : IVec S1024x256 1) (U : FVec Ideal S1024x1024 .bf16) (wg wu : FVec Ideal S1x1024x256 .bf16)
    (kg ku : FVec Ideal S1x3x256 .f32) : FVec Ideal S1024x256 .bf16 :=
  let g : FVec Ideal S1024x256 .f32 := k0_pay7 m0 m1 U wg kg
  let u : FVec Ideal S1024x256 .f32 := k0_pay7 m0 m1 U wu ku
  let one : FVec Ideal S1024x256 .f32 := broadcast S1024x256 (Scalar.ofBits .f32 0x3F800000#32)
  let s : FVec Ideal S1024x256 .f32 := divf one (addf one (exp (subf (broadcast S1024x256 (Scalar.ofBits .f32 0x00000000#32)) g)))
  shapeCast S1024x256 (truncf .bf16 (mulf (mulf g s) u) bitsLt_bf16_f32) shapeCasts_S1024x256_S1024x256

section
variable (m0 m1 : IVec S1024x256 1) (U : FVec Ideal S1024x1024 .bf16) (wg wu : FVec Ideal S1x1024x256 .bf16)
    (kg ku : FVec Ideal S1x3x256 .f32)

theorem pay13_eq : k0_pay13 m1 (k0_pay6 U wu) (k0_pay7 m0 m1 U wg kg) (k0_pay8 ku) (k0_pay10 m0 U wu) (k0_pay11 U wu) k0_pay12
    = act m0 m1 U wg wu kg ku := rfl

theorem pay19_eq : k0_pay19 (k0_pay18 m0 m1 (k0_pay14 U wg) (k0_pay15 U wu) (k0_pay16 kg) k0_pay17 1#32 ku)
    = act m0 m1 U wg wu kg ku := rfl

theorem pay23_eq : k0_pay23 m0 m1 (k0_pay20 U wu) (k0_pay21 m0 m1 U wg kg) (k0_pay22 ku)
    = act m0 m1 U wg wu kg ku := rfl

theorem pay29_eq : k0_pay29 (k0_pay26 m0 m1 (k0_pay24 U wg) kg) (k0_pay27 m0 m1 U (k0_pay25 wu) ku) k0_pay28
    = act m0 m1 U wg wu kg ku := rfl

theorem pay37_eq : k0_pay37 m0 m1 (k0_pay31 U wu) (k0_pay32 kg) (k0_pay34 m1 U wg) (k0_pay35 m0 U wg kg) (k0_pay36 U wg kg) ku
    = act m0 m1 U wg wu kg ku := rfl

theorem pay45_eq : k0_pay45 (k0_pay39 U wu) (k0_pay40 m0 m1 U (k0_pay38 wg) kg) (k0_pay41 ku) (k0_pay43 m1 U wu) (k0_pay44 m0 U wu ku)
    = act m0 m1 U wg wu kg ku := rfl

theorem pay52_eq : k0_pay52 (k0_pay51 m0 m1 (k0_pay46 U wg) (k0_pay47 U wu) (k0_pay48 kg) k0_pay49 (k0_pay50 m0 U wg) 1023#32 ku)
    = act m0 m1 U wg wu kg ku := rfl

theorem pay59_eq : k0_pay59 m0 m1 (k0_pay53 U wu) (k0_pay54 m0 m1 U wg kg) (k0_pay55 ku) k0_pay56 (k0_pay57 U wu) k0_pay58
    = act m0 m1 U wg wu kg ku := rfl

theorem pay65_eq : k0_pay65 (k0_pay62 m0 m1 (k0_pay60 U wg) kg) (k0_pay63 m0 m1 (k0_pay61 U wu) ku) (k0_pay64 m0 m1 (k0_pay60 U wg) kg)
    = act m0 m1 U wg wu kg ku := rfl

theorem pay68_eq : k0_pay68 m0 m1 (k0_pay66 U wu) (k0_pay67 m0 m1 U wg kg) ku
    = act m0 m1 U wg wu kg ku := rfl

theorem pay77_eq : k0_pay77 (k0_pay71 m0 m1 (k0_pay69 U wg) kg) (k0_pay74 m1 U wu) (k0_pay75 m0 U wu ku) (k0_pay76 ku)
    = act m0 m1 U wg wu kg ku := rfl

end

/-- The mask that holds at a sequence's first row. -/
theorem mask0 (r : Fin 1024) (n : Fin 256) : (k0_pay4 (ix2 r n) : BitVec 1) = if r.val % 256 = 0 then 1#1 else 0#1 := by
  have h : ∀ r : Fin 1024, IntOp.cmpi .eq (IntOp.remsi .vector (BitVec.ofNat 32 r.val) 256#32) 0#32 = if r.val % 256 = 0 then 1#1 else 0#1 := by decide +kernel
  rw [← h r]
  unfold k0_pay4 k0_pay3
  pointwise

/-- The mask that holds at a sequence's last row. -/
theorem mask1 (r : Fin 1024) (n : Fin 256) : (k0_pay5 (ix2 r n) : BitVec 1) = if r.val % 256 = 255 then 1#1 else 0#1 := by
  have h : ∀ r : Fin 1024, IntOp.cmpi .eq (IntOp.remsi .vector (BitVec.ofNat 32 r.val) 256#32) 255#32 = if r.val % 256 = 255 then 1#1 else 0#1 := by decide +kernel
  rw [← h r]
  unfold k0_pay5 k0_pay3
  pointwise

/-- The three-tap convolution along the rows of a tile of four sequences. -/
def conv (H : Fin 1024 → EReal) (k : Fin 3 → EReal) (r : Fin 1024) : EReal :=
  (if h : r.val % 256 = 0 then 0 else H ⟨r.val - 1, by omega⟩) * k 0 + H r * k 1
    + (if h : r.val % 256 = 255 then 0 else H ⟨r.val + 1, by omega⟩) * k 2

/-- One hidden column after the convolution. -/
theorem conv_apply (U : FVec Ideal S1024x1024 .bf16) (w : FVec Ideal S1x1024x256 .bf16) (k : FVec Ideal S1x3x256 .f32) (r : Fin 1024) (n : Fin 256) :
    (k0_pay7 (F := Ideal) k0_pay4 k0_pay5 U w k (ix2 r n) : EReal) = conv (fun x => ∑ e : Fin 1024, (U (ix2 x e) : EReal) * w (ix3 0 e n)) (fun a => k (ix3 0 a n)) r := by
  have hH : ∀ x : Fin 1024, (k0_pay6 (F := Ideal) U w (ix2 x n) : EReal) = ∑ e : Fin 1024, (U (ix2 x e) : EReal) * w (ix3 0 e n) := by
    intro x
    unfold k0_pay6
    pointwise [dot_S1024x1024_S1024x256_S1024x256_1_0_0_1_n_n]
  simp only [← hH]
  unfold k0_pay7
  change _ = conv (fun x => k0_pay6 (F := Ideal) U w (ix2 x n)) _ _
  unfold k0_pay6
  dsimp only
  generalize matmul dot_S1024x1024_S1024x256_S1024x256_1_0_0_1_n_n none U (shapeCast S1024x256 w shapeCasts_S1x1024x256_S1024x256) (constant S1024x256 .f32 0x00000000#32) = H
  pointwise
  rw [mask0, mask1]
  unfold conv
  refine congrArg₂ _ (congrArg₂ _ ?_ rfl) ?_
  · by_cases h : r.val % 256 = 0
    · rw [if_pos h, dif_pos h]
      exact (zero_mul (M₀ := EReal) _).symm
    · rw [if_neg h, dif_neg h]
      refine congrArg (fun x : Fin 1024 => (H (ix2 x n) : EReal) * k (ix3 0 0 n)) (Fin.ext ?_)
      show (r.val + 1024 - 1) % 1024 = r.val - 1
      omega
  · by_cases h : r.val % 256 = 255
    · rw [if_pos h, dif_pos h]
      exact (zero_mul (M₀ := EReal) _).symm
    · rw [if_neg h, dif_neg h]
      refine congrArg (fun x : Fin 1024 => (H (ix2 x n) : EReal) * k (ix3 0 2 n)) (Fin.ext ?_)
      show (r.val + 1024 - 1023) % 1024 = r.val + 1
      omega

/-- One chunk read at an index. -/
theorem act_apply (U : FVec Ideal S1024x1024 .bf16) (wg wu : FVec Ideal S1x1024x256 .bf16)
    (kg ku : FVec Ideal S1x3x256 .f32) (r : Fin 1024) (n : Fin 256) :
    act k0_pay4 k0_pay5 U wg wu kg ku (ix2 r n)
      = gated (conv (fun x => ∑ e : Fin 1024, (U (ix2 x e) : EReal) * wg (ix3 0 e n)) (fun a => kg (ix3 0 a n)) r)
          (conv (fun x => ∑ e : Fin 1024, (U (ix2 x e) : EReal) * wu (ix3 0 e n)) (fun a => ku (ix3 0 a n)) r) := by
  rw [← conv_apply, ← conv_apply]
  unfold act
  generalize k0_pay7 (F := Ideal) k0_pay4 k0_pay5 U wg kg = G
  generalize k0_pay7 (F := Ideal) k0_pay4 k0_pay5 U wu ku = V
  pointwise
  rfl

end Cert.FfnC
-- ==== Proof.CtxBody.lean ====
/-
  What one grid point of the prompt's feed-forward kernel writes: 1024 rows, four sequences. `out_apply` reads the
  body's block as `outVal`.
-/
module

public import proofs.«01_k».proof.Proof.CtxChunk
public import proofs.«01_k».proof.Proof.FfnBody

@[expose] public section

set_option maxRecDepth 16384

noncomputable section

namespace Cert.FfnC

open Cert.FfnCtxIdeal Cert.FfnCtxIdeal.Gen Idealize.ShloMosaic Idealize.ShloMosaic.TcCoe Idealize.SL.Sem
open Cert.Attn (rms)
open Cert.Ffn1 (gated urow)

theorem pay2_at (sh sc g : Vec Ideal S1x1x1024 .f32) (x0 : Vec Ideal S1024x1024 .f32) (r e : Fin 1024) :
    (k0_pay2 (F := Ideal) sh sc g x0 (ix2 r e) : EReal)
      = urow (fun k => x0 (ix2 r k)) (fun k => g (ix3 0 0 k)) (fun k => sc (ix3 0 0 k)) (fun k => sh (ix3 0 0 k)) e := by
  unfold k0_pay2
  pointwise
  rfl

/-- The scratch the one whole store fills, read back: the stored rows. -/
theorem ubuf_at (x0 : Vec Ideal S1024x1024 .f32) (sh sc g : Vec Ideal S1x1x1024 .f32) (r e : Fin 1024) :
    View.readCov (Val := Elt Ideal) scM0_0.view [⟨Rect.unit (s := S1024x1024) ![0, 0] ![1024, 1024] inb_S1024x1024_S1024x1024_0_0, k0_pay2 (F := Ideal) sh sc g x0⟩]
        (Rect.unit (s := S1024x1024) ![0, 0] ![1024, 1024] inb_S1024x1024_S1024x1024_0_0).toLoadRect (ix2 r e)
      = urow (fun k => x0 (ix2 r k)) (fun k => g (ix3 0 0 k)) (fun k => sc (ix3 0 0 k)) (fun k => sh (ix3 0 0 k)) e := by
  rw [View.readCov_eq_canon']
  simp (disch := decide) only [View.canon_cons_unit_lit, View.ld_unit_lit]
  have hr : (Rect.unit (s := S1024x1024) ![0, 0] ![1024, 1024] inb_S1024x1024_S1024x1024_0_0).toLoadRect.idx (ix2 r e) = ix2 r e := by
    funext k
    apply Fin.ext
    match k with
    | 0 => exact (Rect.idx_unit_val _ _ _ _ _).trans (Nat.zero_add _)
    | 1 => exact (Rect.idx_unit_val _ _ _ _ _).trans (Nat.zero_add _)
  rw [hr]
  exact pay2_at sh sc g x0 r e

section
variable (x0 : Vec Ideal S1024x1024 .f32) (g sc sh : Fin 1024 → EReal) (x4 : Vec Ideal S1x1024x5632 .bf16) (x5 : Vec Ideal S1x3x5632 .f32)

/-- One hidden column of the up-projection at a row. -/
def bh (n : Fin 5632) (r : Fin 1024) : EReal := ∑ e : Fin 1024, urow (fun k => x0 (ix2 r k)) g sc sh e * x4 (ix3 0 e n)

/-- One hidden column after the convolution. -/
def bconv (n : Fin 5632) (r : Fin 1024) : EReal := conv (bh x0 g sc sh x4 n) (fun a => x5 (ix3 0 a n)) r

/-- The activation: the gate column and the up column half the hidden width further. -/
def bact (r : Fin 1024) (j : Fin 2816) : EReal :=
  gated (bconv x0 g sc sh x4 x5 ⟨j.val, by omega⟩ r) (bconv x0 g sc sh x4 x5 ⟨2816 + j.val, by omega⟩ r)

/-- One store into the activation scratch: columns from `o`. -/
theorem piece_at (U : FVec Ideal S1024x1024 .bf16) (hU : ∀ r e, U (ix2 r e) = urow (fun k => x0 (ix2 r k)) g sc sh e) (o o' : ℕ) (ho' : o' = 2816 + o)
    (i6 : ∀ a, ![0, 0, o] a + ![1, 1024, 256] a ≤ S1x1024x5632.size a) (i6' : ∀ a, ![0, 0, o'] a + ![1, 1024, 256] a ≤ S1x1024x5632.size a)
    (i7 : ∀ a, ![0, 0, o] a + ![1, 3, 256] a ≤ S1x3x5632.size a) (i7' : ∀ a, ![0, 0, o'] a + ![1, 3, 256] a ≤ S1x3x5632.size a)
    (x : S1024x256.Idx) (r : Fin 1024) (j : Fin 2816) (hr : r.val = (x 0).val) (hj : j.val = o + (x 1).val) :
    act k0_pay4 k0_pay5 U (View.ld x4 (Rect.unit ![0, 0, o] ![1, 1024, 256] i6)) (View.ld x4 (Rect.unit ![0, 0, o'] ![1, 1024, 256] i6'))
      (View.ld x5 (Rect.unit ![0, 0, o] ![1, 3, 256] i7)) (View.ld x5 (Rect.unit ![0, 0, o'] ![1, 3, 256] i7')) x
      = bact x0 g sc sh x4 x5 r j := by
  subst ho'
  obtain ⟨l, hl⟩ : ∃ l : Fin 256, l = x 1 := ⟨_, rfl⟩
  have hx : x = ix2 r l := by
    funext a
    apply Fin.ext
    match a with
    | 0 => exact hr.symm
    | 1 => exact (congrArg Fin.val hl).symm
  have hj' : j.val = o + l.val := hj.trans (by rw [hl])
  have ld4 : ∀ (p : ℕ) (i : ∀ a, ![0, 0, p] a + ![1, 1024, 256] a ≤ S1x1024x5632.size a) (e : Fin 1024) (n : Fin 5632), n.val = p + l.val →
      View.ld x4 (Rect.unit ![0, 0, p] ![1, 1024, 256] i) (ix3 0 e l) = x4 (ix3 0 e n) := fun p i e n hn =>
    View.ld_unit_apply_of _ _ _ _ _ _ fun a => by
      match a with
      | 0 => rfl
      | 1 => exact (Nat.zero_add _).symm
      | 2 => exact hn
  have ld5 : ∀ (p : ℕ) (i : ∀ a, ![0, 0, p] a + ![1, 3, 256] a ≤ S1x3x5632.size a) (e : Fin 3) (n : Fin 5632), n.val = p + l.val →
      View.ld x5 (Rect.unit ![0, 0, p] ![1, 3, 256] i) (ix3 0 e l) = x5 (ix3 0 e n) := fun p i e n hn =>
    View.ld_unit_apply_of _ _ _ _ _ _ fun a => by
      match a with
      | 0 => rfl
      | 1 => exact (Nat.zero_add _).symm
      | 2 => exact hn
  rw [hx, act_apply]
  unfold bact bconv bh
  simp only [hU]
  refine congrArg₂ gated (congrArg₂ (fun H k => conv H k r) (funext fun y => Finset.sum_congr rfl fun e _ => congrArg _ ?_) (funext fun a => ?_))
    (congrArg₂ (fun H k => conv H k r) (funext fun y => Finset.sum_congr rfl fun e _ => congrArg _ ?_) (funext fun a => ?_))
  · exact ld4 _ _ e _ hj'
  · exact ld5 _ _ a _ hj'
  · exact ld4 _ _ e _ (by show 2816 + j.val = _; omega)
  · exact ld5 _ _ a _ (by show 2816 + j.val = _; omega)

end

/-- The down-projection, the norm, the gate and the residual, from the activation. -/
def outVal (x0 : Vec Ideal S1024x1024 .f32) (gate gp : Vec Ideal S1x1x1024 .f32) (x6 : Vec Ideal S1x2816x1024 .bf16)
    (o : Fin 1024 → Fin 2816 → EReal) (r n : Fin 1024) : EReal :=
  x0 (ix2 r n) + gate (ix3 0 0 n) * gp (ix3 0 0 n) * ((∑ e : Fin 2816, o r e * x6 (ix3 0 e n)) * rms fun k => ∑ e : Fin 2816, o r e * x6 (ix3 0 e k))

theorem finish (A : Vec Ideal S1024x2816 .bf16) (o : Fin 1024 → Fin 2816 → EReal) (hA : ∀ r e, A (ix2 r e) = o r e)
    (x0 : Vec Ideal S1024x1024 .f32) (gate gp : Vec Ideal S1x1x1024 .f32) (x6 : Vec Ideal S1x2816x1024 .bf16) (r n : Fin 1024) :
    (k0_pay1 (F := Ideal) x0 (k0_pay78 A x6) (k0_pay79 gate gp) (ix2 r n) : EReal) = outVal x0 gate gp x6 o r n := by
  unfold k0_pay1 k0_pay78 k0_pay79
  pointwise [dot_S1024x2816_S2816x1024_S1024x1024_1_0_0_1_n_n]
  simp only [hA]
  rfl

theorem out_apply (c : Dev nD) (t : Fin cfg0.N)
    (x0 : Vec Ideal S1024x1024 .f32) (x1 : Vec Ideal S1x1x6144 .f32)
    (x2 x3 : Vec Ideal S1x1x1024 .f32) (x4 : Vec Ideal S1x1024x5632 .bf16) (x5 : Vec Ideal S1x3x5632 .f32) (x6 : Vec Ideal S1x2816x1024 .bf16) (r n : Fin 1024) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) x0 x1 x2 x3 x4 x5 x6 (ix2 r n)
      = outVal x0 (View.ld x1 (Rect.unit ![0, 0, 5120] ![1, 1, 1024] (by decide))) x3 x6
          (bact x0 (fun k => x2 (ix3 0 0 k)) (fun k => View.ld x1 (Rect.unit (s := S1x1x6144) ![0, 0, 4096] ![1, 1, 1024] (by decide)) (ix3 0 0 k))
            (fun k => View.ld x1 (Rect.unit (s := S1x1x6144) ![0, 0, 3072] ![1, 1, 1024] (by decide)) (ix3 0 0 k)) x4 x5) r n := by
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  simp (disch := decide) only [View.canon_cons_unit_lit, View.ld_unit_lit]
  refine finish _ _ ?_ _ _ _ _ r n
  intro r e
  rw [View.readCov_eq_canon']
  beta_reduce
  have hr : (Rect.unit (s := S1024x2816) ![0, 0] ![1024, 2816] inb_S1024x2816_S1024x2816_0_0).toLoadRect.idx (ix2 r e) = ix2 r e := by
    funext k
    apply Fin.ext
    match k with
    | 0 => exact (Rect.idx_unit_val _ _ _ _ _).trans (Nat.zero_add _)
    | 1 => exact (Rect.idx_unit_val _ _ _ _ _).trans (Nat.zero_add _)
  rw [hr]
  simp only [pay13_eq, pay19_eq, pay23_eq, pay29_eq, pay37_eq, pay45_eq, pay52_eq, pay59_eq, pay65_eq, pay68_eq, pay77_eq]
  canon_tiles x h
  case piece0 => exact piece_at x0 _ _ _ x4 x5 _ (ubuf_at x0 _ _ x2) 2560 5376 rfl _ _ _ _ x r e h0 h1
  case piece1 => exact piece_at x0 _ _ _ x4 x5 _ (ubuf_at x0 _ _ x2) 2304 5120 rfl _ _ _ _ x r e h0 h1
  case piece2 => exact piece_at x0 _ _ _ x4 x5 _ (ubuf_at x0 _ _ x2) 2048 4864 rfl _ _ _ _ x r e h0 h1
  case piece3 => exact piece_at x0 _ _ _ x4 x5 _ (ubuf_at x0 _ _ x2) 1792 4608 rfl _ _ _ _ x r e h0 h1
  case piece4 => exact piece_at x0 _ _ _ x4 x5 _ (ubuf_at x0 _ _ x2) 1536 4352 rfl _ _ _ _ x r e h0 h1
  case piece5 => exact piece_at x0 _ _ _ x4 x5 _ (ubuf_at x0 _ _ x2) 1280 4096 rfl _ _ _ _ x r e h0 h1
  case piece6 => exact piece_at x0 _ _ _ x4 x5 _ (ubuf_at x0 _ _ x2) 1024 3840 rfl _ _ _ _ x r e h0 h1
  case piece7 => exact piece_at x0 _ _ _ x4 x5 _ (ubuf_at x0 _ _ x2) 768 3584 rfl _ _ _ _ x r e h0 h1
  case piece8 => exact piece_at x0 _ _ _ x4 x5 _ (ubuf_at x0 _ _ x2) 512 3328 rfl _ _ _ _ x r e h0 h1
  case piece9 => exact piece_at x0 _ _ _ x4 x5 _ (ubuf_at x0 _ _ x2) 256 3072 rfl _ _ _ _ x r e h0 h1
  case piece10 => exact piece_at x0 _ _ _ x4 x5 _ (ubuf_at x0 _ _ x2) 0 2816 rfl _ _ _ _ x r e h0 (h1.trans (Nat.zero_add _).symm)

end Cert.FfnC
-- ==== Proof.CtxSpec.lean ====
/-
  The prompt's feed-forward sublayer in mathematics, from the arguments: both the kernel's array and the reference's result are
  read as `ffnG`.
-/
module

public import proofs.«01_k».proof.Proof.CtxBody

@[expose] public section

set_option maxRecDepth 8192

noncomputable section

namespace Cert.FfnC

open Cert.FfnCtxIdeal Idealize.ShloMosaic
open Cert.Attn (rms)
open Cert.Ffn1 (gated urow)

section
variable (A0 : FVec Ideal S8192x1024 .f32) (A1 : FVec Ideal S1x1x6144 .f32) (A2 : FVec Ideal S2x1024 .f32)
  (A4 : FVec Ideal S1024x5632 .bf16) (A5 : FVec Ideal S2x3x5632 .f32) (A6 : FVec Ideal S2816x1024 .bf16)

/-- Row `R` normalized, with the prompt's scale and shift. -/
def gu (R : Fin 8192) (e : Fin 1024) : EReal :=
  urow (fun k => A0 (ix2 R k)) (fun k => A2 (ix2 (1 : Fin 2) k))
    (fun k => A1 (ix3 0 0 (⟨4096 + k.val, by omega⟩ : Fin 6144)))
    (fun k => A1 (ix3 0 0 (⟨3072 + k.val, by omega⟩ : Fin 6144))) e

/-- Hidden column `n` of row `R`. -/
def gh (R : Fin 8192) (n : Fin 5632) : EReal := ∑ e : Fin 1024, gu A0 A1 A2 R e * A4 (ix2 e n)

/-- The three-tap convolution along a sequence, zero beyond its ends. -/
def gconv (R : Fin 8192) (n : Fin 5632) : EReal :=
  (if h : R.val % 256 = 0 then 0 else gh A0 A1 A2 A4 ⟨R.val - 1, by omega⟩ n) * A5 (ix3 (1 : Fin 2) (0 : Fin 3) n)
    + gh A0 A1 A2 A4 R n * A5 (ix3 (1 : Fin 2) (1 : Fin 3) n)
    + (if h : R.val % 256 = 255 then 0 else gh A0 A1 A2 A4 ⟨R.val + 1, by omega⟩ n) * A5 (ix3 (1 : Fin 2) (2 : Fin 3) n)

/-- The gated activation. -/
def gact (R : Fin 8192) (j : Fin 2816) : EReal :=
  gated (gconv A0 A1 A2 A4 A5 R ⟨j.val, by omega⟩) (gconv A0 A1 A2 A4 A5 R ⟨2816 + j.val, by omega⟩)

/-- The down-projection. -/
def gy (R : Fin 8192) (n : Fin 1024) : EReal := ∑ e : Fin 2816, gact A0 A1 A2 A4 A5 R e * A6 (ix2 e n)

/-- The sublayer's result: residual plus gate times the normalized down-projection. -/
def ffnG (A3 : FVec Ideal S2x1024 .f32) (R : Fin 8192) (n : Fin 1024) : EReal :=
  A0 (ix2 R n) + A1 (ix3 0 0 (⟨5120 + n.val, by omega⟩ : Fin 6144)) * A3 (ix2 (1 : Fin 2) n)
    * (gy A0 A1 A2 A4 A5 A6 R n * rms (gy A0 A1 A2 A4 A5 A6 R))

end

end Cert.FfnC
-- ==== Proof.CtxArray.lean ====
/-
  The result array of the prompt's feed-forward kernel after the run, at every index, from the arguments: `ffnG`.
-/
module

public import proofs.«01_k».proof.Proof.CtxSpec

@[expose] public section

set_option maxRecDepth 16384

noncomputable section

namespace Cert.FfnC

open Cert.FfnCtxIdeal Cert.FfnCtxIdeal.Gen Cert.FfnCtxIdeal.Value Idealize.ShloMosaic Idealize.ShloMosaic.TcCoe Idealize.SL.Sem
open Cert.Attn (rms)
open Cert.Ffn1 (gated urow)

/-- Where each window's block stands at a grid point: tile `t` of 1024 rows, and the parameters whole. -/
theorem win_idx : ∀ t : Fin cfg0.N, win0_0.index t = ![t.val, 0] ∧ win0_1.index t = ![0, 0, 0] ∧ win0_2.index t = ![1, 0, 0] ∧ win0_3.index t = ![1, 0, 0]
    ∧ win0_4.index t = ![0, 0, 0] ∧ win0_5.index t = ![1, 0, 0] ∧ win0_6.index t = ![0, 0, 0] ∧ win0_7.index t = ![t.val, 0] :=
  (by decide +kernel : ∀ t : Fin grid0.N, win0_0.index t = ![t.val, 0] ∧ win0_1.index t = ![0, 0, 0] ∧ win0_2.index t = ![1, 0, 0] ∧ win0_3.index t = ![1, 0, 0]
    ∧ win0_4.index t = ![0, 0, 0] ∧ win0_5.index t = ![1, 0, 0] ∧ win0_6.index t = ![0, 0, 0] ∧ win0_7.index t = ![t.val, 0])

variable (m : (ℓ : Loc nD τ sig) → Buf (Elt Ideal) ℓ) (c : Dev nD)

theorem lt8 (t : Fin cfg0.N) : t.val < 8 := t.isLt

theorem blk0 (t : Fin cfg0.N) (r : Fin 1024) (n : Fin 1024) :
    iblk m c 0 t (ix2 r n) = m ((c : Thread nD τ).loc main_arg0) (ix2 (⟨t.val * 1024 + r.val, by have := lt8 t; omega⟩ : Fin 8192) n) := by
  blk_ext [iblk, V, win_idx t]

theorem blk1 (t : Fin cfg0.N) (n : Fin 6144) :
    iblk m c 1 t (ix3 0 0 n) = m ((c : Thread nD τ).loc main_arg1) (ix3 0 0 n) := by
  blk_ext [iblk, V, win_idx t]

theorem blk2 (t : Fin cfg0.N) (n : Fin 1024) :
    iblk m c 2 t (ix3 0 0 n) = m ((c : Thread nD τ).loc main_arg2) (ix2 (1 : Fin 2) n) := by
  blk_point [iblk, V, win_idx t]

theorem blk3 (t : Fin cfg0.N) (n : Fin 1024) :
    iblk m c 3 t (ix3 0 0 n) = m ((c : Thread nD τ).loc main_arg3) (ix2 (1 : Fin 2) n) := by
  blk_point [iblk, V, win_idx t]

theorem blk4 (t : Fin cfg0.N) (e : Fin 1024) (n : Fin 5632) :
    iblk m c 4 t (ix3 0 e n) = m ((c : Thread nD τ).loc main_arg4) (ix2 e n) := by
  blk_point [iblk, V, win_idx t]

theorem blk5 (t : Fin cfg0.N) (a : Fin 3) (n : Fin 5632) :
    iblk m c 5 t (ix3 0 a n) = m ((c : Thread nD τ).loc main_arg5) (ix3 (1 : Fin 2) a n) := by
  blk_ext [iblk, V, win_idx t]

theorem blk6 (t : Fin cfg0.N) (e : Fin 2816) (n : Fin 1024) :
    iblk m c 6 t (ix3 0 e n) = m ((c : Thread nD τ).loc main_arg6) (ix2 e n) := by
  blk_point [iblk, V, win_idx t]

/-- A slice of 1024 modulation values. -/
theorem mod_at (t : Fin cfg0.N) (o : ℕ) (i : ∀ a, ![0, 0, o] a + ![1, 1, 1024] a ≤ S1x1x6144.size a) (k : Fin 1024) (n : Fin 6144) (hn : n.val = o + k.val) :
    View.ld (iblk m c 1 t : Vec Ideal S1x1x6144 .f32) (Rect.unit (s := S1x1x6144) ![0, 0, o] ![1, 1, 1024] i) (ix3 0 0 k)
      = m ((c : Thread nD τ).loc main_arg1) (ix3 0 0 n) := by
  refine (View.ld_unit_apply_of _ _ _ _ _ (ix3 0 0 n) fun a => ?_).trans (blk1 m c t n)
  match a with
  | 0 => rfl
  | 1 => rfl
  | 2 => exact hn

/-- The gain, scale and shift blocks as the body reads them. -/
abbrev gB (t : Fin cfg0.N) (k : Fin 1024) : EReal := iblk m c 2 t (ix3 0 0 k)
abbrev scB (t : Fin cfg0.N) (k : Fin 1024) : EReal :=
  View.ld (iblk m c 1 t : Vec Ideal S1x1x6144 .f32) (Rect.unit (s := S1x1x6144) ![0, 0, 4096] ![1, 1, 1024] (by decide)) (ix3 0 0 k)
abbrev shB (t : Fin cfg0.N) (k : Fin 1024) : EReal :=
  View.ld (iblk m c 1 t : Vec Ideal S1x1x6144 .f32) (Rect.unit (s := S1x1x6144) ![0, 0, 3072] ![1, 1, 1024] (by decide)) (ix3 0 0 k)

/-- A block's row has the hidden columns of the array's row. -/
theorem bh_eq (t : Fin cfg0.N) (r : Fin 1024) (R : Fin 8192) (hR : R.val = t.val * 1024 + r.val) (n : Fin 5632) :
    bh (iblk m c 0 t) (gB m c t) (scB m c t) (shB m c t) (iblk m c 4 t) n r
      = gh (m ((c : Thread nD τ).loc main_arg0)) (m ((c : Thread nD τ).loc main_arg1)) (m ((c : Thread nD τ).loc main_arg2)) (m ((c : Thread nD τ).loc main_arg4)) R n := by
  have ht := lt8 t
  have hRe : (⟨t.val * 1024 + r.val, by omega⟩ : Fin 8192) = R := Fin.ext hR.symm
  unfold bh gh gu
  refine Finset.sum_congr rfl fun e _ => congrArg₂ _ ?_ (blk4 m c t e n)
  rw [show (fun k : Fin 1024 => iblk m c 0 t (ix2 r k)) = fun k => m ((c : Thread nD τ).loc main_arg0) (ix2 R k) from
      funext fun k => (blk0 m c t r k).trans (by rw [hRe]),
    show gB m c t = fun k => m ((c : Thread nD τ).loc main_arg2) (ix2 (1 : Fin 2) k) from funext fun k => blk2 m c t k,
    show scB m c t = _ from funext fun k => mod_at m c t 4096 _ k ⟨4096 + k.val, by omega⟩ rfl,
    show shB m c t = _ from funext fun k => mod_at m c t 3072 _ k ⟨3072 + k.val, by omega⟩ rfl]

/-- The convolution of a block's row is that of the array's row. -/
theorem bconv_eq (t : Fin cfg0.N) (r : Fin 1024) (R : Fin 8192) (hR : R.val = t.val * 1024 + r.val) (n : Fin 5632) :
    bconv (iblk m c 0 t) (gB m c t) (scB m c t) (shB m c t) (iblk m c 4 t) (iblk m c 5 t) n r
      = gconv (m ((c : Thread nD τ).loc main_arg0)) (m ((c : Thread nD τ).loc main_arg1)) (m ((c : Thread nD τ).loc main_arg2)) (m ((c : Thread nD τ).loc main_arg4))
          (m ((c : Thread nD τ).loc main_arg5)) R n := by
  unfold bconv conv gconv
  refine congrArg₂ _ (congrArg₂ _ (congrArg₂ _ ?_ (blk5 m c t 0 n)) (congrArg₂ _ (bh_eq m c t r R hR n) (blk5 m c t 1 n))) (congrArg₂ _ ?_ (blk5 m c t 2 n))
  · by_cases h : r.val % 256 = 0
    · rw [dif_pos h, dif_pos (by omega)]
    · rw [dif_neg h, dif_neg (by omega)]
      exact bh_eq m c t _ _ (by show R.val - 1 = t.val * 1024 + (r.val - 1); omega) n
  · by_cases h : r.val % 256 = 255
    · rw [dif_pos h, dif_pos (by omega)]
    · rw [dif_neg h, dif_neg (by omega)]
      exact bh_eq m c t _ _ (by show R.val + 1 = t.val * 1024 + (r.val + 1); omega) n

/-- The result array after the run. -/
theorem arr_eq : (dats m 0 c).arrAt 7 cfg0.N = fun i : S8192x1024.Idx =>
    ffnG (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg3)) (i 0) (i 1) := by
  refine (dats m 0 c).arrAt_eq_of_covers 7 _ (by decide +kernel) fun t hf y => ?_
  blk_simp
  rw [after0_7]
  simp only [outsAt0]
  obtain ⟨r, n, hy⟩ : ∃ (r : Fin 1024) (n : Fin 1024), ((cfg0.win 7).xinj (cfg0.grid.coords t) y : S1024x1024.Idx) = ix2 r n :=
    ⟨_, _, (by funext a; match a with | 0 => rfl | 1 => rfl : _ = ix2 (((cfg0.win 7).xinj (cfg0.grid.coords t) y : S1024x1024.Idx) 0) (((cfg0.win 7).xinj (cfg0.grid.coords t) y : S1024x1024.Idx) 1))⟩
  have hi := win_idx t
  have ht := lt8 t
  have hR : ((((cfg0.win 7).blk t).view.emb y) 0).val = t.val * 1024 + r.val := by
    have h0 : r.val = (y 0).val := (congrArg (fun i : S1024x1024.Idx => (i 0).val) hy).symm
    blk_simp [hi]
    simp
    omega
  have hN : ((((cfg0.win 7).blk t).view.emb y) 1).val = n.val := by
    have h0 : n.val = (y 1).val := (congrArg (fun i : S1024x1024.Idx => (i 1).val) hy).symm
    blk_simp [hi]
    simp
    omega
  refine (congrArg _ hy).trans ((out_apply c t _ _ _ _ _ _ _ r n).trans ?_)
  obtain ⟨R, hRd⟩ : ∃ R : Fin 8192, R = (((cfg0.win 7).blk t).view.emb y) 0 := ⟨_, rfl⟩
  have hN' : n = (((cfg0.win 7).blk t).view.emb y) 1 := Fin.ext hN.symm
  rw [← hRd] at hR ⊢
  rw [← hN']
  unfold outVal ffnG gy
  have h6 : ∀ k : Fin 1024, (∑ e : Fin 2816, bact (iblk m c 0 t) (gB m c t) (scB m c t) (shB m c t) (iblk m c 4 t) (iblk m c 5 t) r e * iblk m c 6 t (ix3 0 e k))
      = ∑ e : Fin 2816, gact (m ((c : Thread nD τ).loc main_arg0)) (m ((c : Thread nD τ).loc main_arg1)) (m ((c : Thread nD τ).loc main_arg2))
          (m ((c : Thread nD τ).loc main_arg4)) (m ((c : Thread nD τ).loc main_arg5)) R e * m ((c : Thread nD τ).loc main_arg6) (ix2 e k) := fun k =>
    Finset.sum_congr rfl fun e _ => congrArg₂ _ (congrArg₂ gated (bconv_eq m c t r R hR _) (bconv_eq m c t r R hR _)) (blk6 m c t e k)
  refine congrArg₂ _ ((blk0 m c t r n).trans ?_) (congrArg₂ _ (congrArg₂ _ (mod_at m c t 5120 _ n ⟨5120 + n.val, by omega⟩ rfl) (blk3 m c t n))
    (congrArg₂ _ (h6 n) (congrArg rms (funext h6))))
  congr 2; exact Fin.ext hR.symm

end Cert.FfnC
-- ==== Proof.CtxRef.lean ====
/-
  The reference of the prompt's feed-forward sublayer, read: its result is `ffnG` of the arguments. Rows are numbered by the
  sequence `b` and the position `s` in it.
-/
module

public import proofs.«01_k».proof.Proof.CtxSpec
public import proofs.«01_k».proof.Proof.AttnRef
public import proofs.«01_k».proof.Proof.Gen.FfnCtxReferenceIdeal.Read
public import Idealize.ShloMosaic.Lib.KernelVsHost
public import Idealize.ShloMosaic.Lib.IdealHost

@[expose] public section

set_option maxRecDepth 8192

noncomputable section

namespace Cert.FfnC

open Cert.FfnCtxReferenceIdeal Cert.FfnCtxReferenceIdeal.Gen Cert.FfnCtxReferenceIdeal.Read Idealize.ShloMosaic Idealize.ShloMosaic.TcCoe
open Cert.Attn (rms bits_zero reorder)
open Cert.Ffn1 (gated urow)

section
variable (X0 : FVec Ideal S8192x1024 .f32) (X1 : FVec Ideal S1x1x6144 .f32) (X2 : FVec Ideal S2x1024 .f32)

/-- The residual's row, split by sequence. -/
theorem row_ref (b : Fin 32) (s : Fin 256) (e : Fin 1024) :
    val_main_v0 (F := Ideal) X0 (ix3 b s e) = X0 (ix2 (⟨b.val * 256 + s.val, by omega⟩ : Fin 8192) e) := by
  rw [val_main_v0_apply]
  refine congrArg X0 (funext fun a => Fin.ext ?_)
  match a with
  | ⟨0, _⟩ => dsimp [ix2, ix3]; omega
  | ⟨1, _⟩ => dsimp [ix2, ix3]; omega

/-- The first norm's scale. -/
theorem norm_ref (b : Fin 32) (s : Fin 256) (e : Fin 1024) :
    val_main_v17 (F := Ideal) X0 (ix3 b s e) = rms fun k => X0 (ix2 (⟨b.val * 256 + s.val, by omega⟩ : Fin 8192) k) := by
  rw [val_main_v17_apply, val_main_v16_apply, val_main_v15_apply, val_main_v13_apply, val_main_v11_apply, val_main_v10_apply, val_main_cst_apply]
  have hz : (FloatOps.ofBits FTy.f32 0x00000000#32 : Ideal .f32) = (0 : EReal) := bits_zero
  have hsum : (FloatOps.ofBits FTy.f32 0x00000000#32 : Ideal .f32) + ∑ k : Fin 1024, val_main_v9 (F := Ideal) X0
        (idx_main_v10 (idx_main_v11 (idx_main_v17 (ix3 b s e))) k)
      = ∑ k : Fin 1024, (X0 (ix2 (⟨b.val * 256 + s.val, by omega⟩ : Fin 8192) k) : EReal) * X0 (ix2 (⟨b.val * 256 + s.val, by omega⟩ : Fin 8192) k) := by
    rw [hz]
    refine (zero_add _).trans (Finset.sum_congr rfl fun q _ => ?_)
    have he : idx_main_v10 (idx_main_v11 (idx_main_v17 (ix3 b s e))) q = ix3 b s q := funext fun a => by
      match a with
      | ⟨0, _⟩ => rfl
      | ⟨1, _⟩ => rfl
      | ⟨2, _⟩ => rfl
    rw [he, val_main_v9_apply, row_ref]
    rfl
  rw [hsum]
  rfl

/-- The normalized, modulated row. -/
theorem u_ref (b : Fin 32) (s : Fin 256) (e : Fin 1024) :
    val_main_v27 (F := Ideal) X0 X1 X2 (ix3 b s e) = gu X0 X1 X2 ⟨b.val * 256 + s.val, by omega⟩ e := by
  rw [val_main_v27_apply, val_main_v25_apply, val_main_v21_apply, val_main_v18_apply, row_ref, norm_ref, val_main_v20_apply,
    val_main_v19_apply, val_main_v8_apply, val_main_v7_apply, val_main_v24_apply, val_main_v23_apply, val_main_v22_apply, val_main_cst_2_apply,
    val_main_v5_apply, val_main_v26_apply, val_main_v4_apply]
  have e2 : idx_main_v7 (idx_main_v8 (idx_main_v19 (idx_main_v20 (ix3 b s e)))) = ix2 (1 : Fin 2) e := funext fun a => Fin.ext (by
    match a with
    | ⟨0, _⟩ => dsimp [ix2, ix3]; try omega
    | ⟨1, _⟩ => dsimp [ix2, ix3]; try omega)
  have e5 : idx_main_v5 (idx_main_v24 (ix3 b s e)) = ix3 0 0 (⟨4096 + e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e4 : idx_main_v4 (idx_main_v26 (ix3 b s e)) = ix3 0 0 (⟨3072 + e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  rw [e2, e5, e4]
  unfold gu urow
  have h1 : (FloatOps.ofBits FTy.f32 0x3F800000#32 : Ideal .f32) = (1 : EReal) := Ideal.ofBits_one_f32
  rw [h1]
  refine congrArg₂ (fun x y : EReal => x + y) ?_ rfl
  exact mul_assoc (G := EReal) _ _ _

variable (X4 : FVec Ideal S1024x5632 .bf16)

/-- The up projection. -/
theorem h_ref (b : Fin 32) (s : Fin 256) (n : Fin 5632) :
    val_main_v32 (F := Ideal) X0 X1 X2 X4 (ix3 b s n) = gh X0 X1 X2 X4 ⟨b.val * 256 + s.val, by omega⟩ n := by
  rw [val_main_v32_apply]
  refine Finset.sum_congr rfl fun e _ => ?_
  rw [← u_ref, val_main_v28_apply]
  refine congrArg₂ (fun x y : EReal => x * y) (congrArg _ (funext fun a => ?_)) (congrArg X4 (funext fun a => ?_))
  · match a with
    | ⟨0, _⟩ => rfl
    | ⟨1, _⟩ => rfl
    | ⟨2, _⟩ => rfl
  · match a with
    | ⟨0, _⟩ => rfl
    | ⟨1, _⟩ => rfl

/-- The padding value is zero. -/
theorem pad_zero (i : S_.Idx) : val_main_call0_v0 (F := Ideal) i = (0 : EReal) := by
  rw [val_main_call0_v0_apply, val_main_c_apply]
  show (((0#32 : BitVec 32).toInt : ℝ) : EReal) = 0
  simp

/-- A padded row inside the sequence. -/
theorem pad_in (b : Fin 32) (p : Fin 258) (s : Fin 256) (h : p.val = s.val + 1) (n : Fin 5632) :
    val_main_v33 (F := Ideal) X0 X1 X2 X4 (ix3 b p n) = gh X0 X1 X2 X4 ⟨b.val * 256 + s.val, by omega⟩ n := by
  rw [← h_ref]
  unfold val_main_v33
  refine pad_apply_of_inside _ _ _ _ _ _ _ (ix3 b p n) (ix3 b s n) fun a => ?_
  match a with
  | ⟨0, _⟩ => show b.val = 0 + b.val * (0 + 1); omega
  | ⟨1, _⟩ => show p.val = 1 + s.val * (0 + 1); omega
  | ⟨2, _⟩ => show n.val = 0 + n.val * (0 + 1); omega

/-- A padded row beyond an end of the sequence. -/
theorem pad_out (b : Fin 32) (p : Fin 258) (h : p.val = 0 ∨ p.val = 257) (n : Fin 5632) :
    val_main_v33 (F := Ideal) X0 X1 X2 X4 (ix3 b p n) = (0 : EReal) := by
  unfold val_main_v33
  refine (pad_apply_of_not_inside _ _ _ _ _ _ _ (ix3 b p n) (1 : Fin 3) ?_).trans (pad_zero _)
  show ¬(1 ≤ p.val ∧ (p.val - 1) % (0 + 1) = 0 ∧ (p.val - 1) / (0 + 1) < 256)
  omega

variable (X5 : FVec Ideal S2x3x5632 .f32)

/-- The convolution. -/
theorem conv_ref (b : Fin 32) (s : Fin 256) (n : Fin 5632) :
    val_main_v53 (F := Ideal) X0 X1 X2 X4 X5 (ix3 b s n) = gconv X0 X1 X2 X4 X5 ⟨b.val * 256 + s.val, by omega⟩ n := by
  rw [val_main_v53_apply, val_main_v46_apply, val_main_v39_apply, val_main_v45_apply, val_main_v52_apply,
    val_main_v34_apply, val_main_v40_apply, val_main_v47_apply,
    val_main_v38_apply, val_main_v37_apply, val_main_v36_apply, val_main_v35_apply,
    val_main_v44_apply, val_main_v43_apply, val_main_v42_apply, val_main_v41_apply,
    val_main_v51_apply, val_main_v50_apply, val_main_v49_apply, val_main_v48_apply]
  simp only [val_main_v30_apply, val_main_v29_apply]
  have k0 : idx_main_v29 (idx_main_v30 (idx_main_v35 (idx_main_v36 (idx_main_v37 (idx_main_v38 (ix3 b s n)))))) = ix3 (1 : Fin 2) (0 : Fin 3) n :=
    funext fun a => Fin.ext (by
      match a with
      | ⟨0, _⟩ => dsimp [ix3]; try omega
      | ⟨1, _⟩ => dsimp [ix3]; try omega
      | ⟨2, _⟩ => dsimp [ix3]; try omega)
  have k1 : idx_main_v29 (idx_main_v30 (idx_main_v41 (idx_main_v42 (idx_main_v43 (idx_main_v44 (ix3 b s n)))))) = ix3 (1 : Fin 2) (1 : Fin 3) n :=
    funext fun a => Fin.ext (by
      match a with
      | ⟨0, _⟩ => dsimp [ix3]; try omega
      | ⟨1, _⟩ => dsimp [ix3]; try omega
      | ⟨2, _⟩ => dsimp [ix3]; try omega)
  have k2 : idx_main_v29 (idx_main_v30 (idx_main_v48 (idx_main_v49 (idx_main_v50 (idx_main_v51 (ix3 b s n)))))) = ix3 (1 : Fin 2) (2 : Fin 3) n :=
    funext fun a => Fin.ext (by
      match a with
      | ⟨0, _⟩ => dsimp [ix3]; try omega
      | ⟨1, _⟩ => dsimp [ix3]; try omega
      | ⟨2, _⟩ => dsimp [ix3]; try omega)
  have r0 : idx_main_v34 (ix3 b s n) = ix3 b (⟨s.val, by omega⟩ : Fin 258) n := funext fun a => by
    match a with
    | ⟨0, _⟩ => rfl
    | ⟨1, _⟩ => rfl
    | ⟨2, _⟩ => rfl
  have r1 : idx_main_v40 (ix3 b s n) = ix3 b (⟨1 + s.val, by omega⟩ : Fin 258) n := funext fun a => by
    match a with
    | ⟨0, _⟩ => rfl
    | ⟨1, _⟩ => rfl
    | ⟨2, _⟩ => rfl
  have r2 : idx_main_v47 (ix3 b s n) = ix3 b (⟨2 + s.val, by omega⟩ : Fin 258) n := funext fun a => by
    match a with
    | ⟨0, _⟩ => rfl
    | ⟨1, _⟩ => rfl
    | ⟨2, _⟩ => rfl
  rw [k0, k1, k2, r0, r1, r2]
  unfold gconv
  refine congrArg₂ (fun x y : EReal => x + y) (congrArg₂ (fun x y : EReal => x + y) (congrArg₂ (fun x y : EReal => x * y) ?_ rfl)
    (congrArg₂ (fun x y : EReal => x * y) ?_ rfl)) (congrArg₂ (fun x y : EReal => x * y) ?_ rfl)
  · by_cases h : s.val = 0
    · rw [pad_out X0 X1 X2 X4 b _ (Or.inl h), dif_pos (by dsimp; omega)]
    · rw [pad_in X0 X1 X2 X4 b _ ⟨s.val - 1, by omega⟩ (by dsimp; omega), dif_neg (by dsimp; omega)]
      exact congrArg (fun R => gh X0 X1 X2 X4 R n) (Fin.ext (by dsimp; omega))
  · exact pad_in X0 X1 X2 X4 b _ s (by dsimp; omega) n
  · by_cases h : s.val = 255
    · rw [pad_out X0 X1 X2 X4 b _ (Or.inr (by dsimp; omega)), dif_pos (by dsimp; omega)]
    · rw [pad_in X0 X1 X2 X4 b _ ⟨s.val + 1, by omega⟩ (by dsimp; omega), dif_neg (by dsimp; omega)]
      exact congrArg (fun R => gh X0 X1 X2 X4 R n) (Fin.ext (by dsimp; omega))

/-- The gated activation. -/
theorem act_ref (b : Fin 32) (s : Fin 256) (j : Fin 2816) :
    val_main_v57 (F := Ideal) X0 X1 X2 X4 X5 (ix3 b s j) = gact X0 X1 X2 X4 X5 ⟨b.val * 256 + s.val, by omega⟩ j := by
  rw [val_main_v57_apply, val_main_v56_apply, val_main_call1_v5_apply, val_main_call1_v4_apply, val_main_call1_cst_0_apply,
    val_main_call1_v3_apply, val_main_call1_v2_apply, val_main_call1_cst_apply, val_main_call1_v1_apply, val_main_call1_v0_apply,
    val_main_v54_apply, val_main_v55_apply]
  have e0 : idx_main_v54 (ix3 b s j) = ix3 b s (⟨j.val, by omega⟩ : Fin 5632) := funext fun a => by
    match a with
    | ⟨0, _⟩ => rfl
    | ⟨1, _⟩ => rfl
    | ⟨2, _⟩ => rfl
  have e1 : idx_main_v55 (ix3 b s j) = ix3 b s (⟨2816 + j.val, by omega⟩ : Fin 5632) := funext fun a => by
    match a with
    | ⟨0, _⟩ => rfl
    | ⟨1, _⟩ => rfl
    | ⟨2, _⟩ => rfl
  have h1 : (FloatOps.ofBits FTy.f32 0x3F800000#32 : Ideal .f32) = (1 : EReal) := Ideal.ofBits_one_f32
  rw [e0, e1, conv_ref, conv_ref, h1]
  unfold gact gated
  rw [zero_sub (G := EReal)]
  rfl

variable (X6 : FVec Ideal S2816x1024 .bf16)

/-- The down projection. -/
theorem y_ref (b : Fin 32) (s : Fin 256) (n : Fin 1024) :
    val_main_v58 (F := Ideal) X0 X1 X2 X4 X5 X6 (ix3 b s n) = gy X0 X1 X2 X4 X5 X6 ⟨b.val * 256 + s.val, by omega⟩ n := by
  rw [val_main_v58_apply]
  refine Finset.sum_congr rfl fun e _ => ?_
  rw [← act_ref, val_main_v31_apply]
  refine congrArg₂ (fun x y : EReal => x * y) (congrArg _ (funext fun a => ?_)) (congrArg X6 (funext fun a => ?_))
  · match a with
    | ⟨0, _⟩ => rfl
    | ⟨1, _⟩ => rfl
    | ⟨2, _⟩ => rfl
  · match a with
    | ⟨0, _⟩ => rfl
    | ⟨1, _⟩ => rfl

/-- The second norm's scale. -/
theorem rms_ref (b : Fin 32) (s : Fin 256) (n : Fin 1024) :
    val_main_v69 (F := Ideal) X0 X1 X2 X4 X5 X6 (ix3 b s n) = rms (gy X0 X1 X2 X4 X5 X6 ⟨b.val * 256 + s.val, by omega⟩) := by
  rw [val_main_v69_apply, val_main_v68_apply, val_main_v67_apply, val_main_v65_apply, val_main_v63_apply, val_main_v62_apply, val_main_cst_3_apply]
  have hz : (FloatOps.ofBits FTy.f32 0x00000000#32 : Ideal .f32) = (0 : EReal) := bits_zero
  have hsum : (FloatOps.ofBits FTy.f32 0x00000000#32 : Ideal .f32) + ∑ k : Fin 1024, val_main_v61 (F := Ideal) X0 X1 X2 X4 X5 X6
        (idx_main_v62 (idx_main_v63 (idx_main_v69 (ix3 b s n))) k)
      = ∑ k : Fin 1024, gy X0 X1 X2 X4 X5 X6 ⟨b.val * 256 + s.val, by omega⟩ k * gy X0 X1 X2 X4 X5 X6 ⟨b.val * 256 + s.val, by omega⟩ k := by
    rw [hz]
    refine (zero_add _).trans (Finset.sum_congr rfl fun q _ => ?_)
    have he : idx_main_v62 (idx_main_v63 (idx_main_v69 (ix3 b s n))) q = ix3 b s q := funext fun a => by
      match a with
      | ⟨0, _⟩ => rfl
      | ⟨1, _⟩ => rfl
      | ⟨2, _⟩ => rfl
    rw [he, val_main_v61_apply, y_ref]
    rfl
  rw [hsum]
  rfl

variable (X3 : FVec Ideal S2x1024 .f32)

/-- The reference's result is the sublayer in mathematics. -/
theorem out_ref (i : S8192x1024.Idx) :
    val_main_v77 (F := Ideal) X0 X1 X2 X3 X4 X5 X6 i = ffnG X0 X1 X2 X4 X5 X6 X3 (i 0) (i 1) := by
  obtain ⟨R, n, rfl⟩ : ∃ (R : Fin 8192) (n : Fin 1024), i = ix2 R n := ⟨i 0, i 1, funext fun a => by
    match a with
    | ⟨0, _⟩ => rfl
    | ⟨1, _⟩ => rfl⟩
  have he : idx_main_v77 (ix2 R n) = ix3 (⟨R.val / 256, by omega⟩ : Fin 32) (⟨R.val % 256, by omega⟩ : Fin 256) n :=
    funext fun a => Fin.ext (by
      match a with
      | ⟨0, _⟩ => dsimp [ix2, ix3]; omega
      | ⟨1, _⟩ => dsimp [ix2, ix3]; omega
      | ⟨2, _⟩ => dsimp [ix2, ix3]; omega)
  have hR : (⟨R.val / 256 * 256 + R.val % 256, by omega⟩ : Fin 8192) = R := Fin.ext (by dsimp; omega)
  rw [val_main_v77_apply, he, val_main_v76_apply, val_main_v75_apply, val_main_v73_apply, val_main_v70_apply, rms_ref, y_ref, row_ref,
    val_main_v74_apply, val_main_v6_apply, val_main_v72_apply, val_main_v71_apply, val_main_v60_apply, val_main_v59_apply]
  dsimp only
  rw [hR]
  have e6 : idx_main_v6 (idx_main_v74 (ix3 (⟨R.val / 256, by omega⟩ : Fin 32) (⟨R.val % 256, by omega⟩ : Fin 256) n))
      = ix3 0 0 (⟨5120 + n.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e7 : idx_main_v59 (idx_main_v60 (idx_main_v71 (idx_main_v72 (ix3 (⟨R.val / 256, by omega⟩ : Fin 32) (⟨R.val % 256, by omega⟩ : Fin 256) n))))
      = ix2 (1 : Fin 2) n := funext fun a => Fin.ext (by
    match a with
    | ⟨0, _⟩ => dsimp [ix2, ix3]; try omega
    | ⟨1, _⟩ => dsimp [ix2, ix3]; try omega)
  rw [e6, e7]
  exact reorder _ _ _ _ _
end

end Cert.FfnC
-- ==== Proof.CtxClaim.lean ====
/-
  The value claim of the prompt's feed-forward sublayer: from equal arguments the kernel and the reference end with equal results.
-/
module

public import proofs.«01_k».proof.Defs
public import proofs.«01_k».proof.Proof.CtxArray
public import proofs.«01_k».proof.Proof.CtxRef
public import proofs.«01_k».proof.Proof.Gen.FfnCtxReferenceIdeal.Run
public import proofs.«01_k».proof.Proof.Gen.FfnCtxIdeal.Value

@[expose] public section

set_option maxRecDepth 16384

noncomputable section

namespace Cert.FfnC

open Idealize.ShloMosaic Idealize.ShloMosaic.TcCoe Idealize.SL.Sem

/-- From equal arguments the kernel and the reference end with equal results. -/
theorem algebraic : Cert.algebraic_FfnCtxIdeal_FfnCtxReferenceIdeal (hFfnCtxIdeal := Cert.FfnCtxIdeal.Gen.facts)
    (hFfnCtxReferenceIdeal := Cert.FfnCtxReferenceIdeal.Gen.facts) := by
  intro m g m' g' _ hargs
  refine ⟨fun c => (Cert.FfnCtxIdeal.Gen.dats m 0 c).arrAt 7 Cert.FfnCtxIdeal.cfg0.N, Cert.FfnCtxIdeal.Value.run_blocks m g, ?_⟩
  refine (θ_run (Cert.FfnCtxReferenceIdeal.defs (F := Ideal)) _ _).mono (fun r h c => ?_) (Cert.FfnCtxReferenceIdeal.Value.run (F := Ideal) m' g')
  obtain ⟨hv, hk⟩ := h c
  refine ⟨hv.trans ?_, hk⟩
  obtain ⟨a0, a1, a2, a3, a4, a5, a6⟩ := hargs c
  rw [Cert.FfnCtxReferenceIdeal.Read.val_main_v77_eq, a0, a1, a2, a3, a4, a5, a6]
  refine Eq.trans (funext fun i => ?_) (arr_eq m c).symm
  exact out_ref _ _ _ _ _ _ _ i

end Cert.FfnC
-- ==== Proof.MixChunk.lean ====
/-
  The arithmetic of one chunk of 256 columns of the mixer kernel: the gate times the convolution of the product of the
  other two projections. `act` is that arithmetic, `pay13_eq` … `pay31_eq` say that each of the four printed copies is
  `act` of its loads, and `act_apply` reads it at an index.
-/
module

public import proofs.«01_k».proof.Proof.Gen.MixerIdeal.Value
public import proofs.«01_k».proof.Proof.FfnChunk

@[expose] public section

set_option maxRecDepth 16384

noncomputable section

namespace Cert.Mix

open Cert.MixerIdeal Cert.MixerIdeal.Gen Idealize.ShloMosaic Idealize.ShloMosaic.TcCoe Idealize.SL.Sem
open Cert.Ffn1 (conv)

/-- One chunk: `f0 f1` the factors of the halo rows, `m0 m1` the masks of the tile's first and last rows, `T` the tile's
    normalized rows, `U` those with the halo rows, `wb wc wx` the projections, `k` the taps. -/
def act (f0 f1 : Ideal .f32) (m0 m1 : IVec S1024x256 1) (T : FVec Ideal S1024x1024 .bf16) (U : FVec Ideal S1040x1024 .bf16)
    (wb wc wx : FVec Ideal S1x1024x256 .bf16) (k : FVec Ideal S1x3x256 .f32) : FVec Ideal S1024x256 .bf16 :=
  k0_pay31 f0 f1 m0 m1 (k0_pay28 T wb) (k0_pay29 U wc U wx) (k0_pay30 k)

section
variable (f0 f1 : Ideal .f32) (m0 m1 : IVec S1024x256 1) (T : FVec Ideal S1024x1024 .bf16) (U : FVec Ideal S1040x1024 .bf16)
    (wb wc wx : FVec Ideal S1x1024x256 .bf16) (k : FVec Ideal S1x3x256 .f32)

theorem pay13_eq : k0_pay13 f0 f1 m0 m1 (k0_pay12 T wb) U wc U wx k = act f0 f1 m0 m1 T U wb wc wx k := rfl

theorem pay20_eq : k0_pay20 (k0_pay14 T wb) (k0_pay16 k) (k0_pay18 f1 m1 U wc U wx) (k0_pay19 f0 m0 U wc U wx k)
    = act f0 f1 m0 m1 T U wb wc wx k := rfl

theorem pay27_eq : k0_pay27 m1 (k0_pay21 T wb) (k0_pay23 k) (k0_pay24 U wc U wx) (k0_pay25 f1 U wc U wx) (k0_pay26 f0 m0 U wc U wx)
    = act f0 f1 m0 m1 T U wb wc wx k := rfl

theorem pay31_eq : k0_pay31 f0 f1 m0 m1 (k0_pay28 T wb) (k0_pay29 U wc U wx) (k0_pay30 k) = act f0 f1 m0 m1 T U wb wc wx k := rfl

end

/-- The mask that holds at the tile's first row. -/
theorem mask0 : (k0_pay10 : IVec S1024x256 1) = Cert.FfnIdeal.Gen.k0_pay11 := rfl

/-- The mask that holds at the tile's last row. -/
theorem mask1 : (k0_pay11 : IVec S1024x256 1) = Cert.FfnIdeal.Gen.k0_pay12 := rfl

/-- The convolution is the feed-forward kernel's. -/
theorem act_conv (f0 f1 : Ideal .f32) (m0 m1 : IVec S1024x256 1) (T : FVec Ideal S1024x1024 .bf16) (U : FVec Ideal S1040x1024 .bf16)
    (wb wc wx : FVec Ideal S1x1024x256 .bf16) (k : FVec Ideal S1x3x256 .f32) :
    act f0 f1 m0 m1 T U wb wc wx k = shapeCast S1024x256 (truncf .bf16 (mulf (k0_pay28 (F := Ideal) T wb)
      (Cert.FfnIdeal.Gen.k0_pay15 (F := Ideal) f0 f1 m0 m1 (k0_pay29 (F := Ideal) U wc U wx) k)) bitsLt_bf16_f32) shapeCasts_S1024x256_S1024x256 := rfl

/-- One projection of the tile's rows. -/
theorem gate_apply (T : FVec Ideal S1024x1024 .bf16) (w : FVec Ideal S1x1024x256 .bf16) (r : Fin 1024) (n : Fin 256) :
    (k0_pay28 (F := Ideal) T w (ix2 r n) : EReal) = ∑ e : Fin 1024, (T (ix2 r e) : EReal) * w (ix3 0 e n) := by
  unfold k0_pay28
  pointwise [dot_S1024x1024_S1024x256_S1024x256_1_0_0_1_n_n]

/-- The product of the two other projections. -/
theorem prod_apply (U : FVec Ideal S1040x1024 .bf16) (wc wx : FVec Ideal S1x1024x256 .bf16) (r : Fin 1040) (n : Fin 256) :
    (k0_pay29 (F := Ideal) U wc U wx (ix2 r n) : EReal)
      = (∑ e : Fin 1024, (U (ix2 r e) : EReal) * wc (ix3 0 e n)) * ∑ e : Fin 1024, (U (ix2 r e) : EReal) * wx (ix3 0 e n) := by
  unfold k0_pay29
  pointwise [dot_S1040x1024_S1024x256_S1040x256_1_0_0_1_n_n]

/-- One chunk read at an index. -/
theorem act_apply (f0 f1 : Ideal .f32) (T : FVec Ideal S1024x1024 .bf16) (U : FVec Ideal S1040x1024 .bf16)
    (wb wc wx : FVec Ideal S1x1024x256 .bf16) (k : FVec Ideal S1x3x256 .f32) (r : Fin 1024) (n : Fin 256) :
    (act f0 f1 k0_pay10 k0_pay11 T U wb wc wx k (ix2 r n) : EReal)
      = (∑ e : Fin 1024, (T (ix2 r e) : EReal) * wb (ix3 0 e n))
        * conv f0 f1 (fun x => (∑ e : Fin 1024, (U (ix2 x e) : EReal) * wc (ix3 0 e n)) * ∑ e : Fin 1024, (U (ix2 x e) : EReal) * wx (ix3 0 e n))
            (fun a => k (ix3 0 a n)) r := by
  have hc := Cert.Ffn1.conv_apply f0 f1 (k0_pay29 (F := Ideal) U wc U wx) k r n
  simp only [prod_apply] at hc
  rw [← hc, ← gate_apply, act_conv, mask0, mask1]
  generalize Cert.FfnIdeal.Gen.k0_pay15 (F := Ideal) f0 f1 Cert.FfnIdeal.Gen.k0_pay11 Cert.FfnIdeal.Gen.k0_pay12 (k0_pay29 (F := Ideal) U wc U wx) k = G
  generalize k0_pay28 (F := Ideal) T wb = B
  pointwise

end Cert.Mix
-- ==== Proof.MixBody.lean ====
/-
  What one grid point of the mixer kernel writes: 1024 rows of one half sequence, and 64 rows of the next weight's cast.
  `out_apply` reads the body's block as `outVal`.
-/
module

public import proofs.«01_k».proof.Proof.MixChunk
public import proofs.«01_k».proof.Proof.FfnBody

@[expose] public section

set_option maxRecDepth 16384

noncomputable section

namespace Cert.Mix

open Cert.MixerIdeal Cert.MixerIdeal.Gen Idealize.ShloMosaic Idealize.ShloMosaic.TcCoe Idealize.SL.Sem
open Cert.Attn (rms)
open Cert.Ffn1 (urow blkrow conv)

/-- The halo's normalized rows are the feed-forward kernel's. -/
theorem pay5_eq (sh sc g : Vec Ideal S1x1x1024 .f32) (x0 x2 : Vec Ideal S8x1024 .f32) :
    k0_pay5 (F := Ideal) sh sc g x0 x2 = Cert.FfnIdeal.Gen.k0_pay4 (F := Ideal) sh sc g x0 x2 := rfl

/-- The tile's normalized rows are the feed-forward kernel's. -/
theorem pay6_eq (sh sc g : Vec Ideal S1x1x1024 .f32) (x1 : Vec Ideal S1024x1024 .f32) :
    k0_pay6 (F := Ideal) (k0_pay3 sh) (k0_pay4 sc g) x1
      = Cert.FfnIdeal.Gen.k0_pay7 (F := Ideal) (Cert.FfnIdeal.Gen.k0_pay2 sh) (Cert.FfnIdeal.Gen.k0_pay3 sc g) x1 (Cert.FfnIdeal.Gen.k0_pay5 x1) Cert.FfnIdeal.Gen.k0_pay6 := rfl

/-- The scratch of normalized rows as each chunk loads it: all of it, and the tile's rows alone. -/
def ubuf (sh sc g : Vec Ideal S1x1x1024 .f32) (x0 : Vec Ideal S8x1024 .f32) (x1 : Vec Ideal S1024x1024 .f32) (x2 : Vec Ideal S8x1024 .f32) :
    FVec Ideal S1040x1024 .bf16 :=
  View.readCov (Val := Elt Ideal) scM0_0.view
    [⟨Rect.unit (s := S1040x1024) ![0, 0] ![1024, 1024] inb_S1040x1024_S1024x1024_0_0, k0_pay6 (F := Ideal) (k0_pay3 sh) (k0_pay4 sc g) x1⟩,
      ⟨Rect.unit (s := S1040x1024) ![1024, 0] ![16, 1024] inb_S1040x1024_S16x1024_1024_0, k0_pay5 (F := Ideal) sh sc g x0 x2⟩]
    (Rect.unit (s := S1040x1024) ![0, 0] ![1040, 1024] inb_S1040x1024_S1040x1024_0_0).toLoadRect

def tbuf (sh sc g : Vec Ideal S1x1x1024 .f32) (x0 : Vec Ideal S8x1024 .f32) (x1 : Vec Ideal S1024x1024 .f32) (x2 : Vec Ideal S8x1024 .f32) :
    FVec Ideal S1024x1024 .bf16 :=
  View.readCov (Val := Elt Ideal) scM0_0.view
    [⟨Rect.unit (s := S1040x1024) ![0, 0] ![1024, 1024] inb_S1040x1024_S1024x1024_0_0, k0_pay6 (F := Ideal) (k0_pay3 sh) (k0_pay4 sc g) x1⟩,
      ⟨Rect.unit (s := S1040x1024) ![1024, 0] ![16, 1024] inb_S1040x1024_S16x1024_1024_0, k0_pay5 (F := Ideal) sh sc g x0 x2⟩]
    (Rect.unit (s := S1040x1024) ![0, 0] ![1024, 1024] inb_S1040x1024_S1024x1024_0_0).toLoadRect

theorem ubuf_at (sh sc g : Vec Ideal S1x1x1024 .f32) (x0 : Vec Ideal S8x1024 .f32) (x1 : Vec Ideal S1024x1024 .f32) (x2 : Vec Ideal S8x1024 .f32)
    (r : Fin 1040) (e : Fin 1024) :
    ubuf sh sc g x0 x1 x2 (ix2 r e) = urow (blkrow x0 x1 x2 r) (fun k => g (ix3 0 0 k)) (fun k => sc (ix3 0 0 k)) (fun k => sh (ix3 0 0 k)) e := by
  unfold ubuf
  rw [View.readCov_eq_canon']
  beta_reduce
  have hr : (Rect.unit (s := S1040x1024) ![0, 0] ![1040, 1024] inb_S1040x1024_S1040x1024_0_0).toLoadRect.idx (ix2 r e) = ix2 r e := by
    funext k
    apply Fin.ext
    match k with
    | 0 => exact (Rect.idx_unit_val _ _ _ _ _).trans (Nat.zero_add _)
    | 1 => exact (Rect.idx_unit_val _ _ _ _ _).trans (Nat.zero_add _)
  rw [hr]
  canon_tiles x h using (View.cover_of_tiledBy _ ![16, 1024] (by sl_kernel_rfl) _)
  case piece0 =>
    have h0' : r.val = (x 0).val := h0
    have h1' : e.val = (x 1).val := h1
    have hx : x = ix2 (⟨r.val, by omega⟩ : Fin 1024) e := by
      funext a
      apply Fin.ext
      match a with
      | 0 => show (x 0).val = r.val; omega
      | 1 => show (x 1).val = e.val; omega
    rw [hx, pay6_eq, Cert.Ffn1.pay7_at]
    refine congrArg (fun X => urow X _ _ _ e) (funext fun k => ?_)
    unfold blkrow
    rw [dif_pos]
  case piece1 =>
    have h0' : r.val = 1024 + (x 0).val := h0
    have h1' : e.val = (x 1).val := h1
    have hx : x = ix2 (⟨r.val - 1024, by omega⟩ : Fin 16) e := by
      funext a
      apply Fin.ext
      match a with
      | 0 => show (x 0).val = r.val - 1024; omega
      | 1 => show (x 1).val = e.val; omega
    rw [hx, pay5_eq, Cert.Ffn1.pay4_at]
    refine congrArg (fun X => urow X _ _ _ e) (funext fun k => ?_)
    unfold blkrow
    have h1024 : ¬ r.val < 1024 := by omega
    rw [dif_neg h1024]
    by_cases h8 : r.val - 1024 < 8
    · rw [dif_pos h8, dif_pos (by omega)]
    · rw [dif_neg h8, dif_neg (by omega)]
      exact congrArg (fun a : Fin 8 => x2 (ix2 a k)) (Fin.ext (by show r.val - 1024 - 8 = r.val - 1032; omega))

theorem tbuf_at (sh sc g : Vec Ideal S1x1x1024 .f32) (x0 : Vec Ideal S8x1024 .f32) (x1 : Vec Ideal S1024x1024 .f32) (x2 : Vec Ideal S8x1024 .f32)
    (r e : Fin 1024) :
    tbuf sh sc g x0 x1 x2 (ix2 r e)
      = urow (blkrow x0 x1 x2 ⟨r.val, by omega⟩) (fun k => g (ix3 0 0 k)) (fun k => sc (ix3 0 0 k)) (fun k => sh (ix3 0 0 k)) e := by
  rw [← ubuf_at]
  unfold tbuf ubuf
  rw [View.readCov_eq_canon', View.readCov_eq_canon']
  beta_reduce
  refine congrArg _ (funext fun k => Fin.ext ?_)
  match k with
  | 0 => exact (Rect.idx_unit_val _ _ _ _ _).trans (Rect.idx_unit_val _ _ _ _ _).symm
  | 1 => exact (Rect.idx_unit_val _ _ _ _ _).trans (Rect.idx_unit_val _ _ _ _ _).symm

section
variable (x0 : Vec Ideal S8x1024 .f32) (x1 : Vec Ideal S1024x1024 .f32) (x2 : Vec Ideal S8x1024 .f32) (g sc sh : Fin 1024 → EReal)
  (x6 : Vec Ideal S1x1024x3072 .bf16) (x7 : Vec Ideal S1x3x1024 .f32) (f0 f1 : EReal)

/-- One projected column at a stacked row. -/
def bp (n : Fin 3072) (r : Fin 1040) : EReal := ∑ e : Fin 1024, urow (blkrow x0 x1 x2 r) g sc sh e * x6 (ix3 0 e n)

/-- The gate times the convolution. -/
def bact (r j : Fin 1024) : EReal :=
  bp x0 x1 x2 g sc sh x6 ⟨j.val, by omega⟩ ⟨r.val, by omega⟩
    * conv f0 f1 (fun x => bp x0 x1 x2 g sc sh x6 ⟨1024 + j.val, by omega⟩ x * bp x0 x1 x2 g sc sh x6 ⟨2048 + j.val, by omega⟩ x) (fun a => x7 (ix3 0 a j)) r

/-- One store into the scratch of gated columns: columns from `o`. -/
theorem piece_at (T : FVec Ideal S1024x1024 .bf16) (U : FVec Ideal S1040x1024 .bf16)
    (hT : ∀ r e, T (ix2 r e) = urow (blkrow x0 x1 x2 ⟨r.val, by omega⟩) g sc sh e)
    (hU : ∀ r e, U (ix2 r e) = urow (blkrow x0 x1 x2 r) g sc sh e) (o o1 o2 : ℕ) (ho1 : o1 = 1024 + o) (ho2 : o2 = 2048 + o)
    (i6 : ∀ a, ![0, 0, o] a + ![1, 1024, 256] a ≤ S1x1024x3072.size a) (i6' : ∀ a, ![0, 0, o1] a + ![1, 1024, 256] a ≤ S1x1024x3072.size a)
    (i6'' : ∀ a, ![0, 0, o2] a + ![1, 1024, 256] a ≤ S1x1024x3072.size a)
    (i7 : ∀ a, ![0, 0, o] a + ![1, 3, 256] a ≤ S1x3x1024.size a)
    (x : S1024x256.Idx) (r j : Fin 1024) (hr : r.val = (x 0).val) (hj : j.val = o + (x 1).val) :
    act f0 f1 k0_pay10 k0_pay11 T U (View.ld x6 (Rect.unit ![0, 0, o] ![1, 1024, 256] i6)) (View.ld x6 (Rect.unit ![0, 0, o1] ![1, 1024, 256] i6'))
      (View.ld x6 (Rect.unit ![0, 0, o2] ![1, 1024, 256] i6'')) (View.ld x7 (Rect.unit ![0, 0, o] ![1, 3, 256] i7)) x
      = bact x0 x1 x2 g sc sh x6 x7 f0 f1 r j := by
  subst ho1 ho2
  obtain ⟨l, hl⟩ : ∃ l : Fin 256, l = x 1 := ⟨_, rfl⟩
  have hx : x = ix2 r l := by
    funext a
    apply Fin.ext
    match a with
    | 0 => exact hr.symm
    | 1 => exact (congrArg Fin.val hl).symm
  have hj' : j.val = o + l.val := hj.trans (by rw [hl])
  have ld6 : ∀ (p : ℕ) (i : ∀ a, ![0, 0, p] a + ![1, 1024, 256] a ≤ S1x1024x3072.size a) (e : Fin 1024) (n : Fin 3072), n.val = p + l.val →
      View.ld x6 (Rect.unit ![0, 0, p] ![1, 1024, 256] i) (ix3 0 e l) = x6 (ix3 0 e n) := fun p i e n hn =>
    View.ld_unit_apply_of _ _ _ _ _ _ fun a => by
      match a with
      | 0 => rfl
      | 1 => exact (Nat.zero_add _).symm
      | 2 => exact hn
  have ld7 : ∀ a : Fin 3, View.ld x7 (Rect.unit ![0, 0, o] ![1, 3, 256] i7) (ix3 0 a l) = x7 (ix3 0 a j) := fun a =>
    View.ld_unit_apply_of _ _ _ _ _ _ fun b => by
      match b with
      | 0 => rfl
      | 1 => exact (Nat.zero_add _).symm
      | 2 => exact hj'
  rw [hx, act_apply]
  unfold bact bp
  simp only [hT, hU]
  refine congrArg₂ _ (Finset.sum_congr rfl fun e _ => congrArg _ ?_) (congrArg₂ (fun H k => conv f0 f1 H k r) (funext fun y => congrArg₂ _
    (Finset.sum_congr rfl fun e _ => congrArg _ ?_) (Finset.sum_congr rfl fun e _ => congrArg _ ?_)) (funext fun a => ?_))
  · exact ld6 _ _ e _ hj'
  · exact ld6 _ _ e _ (by show 1024 + j.val = _; omega)
  · exact ld6 _ _ e _ (by show 2048 + j.val = _; omega)
  · exact ld7 a

end

/-- The output projection, the norm, the gate and the residual, from the gated columns. -/
def outVal (x1 : Vec Ideal S1024x1024 .f32) (gate gp : Vec Ideal S1x1x1024 .f32) (x8 : Vec Ideal S1x1024x1024 .bf16)
    (o : Fin 1024 → Fin 1024 → EReal) (r n : Fin 1024) : EReal :=
  x1 (ix2 r n) + gate (ix3 0 0 n) * gp (ix3 0 0 n) * ((∑ e : Fin 1024, o r e * x8 (ix3 0 e n)) * rms fun k => ∑ e : Fin 1024, o r e * x8 (ix3 0 e k))

theorem finish (A : Vec Ideal S1024x1024 .bf16) (o : Fin 1024 → Fin 1024 → EReal) (hA : ∀ r e, A (ix2 r e) = o r e)
    (x1 : Vec Ideal S1024x1024 .f32) (gate gp : Vec Ideal S1x1x1024 .f32) (x8 : Vec Ideal S1x1024x1024 .bf16) (r n : Fin 1024) :
    (k0_pay1 (F := Ideal) (k0_pay32 A x8) x1 (k0_pay33 gate gp) (ix2 r n) : EReal) = outVal x1 gate gp x8 o r n := by
  unfold k0_pay1 k0_pay32 k0_pay33
  pointwise [dot_S1024x1024_S1024x1024_S1024x1024_1_0_0_1_n_n]
  simp only [hA]
  rfl

/-- The second block: the weight's rows, unchanged by the cast. -/
theorem cast_apply (c : Dev nD) (t : Fin cfg0.N)
    (x0 : Vec Ideal S8x1024 .f32) (x1 : Vec Ideal S1024x1024 .f32) (x2 : Vec Ideal S8x1024 .f32) (x3 : Vec Ideal S1x1x6144 .f32)
    (x4 x5 : Vec Ideal S1x1x1024 .f32) (x6 : Vec Ideal S1x1024x3072 .bf16) (x7 : Vec Ideal S1x3x1024 .f32) (x8 : Vec Ideal S1x1024x1024 .bf16)
    (x9 : Vec Ideal S1x64x5632 .f32) (r : Fin 64) (n : Fin 5632) :
    (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) x0 x1 x2 x3 x4 x5 x6 x7 x8 x9 (ix2 r n) : EReal)
      = x9 (ix3 0 r n) := by
  unfold out0_A_11
  rw [View.read_writes_eq_canon _ _ _ (cover0_A_11 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_9 t).read_unread]
  simp (disch := decide) only [View.canon_cons_unit_lit, View.ld_unit_lit]
  unfold k0_pay2
  pointwise

theorem out_apply (c : Dev nD) (t : Fin cfg0.N)
    (x0 : Vec Ideal S8x1024 .f32) (x1 : Vec Ideal S1024x1024 .f32) (x2 : Vec Ideal S8x1024 .f32) (x3 : Vec Ideal S1x1x6144 .f32)
    (x4 x5 : Vec Ideal S1x1x1024 .f32) (x6 : Vec Ideal S1x1024x3072 .bf16) (x7 : Vec Ideal S1x3x1024 .f32) (x8 : Vec Ideal S1x1024x1024 .bf16)
    (x9 : Vec Ideal S1x64x5632 .f32) (r n : Fin 1024) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) x0 x1 x2 x3 x4 x5 x6 x7 x8 x9 (ix2 r n)
      = outVal x1 (View.ld x3 (Rect.unit ![0, 0, 2048] ![1, 1, 1024] (by decide))) x5 x8
          (bact x0 x1 x2 (fun k => x4 (ix3 0 0 k)) (fun k => View.ld x3 (Rect.unit (s := S1x1x6144) ![0, 0, 1024] ![1, 1, 1024] (by decide)) (ix3 0 0 k))
            (fun k => View.ld x3 (Rect.unit (s := S1x1x6144) ![0, 0, 0] ![1, 1, 1024] (by decide)) (ix3 0 0 k)) x6 x7
            (k0_pay7 (F := Ideal) (BitVec.ofNat 32 (grid0.coords t 0).val)) (k0_pay8 (F := Ideal) (BitVec.ofNat 32 (grid0.coords t 0).val))) r n := by
  unfold out0_A_10
  rw [View.read_writes_eq_canon _ _ _ (cover0_A_10 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp (disch := decide) only [View.canon_cons_unit_lit, View.ld_unit_lit]
  refine finish _ _ ?_ _ _ _ _ r n
  intro r e
  rw [View.readCov_eq_canon']
  beta_reduce
  have hr : (Rect.unit (s := S1024x1024) ![0, 0] ![1024, 1024] inb_S1024x1024_S1024x1024_0_0).toLoadRect.idx (ix2 r e) = ix2 r e := by
    funext k
    apply Fin.ext
    match k with
    | 0 => exact (Rect.idx_unit_val _ _ _ _ _).trans (Nat.zero_add _)
    | 1 => exact (Rect.idx_unit_val _ _ _ _ _).trans (Nat.zero_add _)
  rw [hr]
  simp only [pay13_eq, pay20_eq, pay27_eq, pay31_eq]
  canon_tiles x h
  case piece0 => exact piece_at x0 x1 x2 _ _ _ x6 x7 _ _ _ _ (tbuf_at _ _ x4 x0 x1 x2) (ubuf_at _ _ x4 x0 x1 x2) 768 1792 2816 rfl rfl _ _ _ _ x r e h0 h1
  case piece1 => exact piece_at x0 x1 x2 _ _ _ x6 x7 _ _ _ _ (tbuf_at _ _ x4 x0 x1 x2) (ubuf_at _ _ x4 x0 x1 x2) 512 1536 2560 rfl rfl _ _ _ _ x r e h0 h1
  case piece2 => exact piece_at x0 x1 x2 _ _ _ x6 x7 _ _ _ _ (tbuf_at _ _ x4 x0 x1 x2) (ubuf_at _ _ x4 x0 x1 x2) 256 1280 2304 rfl rfl _ _ _ _ x r e h0 h1
  case piece3 => exact piece_at x0 x1 x2 _ _ _ x6 x7 _ _ _ _ (tbuf_at _ _ x4 x0 x1 x2) (ubuf_at _ _ x4 x0 x1 x2) 0 1024 2048 rfl rfl _ _ _ _ x r e h0 (h1.trans (Nat.zero_add _).symm)

end Cert.Mix
-- ==== Proof.MixSpec.lean ====
/-
  The mixer sublayer in mathematics, from the arguments: both the kernel's array and the reference's result are read as
  `mixG`.
-/
module

public import proofs.«01_k».proof.Proof.MixBody

@[expose] public section

set_option maxRecDepth 16384

noncomputable section

namespace Cert.Mix

open Cert.MixerIdeal Idealize.ShloMosaic
open Cert.Attn (rms)
open Cert.Ffn1 (urow)

section
variable (A0 : FVec Ideal S16384x1024 .f32) (A1 : FVec Ideal S8x1x6144 .f32) (A2 : FVec Ideal S2x1024 .f32)
  (A4 : FVec Ideal S1x1024x3072 .f32) (A5 : FVec Ideal S1x3x1024 .f32) (A6 : FVec Ideal S1x1024x1024 .f32)

/-- Row `R` normalized, with its sequence's scale and shift. -/
def gu (R : Fin 16384) (e : Fin 1024) : EReal :=
  urow (fun k => A0 (ix2 R k)) (fun k => A2 (ix2 (0 : Fin 2) k))
    (fun k => A1 (ix3 (⟨R.val / 2048, by omega⟩ : Fin 8) 0 (⟨1024 + k.val, by omega⟩ : Fin 6144)))
    (fun k => A1 (ix3 (⟨R.val / 2048, by omega⟩ : Fin 8) 0 (⟨k.val, by omega⟩ : Fin 6144))) e

/-- Projected column `n` of row `R`. -/
def gp (R : Fin 16384) (n : Fin 3072) : EReal := ∑ e : Fin 1024, gu A0 A1 A2 R e * A4 (ix3 (0 : Fin 1) e n)

/-- The product of the two columns that the convolution takes. -/
def gx (R : Fin 16384) (j : Fin 1024) : EReal := gp A0 A1 A2 A4 R ⟨1024 + j.val, by omega⟩ * gp A0 A1 A2 A4 R ⟨2048 + j.val, by omega⟩

/-- The three-tap convolution along a sequence, zero beyond its ends. -/
def gconv (R : Fin 16384) (j : Fin 1024) : EReal :=
  (if h : R.val % 2048 = 0 then 0 else gx A0 A1 A2 A4 ⟨R.val - 1, by omega⟩ j) * A5 (ix3 (0 : Fin 1) (0 : Fin 3) j)
    + gx A0 A1 A2 A4 R j * A5 (ix3 (0 : Fin 1) (1 : Fin 3) j)
    + (if h : R.val % 2048 = 2047 then 0 else gx A0 A1 A2 A4 ⟨R.val + 1, by omega⟩ j) * A5 (ix3 (0 : Fin 1) (2 : Fin 3) j)

/-- The gate times the convolution. -/
def gact (R : Fin 16384) (j : Fin 1024) : EReal := gp A0 A1 A2 A4 R ⟨j.val, by omega⟩ * gconv A0 A1 A2 A4 A5 R j

/-- The output projection. -/
def gy (R : Fin 16384) (n : Fin 1024) : EReal := ∑ e : Fin 1024, gact A0 A1 A2 A4 A5 R e * A6 (ix3 (0 : Fin 1) e n)

/-- The sublayer's result: residual plus gate times the normalized output projection. -/
def mixG (A3 : FVec Ideal S2x1024 .f32) (R : Fin 16384) (n : Fin 1024) : EReal :=
  A0 (ix2 R n) + A1 (ix3 (⟨R.val / 2048, by omega⟩ : Fin 8) 0 (⟨2048 + n.val, by omega⟩ : Fin 6144)) * A3 (ix2 (0 : Fin 2) n)
    * (gy A0 A1 A2 A4 A5 A6 R n * rms (gy A0 A1 A2 A4 A5 A6 R))

end

end Cert.Mix
-- ==== Proof.MixArray.lean ====
/-
  The mixer kernel's result arrays after the run, at every index, from the arguments: `mixG`, and the weight's cast.
-/
module

public import proofs.«01_k».proof.Proof.MixSpec

@[expose] public section

set_option maxRecDepth 16384

noncomputable section

namespace Cert.Mix

open Cert.MixerIdeal Cert.MixerIdeal.Gen Cert.MixerIdeal.Value Idealize.ShloMosaic Idealize.ShloMosaic.TcCoe Idealize.SL.Sem
open Cert.Attn (rms)
open Cert.Ffn1 (urow blkrow conv)

/-- Where each window's block stands at a grid point: tile `t` of 1024 rows, the eight rows before it and the eight
    after it (held inside the array at its ends), sequence `t / 2`. -/
theorem win_idx : ∀ t : Fin cfg0.N, win0_0.index t = ![t.val * 128 - 1, 0] ∧ win0_1.index t = ![t.val, 0] ∧ win0_2.index t = ![min ((t.val + 1) * 128) 2047, 0]
    ∧ win0_3.index t = ![t.val / 2, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, t.val, 0] ∧ win0_10.index t = ![t.val, 0]
    ∧ win0_11.index t = ![t.val, 0] :=
  (by decide +kernel : ∀ t : Fin grid0.N, win0_0.index t = ![t.val * 128 - 1, 0] ∧ win0_1.index t = ![t.val, 0] ∧ win0_2.index t = ![min ((t.val + 1) * 128) 2047, 0]
    ∧ win0_3.index t = ![t.val / 2, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, t.val, 0] ∧ win0_10.index t = ![t.val, 0]
    ∧ win0_11.index t = ![t.val, 0])

/-- The factor of the row before the tile: zero at a sequence's first tile. -/
theorem flag0 (t : Fin cfg0.N) : (k0_pay7 (F := Ideal) (BitVec.ofNat 32 (grid0.coords t 0).val) : EReal) = if t.val % 2 = 0 then 0 else 1 := by
  have h : ∀ t : Fin grid0.N, (Scalar.extui (Scalar.cmpi .ne (Scalar.remsi (BitVec.ofNat 32 (grid0.coords t 0).val) 2#32) 0#32) : BitVec 32)
      = if t.val % 2 = 0 then 0#32 else 1#32 := by decide +kernel
  unfold k0_pay7
  dsimp only
  rw [h t]
  by_cases h2 : t.val % 2 = 0
  · rw [if_pos h2, if_pos h2]
    show (((0#32 : BitVec 32).toInt : ℝ) : EReal) = 0
    simp
  · rw [if_neg h2, if_neg h2]
    show (((1#32 : BitVec 32).toInt : ℝ) : EReal) = 1
    simp

/-- The factor of the row after the tile: zero at a sequence's last tile. -/
theorem flag1 (t : Fin cfg0.N) : (k0_pay8 (F := Ideal) (BitVec.ofNat 32 (grid0.coords t 0).val) : EReal) = if t.val % 2 = 1 then 0 else 1 := by
  have h : ∀ t : Fin grid0.N, (Scalar.extui (Scalar.cmpi .ne (Scalar.remsi (BitVec.ofNat 32 (grid0.coords t 0).val) 2#32) 1#32) : BitVec 32)
      = if t.val % 2 = 1 then 0#32 else 1#32 := by decide +kernel
  unfold k0_pay8
  dsimp only
  rw [h t]
  by_cases h2 : t.val % 2 = 1
  · rw [if_pos h2, if_pos h2]
    show (((0#32 : BitVec 32).toInt : ℝ) : EReal) = 0
    simp
  · rw [if_neg h2, if_neg h2]
    show (((1#32 : BitVec 32).toInt : ℝ) : EReal) = 1
    simp

variable (m : (ℓ : Loc nD τ sig) → Buf (Elt Ideal) ℓ) (c : Dev nD)

theorem lt16 (t : Fin cfg0.N) : t.val < 16 := t.isLt

theorem blk0 (t : Fin cfg0.N) (r : Fin 8) (n : Fin 1024) :
    iblk m c 0 t (ix2 r n) = m ((c : Thread nD τ).loc main_arg0) (ix2 (⟨(t.val * 128 - 1) * 8 + r.val, by have := lt16 t; omega⟩ : Fin 16384) n) := by
  blk_ext [iblk, V, win_idx t]

theorem blk1 (t : Fin cfg0.N) (r : Fin 1024) (n : Fin 1024) :
    iblk m c 1 t (ix2 r n) = m ((c : Thread nD τ).loc main_arg0) (ix2 (⟨t.val * 1024 + r.val, by have := lt16 t; omega⟩ : Fin 16384) n) := by
  blk_ext [iblk, V, win_idx t]

theorem blk2 (t : Fin cfg0.N) (r : Fin 8) (n : Fin 1024) :
    iblk m c 2 t (ix2 r n) = m ((c : Thread nD τ).loc main_arg0) (ix2 (⟨min ((t.val + 1) * 128) 2047 * 8 + r.val, by have := lt16 t; omega⟩ : Fin 16384) n) := by
  blk_ext [iblk, V, win_idx t]

theorem blk3 (t : Fin cfg0.N) (n : Fin 6144) :
    iblk m c 3 t (ix3 0 0 n) = m ((c : Thread nD τ).loc main_arg1) (ix3 (⟨t.val / 2, by have := lt16 t; omega⟩ : Fin 8) 0 n) := by
  blk_ext [iblk, V, win_idx t]

theorem blk4 (t : Fin cfg0.N) (n : Fin 1024) :
    iblk m c 4 t (ix3 0 0 n) = m ((c : Thread nD τ).loc main_arg2) (ix2 (0 : Fin 2) n) := by
  blk_point [iblk, V, win_idx t]

theorem blk5 (t : Fin cfg0.N) (n : Fin 1024) :
    iblk m c 5 t (ix3 0 0 n) = m ((c : Thread nD τ).loc main_arg3) (ix2 (0 : Fin 2) n) := by
  blk_point [iblk, V, win_idx t]

theorem blk6 (t : Fin cfg0.N) (e : Fin 1024) (n : Fin 3072) :
    iblk m c 6 t (ix3 0 e n) = m ((c : Thread nD τ).loc main_arg4) (ix3 (0 : Fin 1) e n) := by
  blk_point [iblk, V, win_idx t]

theorem blk7 (t : Fin cfg0.N) (a : Fin 3) (n : Fin 1024) :
    iblk m c 7 t (ix3 0 a n) = m ((c : Thread nD τ).loc main_arg5) (ix3 (0 : Fin 1) a n) := by
  blk_ext [iblk, V, win_idx t]

theorem blk8 (t : Fin cfg0.N) (e : Fin 1024) (n : Fin 1024) :
    iblk m c 8 t (ix3 0 e n) = m ((c : Thread nD τ).loc main_arg6) (ix3 (0 : Fin 1) e n) := by
  blk_point [iblk, V, win_idx t]

theorem blk9 (t : Fin cfg0.N) (r : Fin 64) (n : Fin 5632) :
    iblk m c 9 t (ix3 0 r n) = m ((c : Thread nD τ).loc main_arg7) (ix3 (0 : Fin 2) (⟨t.val * 64 + r.val, by have := lt16 t; omega⟩ : Fin 1024) n) := by
  blk_ext [iblk, V, win_idx t]

/-- A slice of 1024 modulation values read in the block's sequence. -/
theorem mod_at (t : Fin cfg0.N) (o : ℕ) (i : ∀ a, ![0, 0, o] a + ![1, 1, 1024] a ≤ S1x1x6144.size a) (R : Fin 16384) (hb : R.val / 2048 = t.val / 2) (k : Fin 1024)
    (n : Fin 6144) (hn : n.val = o + k.val) :
    View.ld (iblk m c 3 t : Vec Ideal S1x1x6144 .f32) (Rect.unit (s := S1x1x6144) ![0, 0, o] ![1, 1, 1024] i) (ix3 0 0 k)
      = m ((c : Thread nD τ).loc main_arg1) (ix3 (⟨R.val / 2048, by omega⟩ : Fin 8) 0 n) := by
  refine (View.ld_unit_apply_of _ _ _ _ _ (ix3 0 0 n) fun a => ?_).trans ?_
  · match a with
    | 0 => rfl
    | 1 => rfl
    | 2 => exact hn
  · rw [blk3]; congr 2; exact Fin.ext hb.symm

/-- The gain, scale and shift blocks as the body reads them. -/
abbrev gB (t : Fin cfg0.N) (k : Fin 1024) : EReal := iblk m c 4 t (ix3 0 0 k)
abbrev scB (t : Fin cfg0.N) (k : Fin 1024) : EReal :=
  View.ld (iblk m c 3 t : Vec Ideal S1x1x6144 .f32) (Rect.unit (s := S1x1x6144) ![0, 0, 1024] ![1, 1, 1024] (by decide)) (ix3 0 0 k)
abbrev shB (t : Fin cfg0.N) (k : Fin 1024) : EReal :=
  View.ld (iblk m c 3 t : Vec Ideal S1x1x6144 .f32) (Rect.unit (s := S1x1x6144) ![0, 0, 0] ![1, 1, 1024] (by decide)) (ix3 0 0 k)

/-- A stacked row that is row `R` of the array has that row's projected columns. -/
theorem bp_eq (t : Fin cfg0.N) (y : Fin 1040) (R : Fin 16384) (hb : R.val / 2048 = t.val / 2)
    (hrow : ∀ k, blkrow (iblk m c 0 t) (iblk m c 1 t) (iblk m c 2 t) y k = m ((c : Thread nD τ).loc main_arg0) (ix2 R k)) (n : Fin 3072) :
    bp (iblk m c 0 t) (iblk m c 1 t) (iblk m c 2 t) (gB m c t) (scB m c t) (shB m c t) (iblk m c 6 t) n y
      = gp (m ((c : Thread nD τ).loc main_arg0)) (m ((c : Thread nD τ).loc main_arg1)) (m ((c : Thread nD τ).loc main_arg2)) (m ((c : Thread nD τ).loc main_arg4)) R n := by
  unfold bp gp gu
  refine Finset.sum_congr rfl fun e _ => congrArg₂ _ ?_ (blk6 m c t e n)
  rw [show blkrow (iblk m c 0 t) (iblk m c 1 t) (iblk m c 2 t) y = fun k => m ((c : Thread nD τ).loc main_arg0) (ix2 R k) from funext hrow,
    show gB m c t = fun k => m ((c : Thread nD τ).loc main_arg2) (ix2 (0 : Fin 2) k) from funext fun k => blk4 m c t k,
    show scB m c t = _ from funext fun k => mod_at m c t 1024 _ R hb k ⟨1024 + k.val, by omega⟩ rfl,
    show shB m c t = _ from funext fun k => mod_at m c t 0 _ R hb k ⟨k.val, by omega⟩ (Nat.zero_add _).symm]

/-- A row of the tile has its array row's projected columns. -/
theorem inner (t : Fin cfg0.N) (y : Fin 1040) (Q : Fin 16384) (hy : y.val < 1024) (hQ : Q.val = t.val * 1024 + y.val) (n : Fin 3072) :
    bp (iblk m c 0 t) (iblk m c 1 t) (iblk m c 2 t) (gB m c t) (scB m c t) (shB m c t) (iblk m c 6 t) n y
      = gp (m ((c : Thread nD τ).loc main_arg0)) (m ((c : Thread nD τ).loc main_arg1)) (m ((c : Thread nD τ).loc main_arg2)) (m ((c : Thread nD τ).loc main_arg4)) Q n := by
  have ht := lt16 t
  refine bp_eq m c t y Q (by omega) (fun k => ?_) n
  unfold blkrow
  rw [dif_pos hy, blk1]
  congr 2
  exact Fin.ext hQ.symm

/-- The gated convolution of a block's row is that of the array's row. -/
theorem bact_eq (t : Fin cfg0.N) (r : Fin 1024) (R : Fin 16384) (hR : R.val = t.val * 1024 + r.val) (j : Fin 1024) :
    bact (iblk m c 0 t) (iblk m c 1 t) (iblk m c 2 t) (gB m c t) (scB m c t) (shB m c t) (iblk m c 6 t) (iblk m c 7 t)
        (k0_pay7 (F := Ideal) (BitVec.ofNat 32 (grid0.coords t 0).val)) (k0_pay8 (F := Ideal) (BitVec.ofNat 32 (grid0.coords t 0).val)) r j
      = gact (m ((c : Thread nD τ).loc main_arg0)) (m ((c : Thread nD τ).loc main_arg1)) (m ((c : Thread nD τ).loc main_arg2)) (m ((c : Thread nD τ).loc main_arg4))
          (m ((c : Thread nD τ).loc main_arg5)) R j := by
  have ht := lt16 t
  unfold bact gact
  refine congrArg₂ _ (inner m c t _ R r.isLt hR _) ?_
  unfold conv gconv gx
  rw [flag0, flag1]
  refine congrArg₂ _ (congrArg₂ _ (congrArg₂ _ ?_ (blk7 m c t 0 j)) (congrArg₂ _ (congrArg₂ _ (inner m c t _ R r.isLt hR _) (inner m c t _ R r.isLt hR _)) (blk7 m c t 1 j)))
    (congrArg₂ _ ?_ (blk7 m c t 2 j))
  · by_cases hr : r.val = 0
    · rw [if_pos hr]
      by_cases h2 : t.val % 2 = 0
      · rw [if_pos h2, mul_zero, dif_pos (by omega)]
      · rw [if_neg h2, mul_one, dif_neg (by omega)]
        have hh : ∀ n, bp (iblk m c 0 t) (iblk m c 1 t) (iblk m c 2 t) (gB m c t) (scB m c t) (shB m c t) (iblk m c 6 t) n 1031 = _ := fun n =>
          bp_eq m c t 1031 ⟨R.val - 1, by omega⟩ (by show (R.val - 1) / 2048 = _; omega) (fun k => by
            unfold blkrow
            rw [dif_neg (by decide), dif_pos (by decide), blk0]
            congr 2
            refine Fin.ext ?_
            show (t.val * 128 - 1) * 8 + (1031 - 1024) = R.val - 1
            omega) n
        exact congrArg₂ _ (hh _) (hh _)
    · rw [if_neg hr, dif_neg (by omega)]
      exact congrArg₂ _ (inner m c t _ _ (by show r.val - 1 < 1024; omega) (by show R.val - 1 = t.val * 1024 + (r.val - 1); omega) _)
        (inner m c t _ _ (by show r.val - 1 < 1024; omega) (by show R.val - 1 = t.val * 1024 + (r.val - 1); omega) _)
  · by_cases hr : r.val = 1023
    · rw [if_pos hr]
      by_cases h2 : t.val % 2 = 1
      · rw [if_pos h2, mul_zero, dif_pos (by omega)]
      · rw [if_neg h2, mul_one, dif_neg (by omega)]
        have hh : ∀ n, bp (iblk m c 0 t) (iblk m c 1 t) (iblk m c 2 t) (gB m c t) (scB m c t) (shB m c t) (iblk m c 6 t) n 1032 = _ := fun n =>
          bp_eq m c t 1032 ⟨R.val + 1, by omega⟩ (by show (R.val + 1) / 2048 = _; omega) (fun k => by
            unfold blkrow
            rw [dif_neg (by decide), dif_neg (by decide), blk2]
            congr 2
            refine Fin.ext ?_
            show min ((t.val + 1) * 128) 2047 * 8 + (1032 - 1032) = R.val + 1
            omega) n
        exact congrArg₂ _ (hh _) (hh _)
    · rw [if_neg hr, dif_neg (by omega)]
      exact congrArg₂ _ (inner m c t _ _ (by show r.val + 1 < 1024; omega) (by show R.val + 1 = t.val * 1024 + (r.val + 1); omega) _)
        (inner m c t _ _ (by show r.val + 1 < 1024; omega) (by show R.val + 1 = t.val * 1024 + (r.val + 1); omega) _)

/-- The first result array after the run. -/
theorem arr_eq : (dats m 0 c).arrAt 10 cfg0.N = fun i : S16384x1024.Idx =>
    mixG (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg3)) (i 0) (i 1) := by
  refine (dats m 0 c).arrAt_eq_of_covers 10 _ (by decide +kernel) fun t hf y => ?_
  blk_simp
  rw [after0_10]
  simp only [outsAt0]
  obtain ⟨r, n, hy⟩ : ∃ (r : Fin 1024) (n : Fin 1024), ((cfg0.win 10).xinj (cfg0.grid.coords t) y : S1024x1024.Idx) = ix2 r n :=
    ⟨_, _, (by funext a; match a with | 0 => rfl | 1 => rfl : _ = ix2 (((cfg0.win 10).xinj (cfg0.grid.coords t) y : S1024x1024.Idx) 0) (((cfg0.win 10).xinj (cfg0.grid.coords t) y : S1024x1024.Idx) 1))⟩
  have hi := win_idx t
  have ht := lt16 t
  have hR : ((((cfg0.win 10).blk t).view.emb y) 0).val = t.val * 1024 + r.val := by
    have h0 : r.val = (y 0).val := (congrArg (fun i : S1024x1024.Idx => (i 0).val) hy).symm
    blk_simp [hi]
    simp
    omega
  have hN : ((((cfg0.win 10).blk t).view.emb y) 1).val = n.val := by
    have h0 : n.val = (y 1).val := (congrArg (fun i : S1024x1024.Idx => (i 1).val) hy).symm
    blk_simp [hi]
    simp
    omega
  refine (congrArg _ hy).trans ((out_apply c t _ _ _ _ _ _ _ _ _ _ r n).trans ?_)
  obtain ⟨R, hRd⟩ : ∃ R : Fin 16384, R = (((cfg0.win 10).blk t).view.emb y) 0 := ⟨_, rfl⟩
  have hN' : n = (((cfg0.win 10).blk t).view.emb y) 1 := Fin.ext hN.symm
  rw [← hRd] at hR ⊢
  rw [← hN']
  unfold outVal mixG gy
  have h8 : ∀ k : Fin 1024, (∑ e : Fin 1024, bact (iblk m c 0 t) (iblk m c 1 t) (iblk m c 2 t) (gB m c t) (scB m c t) (shB m c t) (iblk m c 6 t) (iblk m c 7 t)
        (k0_pay7 (F := Ideal) (BitVec.ofNat 32 (grid0.coords t 0).val)) (k0_pay8 (F := Ideal) (BitVec.ofNat 32 (grid0.coords t 0).val)) r e * iblk m c 8 t (ix3 0 e k))
      = ∑ e : Fin 1024, gact (m ((c : Thread nD τ).loc main_arg0)) (m ((c : Thread nD τ).loc main_arg1)) (m ((c : Thread nD τ).loc main_arg2))
          (m ((c : Thread nD τ).loc main_arg4)) (m ((c : Thread nD τ).loc main_arg5)) R e * m ((c : Thread nD τ).loc main_arg6) (ix3 (0 : Fin 1) e k) := fun k =>
    Finset.sum_congr rfl fun e _ => congrArg₂ _ (bact_eq m c t r R hR e) (blk8 m c t e k)
  refine congrArg₂ _ ((blk1 m c t r n).trans ?_) (congrArg₂ _ (congrArg₂ _ (mod_at m c t 2048 _ R (by omega) n ⟨2048 + n.val, by omega⟩ rfl) (blk5 m c t n))
    (congrArg₂ _ (h8 n) (congrArg rms (funext h8))))
  congr 2; exact Fin.ext hR.symm

/-- The second result array after the run: the first layer's weight. -/
theorem cast_eq : (dats m 0 c).arrAt 11 cfg0.N = fun i : S1024x5632.Idx => m ((c : Thread nD τ).loc main_arg7) (ix3 (0 : Fin 2) (i 0) (i 1)) := by
  refine (dats m 0 c).arrAt_eq_of_covers 11 _ (by decide +kernel) fun t hf y => ?_
  blk_simp
  rw [after0_11]
  simp only [outsAt0]
  obtain ⟨r, n, hy⟩ : ∃ (r : Fin 64) (n : Fin 5632), ((cfg0.win 11).xinj (cfg0.grid.coords t) y : S64x5632.Idx) = ix2 r n :=
    ⟨_, _, (by funext a; match a with | 0 => rfl | 1 => rfl : _ = ix2 (((cfg0.win 11).xinj (cfg0.grid.coords t) y : S64x5632.Idx) 0) (((cfg0.win 11).xinj (cfg0.grid.coords t) y : S64x5632.Idx) 1))⟩
  have hi := win_idx t
  have ht := lt16 t
  have hR : ((((cfg0.win 11).blk t).view.emb y) 0).val = t.val * 64 + r.val := by
    have h0 : r.val = (y 0).val := (congrArg (fun i : S64x5632.Idx => (i 0).val) hy).symm
    blk_simp [hi]
    simp
    omega
  have hN : ((((cfg0.win 11).blk t).view.emb y) 1).val = n.val := by
    have h0 : n.val = (y 1).val := (congrArg (fun i : S64x5632.Idx => (i 1).val) hy).symm
    blk_simp [hi]
    simp
    omega
  refine (congrArg _ hy).trans ((cast_apply c t _ _ _ _ _ _ _ _ _ _ r n).trans ((blk9 m c t r n).trans ?_))
  exact congrArg₂ (fun (R : Fin 1024) (N : Fin 5632) => m ((c : Thread nD τ).loc main_arg7) (ix3 (0 : Fin 2) R N)) (Fin.ext hR.symm) (Fin.ext hN.symm)

end Cert.Mix
-- ==== Proof.MixRef.lean ====
/-
  The reference of the mixer sublayer, read: its first result is `mixG` of the arguments. Rows are numbered by the
  sequence `b` and the position `s` in it.
-/
module

public import proofs.«01_k».proof.Proof.MixSpec
public import proofs.«01_k».proof.Proof.AttnRef
public import proofs.«01_k».proof.Proof.Gen.MixerReferenceIdeal.Read
public import Idealize.ShloMosaic.Lib.KernelVsHost
public import Idealize.ShloMosaic.Lib.IdealHost

@[expose] public section

set_option maxRecDepth 16384

noncomputable section

namespace Cert.Mix

open Cert.MixerReferenceIdeal Cert.MixerReferenceIdeal.Gen Cert.MixerReferenceIdeal.Read Idealize.ShloMosaic Idealize.ShloMosaic.TcCoe
open Cert.Attn (rms bits_zero reorder)

section
variable (X0 : FVec Ideal S16384x1024 .f32) (X1 : FVec Ideal S8x1x6144 .f32) (X2 : FVec Ideal S2x1024 .f32)

/-- The residual's row, split by sequence. -/
theorem row_ref (b : Fin 8) (s : Fin 2048) (e : Fin 1024) :
    val_main_v0 (F := Ideal) X0 (ix3 b s e) = X0 (ix2 (⟨b.val * 2048 + s.val, by omega⟩ : Fin 16384) e) := by
  rw [val_main_v0_apply]
  refine congrArg X0 (funext fun a => Fin.ext ?_)
  match a with
  | ⟨0, _⟩ => dsimp [ix2, ix3]; omega
  | ⟨1, _⟩ => dsimp [ix2, ix3]; omega

/-- The first norm's scale. -/
theorem norm_ref (b : Fin 8) (s : Fin 2048) (e : Fin 1024) :
    val_main_v17 (F := Ideal) X0 (ix3 b s e) = rms fun k => X0 (ix2 (⟨b.val * 2048 + s.val, by omega⟩ : Fin 16384) k) := by
  rw [val_main_v17_apply, val_main_v16_apply, val_main_v15_apply, val_main_v13_apply, val_main_v11_apply, val_main_v10_apply, val_main_cst_apply]
  have hz : (FloatOps.ofBits FTy.f32 0x00000000#32 : Ideal .f32) = (0 : EReal) := bits_zero
  have hsum : (FloatOps.ofBits FTy.f32 0x00000000#32 : Ideal .f32) + ∑ k : Fin 1024, val_main_v9 (F := Ideal) X0
        (idx_main_v10 (idx_main_v11 (idx_main_v17 (ix3 b s e))) k)
      = ∑ k : Fin 1024, (X0 (ix2 (⟨b.val * 2048 + s.val, by omega⟩ : Fin 16384) k) : EReal) * X0 (ix2 (⟨b.val * 2048 + s.val, by omega⟩ : Fin 16384) k) := by
    rw [hz]
    refine (zero_add _).trans (Finset.sum_congr rfl fun q _ => ?_)
    have he : idx_main_v10 (idx_main_v11 (idx_main_v17 (ix3 b s e))) q = ix3 b s q := funext fun a => by
      match a with
      | ⟨0, _⟩ => rfl
      | ⟨1, _⟩ => rfl
      | ⟨2, _⟩ => rfl
    rw [he, val_main_v9_apply, row_ref]
    rfl
  rw [hsum]
  rfl

/-- The normalized, modulated row. -/
theorem u_ref (b : Fin 8) (s : Fin 2048) (e : Fin 1024) :
    val_main_v27 (F := Ideal) X0 X1 X2 (ix3 b s e) = gu X0 X1 X2 ⟨b.val * 2048 + s.val, by omega⟩ e := by
  have hb : (⟨(b.val * 2048 + s.val) / 2048, by omega⟩ : Fin 8) = b := Fin.ext (by dsimp; omega)
  rw [val_main_v27_apply, val_main_v25_apply, val_main_v21_apply, val_main_v18_apply, row_ref, norm_ref, val_main_v20_apply,
    val_main_v19_apply, val_main_v8_apply, val_main_v7_apply, val_main_v24_apply, val_main_v23_apply, val_main_v22_apply, val_main_cst_2_apply,
    val_main_v2_apply, val_main_v26_apply, val_main_v1_apply]
  have e2 : idx_main_v7 (idx_main_v8 (idx_main_v19 (idx_main_v20 (ix3 b s e)))) = ix2 (0 : Fin 2) e := funext fun a => Fin.ext (by
    match a with
    | ⟨0, _⟩ => dsimp [ix2, ix3]; try omega
    | ⟨1, _⟩ => dsimp [ix2, ix3]; try omega)
  have e5 : idx_main_v2 (idx_main_v24 (ix3 b s e)) = ix3 b 0 (⟨1024 + e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e4 : idx_main_v1 (idx_main_v26 (ix3 b s e)) = ix3 b 0 (⟨e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  rw [e2, e5, e4]
  unfold gu Cert.Ffn1.urow
  rw [hb]
  have h1 : (FloatOps.ofBits FTy.f32 0x3F800000#32 : Ideal .f32) = (1 : EReal) := Ideal.ofBits_one_f32
  rw [h1]
  refine congrArg₂ (fun x y : EReal => x + y) ?_ rfl
  exact mul_assoc (G := EReal) _ _ _

variable (X4 : FVec Ideal S1x1024x3072 .f32)

/-- The projection. -/
theorem p_ref (b : Fin 8) (s : Fin 2048) (n : Fin 3072) :
    val_main_v31 (F := Ideal) X0 X1 X2 X4 (ix3 b s n) = gp X0 X1 X2 X4 ⟨b.val * 2048 + s.val, by omega⟩ n := by
  rw [val_main_v31_apply]
  refine Finset.sum_congr rfl fun e _ => ?_
  rw [← u_ref, val_main_v28_apply]
  refine congrArg₂ (fun x y : EReal => x * y) (congrArg _ (funext fun a => ?_)) (congrArg X4 (funext fun a => Fin.ext ?_))
  · match a with
    | ⟨0, _⟩ => rfl
    | ⟨1, _⟩ => rfl
    | ⟨2, _⟩ => rfl
  · match a with
    | ⟨0, _⟩ => dsimp [ix2, ix3]; try omega
    | ⟨1, _⟩ => dsimp [ix2, ix3]; omega
    | ⟨2, _⟩ => dsimp [ix2, ix3]; omega

/-- The product of the two columns that the convolution takes. -/
theorem x_ref (b : Fin 8) (s : Fin 2048) (j : Fin 1024) :
    val_main_v35 (F := Ideal) X0 X1 X2 X4 (ix3 b s j) = gx X0 X1 X2 X4 ⟨b.val * 2048 + s.val, by omega⟩ j := by
  rw [val_main_v35_apply, val_main_v33_apply, val_main_v34_apply]
  have e0 : idx_main_v33 (ix3 b s j) = ix3 b s (⟨1024 + j.val, by omega⟩ : Fin 3072) := funext fun a => by
    match a with
    | ⟨0, _⟩ => rfl
    | ⟨1, _⟩ => rfl
    | ⟨2, _⟩ => rfl
  have e1 : idx_main_v34 (ix3 b s j) = ix3 b s (⟨2048 + j.val, by omega⟩ : Fin 3072) := funext fun a => by
    match a with
    | ⟨0, _⟩ => rfl
    | ⟨1, _⟩ => rfl
    | ⟨2, _⟩ => rfl
  rw [e0, e1, p_ref, p_ref]
  rfl

/-- The padding value is zero. -/
theorem pad_zero (i : S_.Idx) : val_main_call0_v0 (F := Ideal) i = (0 : EReal) := by
  rw [val_main_call0_v0_apply, val_main_c_apply]
  show (((0#32 : BitVec 32).toInt : ℝ) : EReal) = 0
  simp

/-- A padded row inside the sequence. -/
theorem pad_in (b : Fin 8) (p : Fin 2050) (s : Fin 2048) (h : p.val = s.val + 1) (n : Fin 1024) :
    val_main_v36 (F := Ideal) X0 X1 X2 X4 (ix3 b p n) = gx X0 X1 X2 X4 ⟨b.val * 2048 + s.val, by omega⟩ n := by
  rw [← x_ref]
  unfold val_main_v36
  refine pad_apply_of_inside _ _ _ _ _ _ _ (ix3 b p n) (ix3 b s n) fun a => ?_
  match a with
  | ⟨0, _⟩ => show b.val = 0 + b.val * (0 + 1); omega
  | ⟨1, _⟩ => show p.val = 1 + s.val * (0 + 1); omega
  | ⟨2, _⟩ => show n.val = 0 + n.val * (0 + 1); omega

/-- A padded row beyond an end of the sequence. -/
theorem pad_out (b : Fin 8) (p : Fin 2050) (h : p.val = 0 ∨ p.val = 2049) (n : Fin 1024) :
    val_main_v36 (F := Ideal) X0 X1 X2 X4 (ix3 b p n) = (0 : EReal) := by
  unfold val_main_v36
  refine (pad_apply_of_not_inside _ _ _ _ _ _ _ (ix3 b p n) (1 : Fin 3) ?_).trans (pad_zero _)
  show ¬(1 ≤ p.val ∧ (p.val - 1) % (0 + 1) = 0 ∧ (p.val - 1) / (0 + 1) < 2048)
  omega

variable (X5 : FVec Ideal S1x3x1024 .f32)

/-- The convolution. -/
theorem conv_ref (b : Fin 8) (s : Fin 2048) (n : Fin 1024) :
    val_main_v56 (F := Ideal) X0 X1 X2 X4 X5 (ix3 b s n) = gconv X0 X1 X2 X4 X5 ⟨b.val * 2048 + s.val, by omega⟩ n := by
  rw [val_main_v56_apply, val_main_v49_apply, val_main_v42_apply, val_main_v48_apply, val_main_v55_apply,
    val_main_v37_apply, val_main_v43_apply, val_main_v50_apply,
    val_main_v41_apply, val_main_v40_apply, val_main_v39_apply, val_main_v38_apply,
    val_main_v47_apply, val_main_v46_apply, val_main_v45_apply, val_main_v44_apply,
    val_main_v54_apply, val_main_v53_apply, val_main_v52_apply, val_main_v51_apply]
  simp only [val_main_v29_apply]
  have k0 : idx_main_v29 (idx_main_v38 (idx_main_v39 (idx_main_v40 (idx_main_v41 (ix3 b s n))))) = ix3 (0 : Fin 1) (0 : Fin 3) n :=
    funext fun a => Fin.ext (by
      match a with
      | ⟨0, _⟩ => dsimp [ix3]; try omega
      | ⟨1, _⟩ => dsimp [ix3]; try omega
      | ⟨2, _⟩ => dsimp [ix3]; try omega)
  have k1 : idx_main_v29 (idx_main_v44 (idx_main_v45 (idx_main_v46 (idx_main_v47 (ix3 b s n))))) = ix3 (0 : Fin 1) (1 : Fin 3) n :=
    funext fun a => Fin.ext (by
      match a with
      | ⟨0, _⟩ => dsimp [ix3]; try omega
      | ⟨1, _⟩ => dsimp [ix3]; try omega
      | ⟨2, _⟩ => dsimp [ix3]; try omega)
  have k2 : idx_main_v29 (idx_main_v51 (idx_main_v52 (idx_main_v53 (idx_main_v54 (ix3 b s n))))) = ix3 (0 : Fin 1) (2 : Fin 3) n :=
    funext fun a => Fin.ext (by
      match a with
      | ⟨0, _⟩ => dsimp [ix3]; try omega
      | ⟨1, _⟩ => dsimp [ix3]; try omega
      | ⟨2, _⟩ => dsimp [ix3]; try omega)
  have r0 : idx_main_v37 (ix3 b s n) = ix3 b (⟨s.val, by omega⟩ : Fin 2050) n := funext fun a => by
    match a with
    | ⟨0, _⟩ => rfl
    | ⟨1, _⟩ => rfl
    | ⟨2, _⟩ => rfl
  have r1 : idx_main_v43 (ix3 b s n) = ix3 b (⟨1 + s.val, by omega⟩ : Fin 2050) n := funext fun a => by
    match a with
    | ⟨0, _⟩ => rfl
    | ⟨1, _⟩ => rfl
    | ⟨2, _⟩ => rfl
  have r2 : idx_main_v50 (ix3 b s n) = ix3 b (⟨2 + s.val, by omega⟩ : Fin 2050) n := funext fun a => by
    match a with
    | ⟨0, _⟩ => rfl
    | ⟨1, _⟩ => rfl
    | ⟨2, _⟩ => rfl
  rw [k0, k1, k2, r0, r1, r2]
  unfold gconv
  refine congrArg₂ (fun x y : EReal => x + y) (congrArg₂ (fun x y : EReal => x + y) (congrArg₂ (fun x y : EReal => x * y) ?_ rfl)
    (congrArg₂ (fun x y : EReal => x * y) ?_ rfl)) (congrArg₂ (fun x y : EReal => x * y) ?_ rfl)
  · by_cases h : s.val = 0
    · rw [pad_out X0 X1 X2 X4 b _ (Or.inl h), dif_pos (by dsimp; omega)]
    · rw [pad_in X0 X1 X2 X4 b _ ⟨s.val - 1, by omega⟩ (by dsimp; omega), dif_neg (by dsimp; omega)]
      exact congrArg (fun R => gx X0 X1 X2 X4 R n) (Fin.ext (by dsimp; omega))
  · exact pad_in X0 X1 X2 X4 b _ s (by dsimp; omega) n
  · by_cases h : s.val = 2047
    · rw [pad_out X0 X1 X2 X4 b _ (Or.inr (by dsimp; omega)), dif_pos (by dsimp; omega)]
    · rw [pad_in X0 X1 X2 X4 b _ ⟨s.val + 1, by omega⟩ (by dsimp; omega), dif_neg (by dsimp; omega)]
      exact congrArg (fun R => gx X0 X1 X2 X4 R n) (Fin.ext (by dsimp; omega))

/-- The gate times the convolution. -/
theorem act_ref (b : Fin 8) (s : Fin 2048) (j : Fin 1024) :
    val_main_v57 (F := Ideal) X0 X1 X2 X4 X5 (ix3 b s j) = gact X0 X1 X2 X4 X5 ⟨b.val * 2048 + s.val, by omega⟩ j := by
  rw [val_main_v57_apply, val_main_v32_apply]
  have e0 : idx_main_v32 (ix3 b s j) = ix3 b s (⟨j.val, by omega⟩ : Fin 3072) := funext fun a => by
    match a with
    | ⟨0, _⟩ => rfl
    | ⟨1, _⟩ => rfl
    | ⟨2, _⟩ => rfl
  rw [e0, p_ref, conv_ref]
  rfl

variable (X6 : FVec Ideal S1x1024x1024 .f32)

/-- The down projection. -/
theorem y_ref (b : Fin 8) (s : Fin 2048) (n : Fin 1024) :
    val_main_v58 (F := Ideal) X0 X1 X2 X4 X5 X6 (ix3 b s n) = gy X0 X1 X2 X4 X5 X6 ⟨b.val * 2048 + s.val, by omega⟩ n := by
  rw [val_main_v58_apply]
  refine Finset.sum_congr rfl fun e _ => ?_
  rw [← act_ref, val_main_v30_apply]
  refine congrArg₂ (fun x y : EReal => x * y) (congrArg _ (funext fun a => ?_)) (congrArg X6 (funext fun a => Fin.ext ?_))
  · match a with
    | ⟨0, _⟩ => rfl
    | ⟨1, _⟩ => rfl
    | ⟨2, _⟩ => rfl
  · match a with
    | ⟨0, _⟩ => dsimp [ix2, ix3]; try omega
    | ⟨1, _⟩ => dsimp [ix2, ix3]; omega
    | ⟨2, _⟩ => dsimp [ix2, ix3]; omega

/-- The second norm's scale. -/
theorem rms_ref (b : Fin 8) (s : Fin 2048) (n : Fin 1024) :
    val_main_v69 (F := Ideal) X0 X1 X2 X4 X5 X6 (ix3 b s n) = rms (gy X0 X1 X2 X4 X5 X6 ⟨b.val * 2048 + s.val, by omega⟩) := by
  rw [val_main_v69_apply, val_main_v68_apply, val_main_v67_apply, val_main_v65_apply, val_main_v63_apply, val_main_v62_apply, val_main_cst_3_apply]
  have hz : (FloatOps.ofBits FTy.f32 0x00000000#32 : Ideal .f32) = (0 : EReal) := bits_zero
  have hsum : (FloatOps.ofBits FTy.f32 0x00000000#32 : Ideal .f32) + ∑ k : Fin 1024, val_main_v61 (F := Ideal) X0 X1 X2 X4 X5 X6
        (idx_main_v62 (idx_main_v63 (idx_main_v69 (ix3 b s n))) k)
      = ∑ k : Fin 1024, gy X0 X1 X2 X4 X5 X6 ⟨b.val * 2048 + s.val, by omega⟩ k * gy X0 X1 X2 X4 X5 X6 ⟨b.val * 2048 + s.val, by omega⟩ k := by
    rw [hz]
    refine (zero_add _).trans (Finset.sum_congr rfl fun q _ => ?_)
    have he : idx_main_v62 (idx_main_v63 (idx_main_v69 (ix3 b s n))) q = ix3 b s q := funext fun a => by
      match a with
      | ⟨0, _⟩ => rfl
      | ⟨1, _⟩ => rfl
      | ⟨2, _⟩ => rfl
    rw [he, val_main_v61_apply, y_ref]
    rfl
  rw [hsum]
  rfl

variable (X3 : FVec Ideal S2x1024 .f32)

/-- The reference's first result is the sublayer in mathematics. -/
theorem out_ref (i : S16384x1024.Idx) :
    val_main_v77 (F := Ideal) X0 X1 X2 X3 X4 X5 X6 i = mixG X0 X1 X2 X4 X5 X6 X3 (i 0) (i 1) := by
  obtain ⟨R, n, rfl⟩ : ∃ (R : Fin 16384) (n : Fin 1024), i = ix2 R n := ⟨i 0, i 1, funext fun a => by
    match a with
    | ⟨0, _⟩ => rfl
    | ⟨1, _⟩ => rfl⟩
  have he : idx_main_v77 (ix2 R n) = ix3 (⟨R.val / 2048, by omega⟩ : Fin 8) (⟨R.val % 2048, by omega⟩ : Fin 2048) n :=
    funext fun a => Fin.ext (by
      match a with
      | ⟨0, _⟩ => dsimp [ix2, ix3]; omega
      | ⟨1, _⟩ => dsimp [ix2, ix3]; omega
      | ⟨2, _⟩ => dsimp [ix2, ix3]; omega)
  have hR : (⟨R.val / 2048 * 2048 + R.val % 2048, by omega⟩ : Fin 16384) = R := Fin.ext (by dsimp; omega)
  rw [val_main_v77_apply, he, val_main_v76_apply, val_main_v75_apply, val_main_v73_apply, val_main_v70_apply, rms_ref, y_ref, row_ref,
    val_main_v74_apply, val_main_v3_apply, val_main_v72_apply, val_main_v71_apply, val_main_v60_apply, val_main_v59_apply]
  dsimp only
  rw [hR]
  have e6 : idx_main_v3 (idx_main_v74 (ix3 (⟨R.val / 2048, by omega⟩ : Fin 8) (⟨R.val % 2048, by omega⟩ : Fin 2048) n))
      = ix3 (⟨R.val / 2048, by omega⟩ : Fin 8) 0 (⟨2048 + n.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e7 : idx_main_v59 (idx_main_v60 (idx_main_v71 (idx_main_v72 (ix3 (⟨R.val / 2048, by omega⟩ : Fin 8) (⟨R.val % 2048, by omega⟩ : Fin 2048) n))))
      = ix2 (0 : Fin 2) n := funext fun a => Fin.ext (by
    match a with
    | ⟨0, _⟩ => dsimp [ix2, ix3]; try omega
    | ⟨1, _⟩ => dsimp [ix2, ix3]; try omega)
  rw [e6, e7]
  exact reorder _ _ _ _ _

/-- The reference's second result is the first layer's weight. -/
theorem cast_ref (X7 : FVec Ideal S2x1024x5632 .f32) (i : S1024x5632.Idx) :
    val_main_v80 (F := Ideal) X7 i = X7 (ix3 (0 : Fin 2) (i 0) (i 1)) := by
  rw [val_main_v80_apply, val_main_v79_apply, val_main_v78_apply]
  refine congrArg X7 (funext fun a => Fin.ext ?_)
  have h0 : (i 0).val < 1024 := (i 0).isLt
  have h1 : (i 1).val < 5632 := (i 1).isLt
  match a with
  | ⟨0, _⟩ => dsimp [ix2, ix3]; try omega
  | ⟨1, _⟩ => dsimp [ix2, ix3]; omega
  | ⟨2, _⟩ => dsimp [ix2, ix3]; omega
end

end Cert.Mix
-- ==== Proof.MixClaim.lean ====
/-
  The value claim of the mixer sublayer: from equal arguments the kernel and the reference end with equal results.
-/
module

public import proofs.«01_k».proof.Defs
public import proofs.«01_k».proof.Proof.MixArray
public import proofs.«01_k».proof.Proof.MixRef
public import proofs.«01_k».proof.Proof.Gen.MixerReferenceIdeal.Run
public import proofs.«01_k».proof.Proof.Gen.MixerIdeal.Value

@[expose] public section

set_option maxRecDepth 16384

noncomputable section

namespace Cert.Mix

open Idealize.ShloMosaic Idealize.ShloMosaic.TcCoe Idealize.SL.Sem

/-- From equal arguments the kernel and the reference end with equal results. -/
theorem algebraic : Cert.algebraic_MixerIdeal_MixerReferenceIdeal (hMixerIdeal := Cert.MixerIdeal.Gen.facts)
    (hMixerReferenceIdeal := Cert.MixerReferenceIdeal.Gen.facts) := by
  intro m g m' g' _ hargs
  refine ⟨fun c => (Cert.MixerIdeal.Gen.dats m 0 c).arrAt 10 Cert.MixerIdeal.cfg0.N,
    fun c => (Cert.MixerIdeal.Gen.dats m 0 c).arrAt 11 Cert.MixerIdeal.cfg0.N, Cert.MixerIdeal.Value.run_blocks m g, ?_⟩
  refine (θ_run (Cert.MixerReferenceIdeal.defs (F := Ideal)) _ _).mono (fun r h c => ?_) (Cert.MixerReferenceIdeal.Value.run (F := Ideal) m' g')
  obtain ⟨hv, hw, hk⟩ := h c
  obtain ⟨a0, a1, a2, a3, a4, a5, a6, a7⟩ := hargs c
  refine ⟨hv.trans ?_, hw.trans ?_, hk⟩
  · rw [Cert.MixerReferenceIdeal.Read.val_main_v77_eq, a0, a1, a2, a3, a4, a5, a6]
    refine Eq.trans (funext fun i => ?_) (arr_eq m c).symm
    exact out_ref _ _ _ _ _ _ _ i
  · rw [Cert.MixerReferenceIdeal.Read.val_main_v80_eq, a7]
    refine Eq.trans (funext fun i => ?_) (cast_eq m c).symm
    exact cast_ref _ i

end Cert.Mix
-- ==== Proof.QkvRun.lean ====
/-
  The body of the projection call, run once: what it leaves in each of its result buffers, as the list of its stores.
-/
module

public import proofs.«01_k».proof.Proof.Gen.QkvIdeal.Skeleton
public import proofs.«01_k».proof.Proof.Gen.QkvIdeal.Frame

@[expose] public section

set_option maxRecDepth 16384

noncomputable section

namespace Cert.Qkv1

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores of one run of the body, one list for each result buffer, and the proof that the body, given its inputs'
    buffers, leaves them as they were and each result buffer with its stores over what it held before. -/
def bodyRun (c : Dev nD) (i : grid0.Coords) (arg1 : Memref sig .tc .vmem S1024x1024 .f32) (harg1 : arg1.IsWhole) (arg2 : Memref sig .tc .vmem S1x1x6144 .f32) (harg2 : arg2.IsWhole) (arg3 : Memref sig .tc .vmem S1x1x1024 .f32) (harg3 : arg3.IsWhole) (arg4 : Memref sig .tc .vmem S1x1024x1536 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x352x1024 .f32) (harg7 : arg7.IsWhole) (arg8 : Memref sig .tc .vmem S1024x1024 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S352x1024 .bf16) (harg13 : arg13.IsWhole)
    (x0 : Vec F S1024x1024 .f32) (x1 : Vec F S1x1x6144 .f32) (x2 : Vec F S1x1x1024 .f32) (x3 : Vec F S1x1024x1536 .bf16) (x4 : Vec F S1x1x128 .f32) (x5 : Vec F S1x1x128 .f32) (x6 : Vec F S1x352x1024 .f32) :
    Σ' (L7 : List (View.Piece (Elt F) S1024x1024 .bf16)), Σ' (L8 : List (View.Piece (Elt F) S1024x256 .bf16)), Σ' (L9 : List (View.Piece (Elt F) S1024x256 .bf16)), Σ' (L10 : List (View.Piece (Elt F) S2048x128 .f32)), Σ' (L11 : List (View.Piece (Elt F) S2048x128 .f32)), { L12 : List (View.Piece (Elt F) S352x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0_qkv1_ctx i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_qkv1_ctx_eq_skeleton]; unfold cc0_qkv1_ctx_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Qkv1
-- ==== Proof.QkvFrame.lean ====
/-
  The frame of the projection call: what its result buffers hold point by point, the body's obligation, and the run.
  Two of its results are stored a row out of two at a time, each head's rows between the other's; `strided_cover` is the
  one place where that matters.
-/
module

public import proofs.«01_k».proof.Proof.QkvRun
public import Idealize.ShloMosaic.Lib.Claim

@[expose] public section

set_option maxRecDepth 16384

noncomputable section

namespace Cert.Qkv1

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The even rows of a block of 2048 rows, -/
abbrev evenRows : Rect S2048x128 := ⟨(⟨![0, 0], S1024x128.size, ![2, 1], inb_S2048x128_S1024x128_0_0_s_2_1⟩ : LoadRect S2048x128), spos_2_1⟩

/-- and its odd rows. -/
abbrev oddRows : Rect S2048x128 := ⟨(⟨![1, 0], S1024x128.size, ![2, 1], inb_S2048x128_S1024x128_1_0_s_2_1⟩ : LoadRect S2048x128), spos_2_1⟩

/-- Each row is of the one or of the other: two stores, of the even and of the odd rows, cover the block. -/
theorem strided_cover (v w : Vec F S1024x128 .f32) (y : S2048x128.Idx) :
    ∃ pc ∈ ([⟨oddRows, w⟩, ⟨evenRows, v⟩] : List (View.Piece (Elt F) S2048x128 .f32)), y ∈ pc.1.set := by
  have h0 : (y 0).val < 2048 := (y 0).isLt
  have h1 : (y 1).val < 128 := (y 1).isLt
  rcases Nat.mod_two_eq_zero_or_one (y 0).val with h | h
  · refine ⟨_, List.mem_cons_of_mem _ List.mem_cons_self, (LoadRect.mem_set _).mpr fun a => ?_⟩
    match a with
    | 0 => exact ⟨(y 0).val / 2, (by show (y 0).val / 2 < 1024; omega), (by show (y 0).val = 0 + 2 * ((y 0).val / 2); omega)⟩
    | 1 => exact ⟨(y 1).val, h1, (by show (y 1).val = 0 + 1 * (y 1).val; omega)⟩
  · refine ⟨_, List.mem_cons_self, (LoadRect.mem_set _).mpr fun a => ?_⟩
    match a with
    | 0 => exact ⟨(y 0).val / 2, (by show (y 0).val / 2 < 1024; omega), (by show (y 0).val = 1 + 2 * ((y 0).val / 2); omega)⟩
    | 1 => exact ⟨(y 1).val, h1, (by show (y 1).val = 0 + 1 * (y 1).val; omega)⟩

section Covers

variable (c : Dev nD) (i : grid0.Coords) (arg1 : Memref sig .tc .vmem S1024x1024 .f32) (harg1 : arg1.IsWhole) (arg2 : Memref sig .tc .vmem S1x1x6144 .f32) (harg2 : arg2.IsWhole) (arg3 : Memref sig .tc .vmem S1x1x1024 .f32) (harg3 : arg3.IsWhole) (arg4 : Memref sig .tc .vmem S1x1024x1536 .bf16) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x352x1024 .f32) (harg7 : arg7.IsWhole) (arg8 : Memref sig .tc .vmem S1024x1024 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S2048x128 .f32) (harg11 : arg11.IsWhole) (arg12 : Memref sig .tc .vmem S2048x128 .f32) (harg12 : arg12.IsWhole) (arg13 : Memref sig .tc .vmem S352x1024 .bf16) (harg13 : arg13.IsWhole)
  (x0 : Vec F S1024x1024 .f32) (x1 : Vec F S1x1x6144 .f32) (x2 : Vec F S1x1x1024 .f32) (x3 : Vec F S1x1024x1536 .bf16) (x4 : Vec F S1x1x128 .f32) (x5 : Vec F S1x1x128 .f32) (x6 : Vec F S1x352x1024 .f32)

/-- The stores of result 0 (the queries) cover its block. -/
theorem cover_7 (y : S1024x1024.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).1 S1024x128.size (by sl_kernel_rfl) y

/-- The stores of result 1 (the keys) cover its block. -/
theorem cover_8 (y : S1024x256.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.1 S1024x128.size (by sl_kernel_rfl) y

/-- The stores of result 2 (the values) cover its block. -/
theorem cover_9 (y : S1024x256.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.1 S1024x128.size (by sl_kernel_rfl) y

/-- The stores of result 3 (the keys, unrounded) cover its block. -/
theorem cover_10 (y : S2048x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.2.1, y ∈ pc.1.set :=
  strided_cover _ _ y

/-- The stores of result 4 (the values, unrounded) cover its block. -/
theorem cover_11 (y : S2048x128.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.2.2.1, y ∈ pc.1.set :=
  strided_cover _ _ y

/-- The stores of result 5 (the weights passed through) cover its block. -/
theorem cover_12 (y : S352x1024.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.2.2.2.1 S352x1024.size (by sl_kernel_rfl) y

end Covers

/-- Each window's staging buffer at point `t`, and that it is whole. -/
abbrev ms_0 (t : Fin cfg0.N) : Memref sig .tc .vmem S1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1x6144 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1024x1536 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x1x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x352x1024 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1024x1024 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1024x256 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1024x256 .bf16 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S2048x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S2048x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S352x1024 .bf16 := win0_12.stage (cfg0.slots t 12)
abbrev hs_12 (t : Fin cfg0.N) : (ms_12 t).IsWhole := hstage0_12 ((cfg0.slots t 12).cast nbuf0_12)

/-- The body's run at point `t`, on the blocks there. -/
abbrev runAt (c : Dev nD) (t : Fin cfg0.N) :=
  bodyRun c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (iblk m c 0 t) (iblk m c 1 t) (iblk m c 2 t) (iblk m c 3 t) (iblk m c 4 t) (iblk m c 5 t) (iblk m c 6 t)

/-- What the result buffers hold after the body at point `t`: the run's stores, read back. -/
def out_7 (c : Dev nD) (t : Fin cfg0.N) : Vec F S1024x1024 .bf16 := View.canon (runAt m c t).1
def out_8 (c : Dev nD) (t : Fin cfg0.N) : Vec F S1024x256 .bf16 := View.canon (runAt m c t).2.1
def out_9 (c : Dev nD) (t : Fin cfg0.N) : Vec F S1024x256 .bf16 := View.canon (runAt m c t).2.2.1
def out_10 (c : Dev nD) (t : Fin cfg0.N) : Vec F S2048x128 .f32 := View.canon (runAt m c t).2.2.2.1
def out_11 (c : Dev nD) (t : Fin cfg0.N) : Vec F S2048x128 .f32 := View.canon (runAt m c t).2.2.2.2.1
def out_12 (c : Dev nD) (t : Fin cfg0.N) : Vec F S352x1024 .bf16 := View.canon (runAt m c t).2.2.2.2.2.1

/-- The data of the run: the arrays as the call finds them, the inputs' buffers left at their blocks, the results' at
    `out_7` to `out_12`, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out_7 m c t
    | ⟨8, _⟩ => out_8 m c t
    | ⟨9, _⟩ => out_9 m c t
    | ⟨10, _⟩ => out_10 m c t
    | ⟨11, _⟩ => out_11 m c t
    | ⟨12, _⟩ => out_12 m c t
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out_7 m c t := by dsimp only [dats]
theorem after_8 (c : Dev nD) (t : Fin cfg0.N) : (dats m 0 c).after 8 t = out_8 m c t := by dsimp only [dats]
theorem after_9 (c : Dev nD) (t : Fin cfg0.N) : (dats m 0 c).after 9 t = out_9 m c t := by dsimp only [dats]
theorem after_10 (c : Dev nD) (t : Fin cfg0.N) : (dats m 0 c).after 10 t = out_10 m c t := by dsimp only [dats]
theorem after_11 (c : Dev nD) (t : Fin cfg0.N) : (dats m 0 c).after 11 t = out_11 m c t := by dsimp only [dats]
theorem after_12 (c : Dev nD) (t : Fin cfg0.N) : (dats m 0 c).after 12 t = out_12 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t))

set_option maxHeartbeats 1200000 in
/-- The body at any point: its inputs' buffers hold their blocks, so the run applies; what the run leaves in a result
    buffer is its stores, since they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  unfold out_7 out_8 out_9 out_10 out_11 out_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runAt m c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, ⟨%e7, H7⟩, ⟨%e8, H8⟩, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover_7 c _ _ _ _ _ _ _ _ _ _ _ _ _ _ _ _ _ _ _ _ _ _ _ _ _ _ _ _ _ _ _ _ _ _)
  isplitl [H8]
  · unfold owns; iexists _; isplitr
    swap; · iexact H8
    ipureintro; exact View.read_writes_eq_canon _ _ _ (cover_8 c _ _ _ _ _ _ _ _ _ _ _ _ _ _ _ _ _ _ _ _ _ _ _ _ _ _ _ _ _ _ _ _ _ _)
  isplitl [H9]
  · unfold owns; iexists _; isplitr
    swap; · iexact H9
    ipureintro; exact View.read_writes_eq_canon _ _ _ (cover_9 c _ _ _ _ _ _ _ _ _ _ _ _ _ _ _ _ _ _ _ _ _ _ _ _ _ _ _ _ _ _ _ _ _ _)
  isplitl [H10]
  · unfold owns; iexists _; isplitr
    swap; · iexact H10
    ipureintro; exact View.read_writes_eq_canon _ _ _ (cover_10 c _ _ _ _ _ _ _ _ _ _ _ _ _ _ _ _ _ _ _ _ _ _ _ _ _ _ _ _ _ _ _ _ _ _)
  isplitl [H11]
  · unfold owns; iexists _; isplitr
    swap; · iexact H11
    ipureintro; exact View.read_writes_eq_canon _ _ _ (cover_11 c _ _ _ _ _ _ _ _ _ _ _ _ _ _ _ _ _ _ _ _ _ _ _ _ _ _ _ _ _ _ _ _ _ _)
  unfold owns; iexists _; isplitr
  swap; · iexact H12
  ipureintro; exact View.read_writes_eq_canon _ _ _ (cover_12 c _ _ _ _ _ _ _ _ _ _ _ _ _ _ _ _ _ _ _ _ _ _ _ _ _ _ _ _ _ _ _ _ _ _)

/-- The table's row for the body is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every run ends, with the arrays as the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The run with each result array named. -/
theorem run_blocks : θ_run defs (onTc (τ := τ) (main (F := F))) ⟨m, fun _ => 0, ρ⟩ fun r => ∀ c : Dev nD,
      r.2.mem ((c : Thread nD τ).loc main_v4_0) = (dats m 0 c).arrAt 7 cfg0.N
      ∧ r.2.mem ((c : Thread nD τ).loc main_v4_1) = (dats m 0 c).arrAt 8 cfg0.N
      ∧ r.2.mem ((c : Thread nD τ).loc main_v4_2) = (dats m 0 c).arrAt 9 cfg0.N
      ∧ r.2.mem ((c : Thread nD τ).loc main_v4_3) = (dats m 0 c).arrAt 10 cfg0.N
      ∧ r.2.mem ((c : Thread nD τ).loc main_v4_4) = (dats m 0 c).arrAt 11 cfg0.N
      ∧ r.2.mem ((c : Thread nD τ).loc main_v4_5) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).1 7, (h.1 c).1 8, (h.1 c).1 9, (h.1 c).1 10, (h.1 c).1 11, (h.1 c).1 12, h.2 c⟩)
    (θ_run_and (run_main m ρ) (unchanged m ρ))

end Cert.Qkv1
-- ==== Proof.QkvBits.lean ====
/-
  The frame of the projection call as compiled: the same program as the one the value claim is about, so the same frame.
-/
module

public import proofs.«01_k».proof.Proof.QkvFrame
public import proofs.«01_k».proof.Proof.Gen.Qkv.Frame

@[expose] public section

set_option maxRecDepth 16384

noncomputable section

namespace Cert.Qkv1

open Idealize.ShloMosaic Idealize.ShloMosaic.TcCoe Idealize.SL.Sem

variable {F : FTy → Type} [FloatOps F]

/-- The two programs' body is the same. -/
theorem body_compiled : @Qkv.cc0_qkv1_ctx F _ _ = @QkvIdeal.cc0_qkv1_ctx F _ _ := rfl

/-- So are the definitions that the body is called by, -/
theorem defs₀_compiled : @Qkv.defs₀ F _ _ = @QkvIdeal.defs₀ F _ _ := by
  unfold Qkv.defs₀ QkvIdeal.defs₀
  refine congrArg Defs.onTc (funext fun l => ?_)
  match l with
  | 0 => rfl

/-- and those that the pipeline is called by. -/
theorem defs_compiled : @Qkv.defs F _ _ = @QkvIdeal.defs F _ _ :=
  congrArg (Pipeline.defs (QkvIdeal.pcfgs (F := F))) defs₀_compiled

variable (m : (ℓ : Loc Qkv.nD Qkv.τ Qkv.sig) → Buf (Elt F) ℓ) (ρ : Dev Qkv.nD → PrngReg)

theorem frame_compiled : θ_run Qkv.defs (onTc (τ := Qkv.τ) (Qkv.main (F := F))) ⟨m, fun _ => 0, ρ⟩ (fun r => (∀ c : Dev Qkv.nD,
      r.2.mem ((c.tc : Thread Qkv.nD Qkv.τ).loc Qkv.main_arg0) = m ((c.tc : Thread Qkv.nD Qkv.τ).loc Qkv.main_arg0)
      ∧ r.2.mem ((c.tc : Thread Qkv.nD Qkv.τ).loc Qkv.main_arg1) = m ((c.tc : Thread Qkv.nD Qkv.τ).loc Qkv.main_arg1)
      ∧ r.2.mem ((c.tc : Thread Qkv.nD Qkv.τ).loc Qkv.main_arg2) = m ((c.tc : Thread Qkv.nD Qkv.τ).loc Qkv.main_arg2)
      ∧ r.2.mem ((c.tc : Thread Qkv.nD Qkv.τ).loc Qkv.main_arg3) = m ((c.tc : Thread Qkv.nD Qkv.τ).loc Qkv.main_arg3)
      ∧ r.2.mem ((c.tc : Thread Qkv.nD Qkv.τ).loc Qkv.main_arg4) = m ((c.tc : Thread Qkv.nD Qkv.τ).loc Qkv.main_arg4)
      ∧ r.2.mem ((c.tc : Thread Qkv.nD Qkv.τ).loc Qkv.main_arg5) = m ((c.tc : Thread Qkv.nD Qkv.τ).loc Qkv.main_arg5)
      ∧ r.2.mem ((c.tc : Thread Qkv.nD Qkv.τ).loc Qkv.main_arg6) = m ((c.tc : Thread Qkv.nD Qkv.τ).loc Qkv.main_arg6))
      ∧ r.2.sem = fun _ => 0) := by
  have h := @frame F _ m ρ
  rw [← defs_compiled] at h
  exact h

end Cert.Qkv1
-- ==== Proof.QkvSpec.lean ====
/-
  The context's projection in mathematics, from the arguments: rows normalized and modulated, projected, and each query
  and key head normalized again. Both the kernel's arrays and the reference's results are read as these.
-/
module

public import proofs.«01_k».proof.Proof.QkvFrame
public import proofs.«01_k».proof.Proof.FfnBody

@[expose] public section

set_option maxRecDepth 16384

noncomputable section

namespace Cert.Qkv1

open Cert.QkvIdeal Idealize.ShloMosaic
open Cert.Ffn1 (urow)

/-- The reciprocal root of the mean square of one head's 128 numbers. -/
def rmsH (y : Fin 128 → EReal) : EReal :=
  Ideal.rsqrt (Ideal.div (∑ x : Fin 128, y x * y x) (Ideal.ofBits FTy.f32 0x43000000#32) + Ideal.ofBits FTy.f32 0x358637BD#32)

/-- One head normalized, with its gain. -/
def head (y g : Fin 128 → EReal) (d : Fin 128) : EReal := y d * rmsH y * g d

/-- The factor of the queries. -/
def qscale : EReal := Ideal.ofBits FTy.f32 0x3E0293EE#32

/-- A row's projections by heads: the query's head that column `n` is in, -/
def qrow (p : Fin 1536 → EReal) (n : Fin 1024) (d : Fin 128) : EReal := p ⟨n.val / 128 * 128 + d.val, by omega⟩

/-- the key's head `j`, -/
def krow (p : Fin 1536 → EReal) (j : Fin 2) (d : Fin 128) : EReal := p ⟨1024 + j.val * 128 + d.val, by omega⟩

/-- and the value's. -/
def vrow (p : Fin 1536 → EReal) (j : Fin 2) (d : Fin 128) : EReal := p ⟨1280 + j.val * 128 + d.val, by omega⟩

/-- Column `n` of a row's queries. -/
def qval (p : Fin 1536 → EReal) (g : Fin 128 → EReal) (n : Fin 1024) : EReal := head (qrow p n) g ⟨n.val % 128, by omega⟩ * qscale

section
variable (A0 : FVec Ideal S8192x1024 .f32) (A1 : FVec Ideal S1x1x6144 .f32) (A2 : FVec Ideal S2x1024 .f32) (A3 : FVec Ideal S1x1024x1536 .f32)

/-- Row `R` normalized, with the scale and the shift. -/
def gu (R : Fin 8192) (e : Fin 1024) : EReal :=
  urow (fun k => A0 (ix2 R k)) (fun k => A2 (ix2 (1 : Fin 2) k)) (fun k => A1 (ix3 0 0 (⟨1024 + k.val, by omega⟩ : Fin 6144)))
    (fun k => A1 (ix3 0 0 (⟨k.val, by omega⟩ : Fin 6144))) e

/-- Projected column `n` of row `R`. -/
def gp (R : Fin 8192) (n : Fin 1536) : EReal := ∑ e : Fin 1024, gu A0 A1 A2 R e * A3 (ix3 (0 : Fin 1) e n)

/-- The queries, -/
def qG (A4 : FVec Ideal S1x128 .f32) (R : Fin 8192) (n : Fin 1024) : EReal := qval (gp A0 A1 A2 A3 R) (fun d => A4 (ix2 (0 : Fin 1) d)) n

/-- the keys, -/
def kG (A5 : FVec Ideal S1x128 .f32) (R : Fin 8192) (j : Fin 2) (d : Fin 128) : EReal :=
  head (krow (gp A0 A1 A2 A3 R) j) (fun d => A5 (ix2 (0 : Fin 1) d)) d

/-- and the values. -/
def vG (R : Fin 8192) (j : Fin 2) (d : Fin 128) : EReal := vrow (gp A0 A1 A2 A3 R) j d

/-- The keys and the values with a row's two heads side by side, -/
def kC (A5 : FVec Ideal S1x128 .f32) (R : Fin 8192) (n : Fin 256) : EReal := kG A0 A1 A2 A3 A5 R ⟨n.val / 128, by omega⟩ ⟨n.val % 128, by omega⟩

def vC (R : Fin 8192) (n : Fin 256) : EReal := vG A0 A1 A2 A3 R ⟨n.val / 128, by omega⟩ ⟨n.val % 128, by omega⟩

/-- and with a row for each head. -/
def kQ (A5 : FVec Ideal S1x128 .f32) (Q : Fin 16384) (d : Fin 128) : EReal := kG A0 A1 A2 A3 A5 ⟨Q.val / 2, by omega⟩ ⟨Q.val % 2, by omega⟩ d

def vQ (Q : Fin 16384) (d : Fin 128) : EReal := vG A0 A1 A2 A3 ⟨Q.val / 2, by omega⟩ ⟨Q.val % 2, by omega⟩ d

end

end Cert.Qkv1
-- ==== Proof.QkvBody.lean ====
/-
  What one grid point of the projection kernel writes: 1024 rows of queries, keys and values, and 352 rows of the next
  weight's cast.
-/
module

public import proofs.«01_k».proof.Proof.QkvSpec

@[expose] public section

set_option maxRecDepth 16384

noncomputable section

namespace Cert.Qkv1

open Cert.QkvIdeal Cert.QkvIdeal.Gen Idealize.ShloMosaic Idealize.ShloMosaic.TcCoe Idealize.SL.Sem
open Cert.Ffn1 (urow)

/-- A block's rows normalized, with the scale and the shift that the modulation's block holds. -/
def bu (x0 : Vec Ideal S1024x1024 .f32) (g sc sh : Fin 1024 → EReal) (r e : Fin 1024) : EReal := urow (fun k => x0 (ix2 r k)) g sc sh e

/-- Its projections. -/
def bp (x0 : Vec Ideal S1024x1024 .f32) (g sc sh : Fin 1024 → EReal) (x3 : Vec Ideal S1x1024x1536 .bf16) (r : Fin 1024) (n : Fin 1536) : EReal :=
  ∑ e : Fin 1024, bu x0 g sc sh r e * x3 (ix3 0 e n)

theorem pay5_at (sh sc g : Vec Ideal S1x1x1024 .f32) (x0 : Vec Ideal S1024x1024 .f32) (x3 : Vec Ideal S1x1024x1536 .bf16) (r : Fin 1024) (n : Fin 1536) :
    (k0_pay5 (F := Ideal) sh sc x0 g x3 (ix2 r n) : EReal)
      = bp x0 (fun k => g (ix3 0 0 k)) (fun k => sc (ix3 0 0 k)) (fun k => sh (ix3 0 0 k)) x3 r n := by
  unfold k0_pay5
  pointwise [dot_S1024x1024_S1024x1536_S1024x1536_1_0_0_1_n_n]
  rfl

/-- One head's 128 columns of the projections, from column `o`: the half at `b` of the 256 columns at `a`. -/
theorem half_at (P : FVec Ideal S1024x1536 .f32) (a b o : ℕ) (ho : o = a + b) (h : S1024x1536.Slices ![0, a] S1024x256) (h' : S1024x256.Slices ![0, b] S1024x128)
    (hb : o + 128 ≤ 1536) (r : Fin 1024) (d : Fin 128) :
    extractStridedSlice S1024x128 ![0, b] (extractStridedSlice S1024x256 ![0, a] P h) h' (ix2 r d) = P (ix2 r ⟨o + d.val, by omega⟩) := by
  have hb' : b + 128 ≤ 256 := h'.2 1
  refine (extractStridedSlice_apply _ _ _ _ (ix2 r (⟨b + d.val, by omega⟩ : Fin 256)) fun k => ?_).trans
    (extractStridedSlice_apply _ _ _ _ _ fun k => ?_)
  · match k with
    | 0 => exact (Nat.zero_add _).symm
    | 1 => rfl
  · match k with
    | 0 => exact (Nat.zero_add _).symm
    | 1 => show o + d.val = a + (b + d.val); omega

/-- A head normalized, with its gain. -/
theorem pay22_at (hv : FVec Ideal S1024x128 .f32) (g : Vec Ideal S1x1x128 .f32) (r : Fin 1024) (d : Fin 128) :
    (k0_pay22 (F := Ideal) hv g (ix2 r d) : EReal) = head (fun k => hv (ix2 r k)) (fun k => g (ix3 0 0 k)) d := by
  unfold k0_pay22
  pointwise
  rfl

/-- A query's head is a head as the keys' are, times the factor. -/
theorem pay19_at (hv : FVec Ideal S1024x128 .f32) (g : Vec Ideal S1x1x128 .f32) (r : Fin 1024) (d : Fin 128) :
    (k0_pay19 (F := Ideal) hv g (ix2 r d) : EReal) = head (fun k => hv (ix2 r k)) (fun k => g (ix3 0 0 k)) d * qscale :=
  congrArg (fun z : EReal => z * qscale) (pay22_at hv g r d)

section
variable (c : Dev nD) (t : Fin cfg0.N)
  (x0 : Vec Ideal S1024x1024 .f32) (x1 : Vec Ideal S1x1x6144 .f32) (x2 : Vec Ideal S1x1x1024 .f32) (x3 : Vec Ideal S1x1024x1536 .bf16) (x4 : Vec Ideal S1x1x128 .f32) (x5 : Vec Ideal S1x1x128 .f32) (x6 : Vec Ideal S1x352x1024 .f32)

/-- The body's run at a point of the grid, on any blocks. -/
abbrev runOn := bodyRun (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) x0 x1 x2 x3 x4 x5 x6

/-- The projections of a point's block. -/
def bpr (r : Fin 1024) (n : Fin 1536) : EReal :=
  bp x0 (fun k => x2 (ix3 0 0 k)) (fun k => View.ld x1 (Rect.unit (s := S1x1x6144) ![0, 0, 1024] ![1, 1, 1024] (by decide)) (ix3 0 0 k))
    (fun k => View.ld x1 (Rect.unit (s := S1x1x6144) ![0, 0, 0] ![1, 1, 1024] (by decide)) (ix3 0 0 k)) x3 r n

theorem p_at (r : Fin 1024) (n : Fin 1536) :
    (k0_pay5 (F := Ideal) (View.ld x1 (Rect.unit (s := S1x1x6144) ![0, 0, 0] ![1, 1, 1024] inb_S1x1x6144_S1x1x1024_0_0_0))
      (View.ld x1 (Rect.unit (s := S1x1x6144) ![0, 0, 1024] ![1, 1, 1024] inb_S1x1x6144_S1x1x1024_0_0_1024)) x0 x2 x3 (ix2 r n) : EReal)
      = bpr x0 x1 x2 x3 r n := pay5_at _ _ _ _ _ _ _

end

/-- An index of a head's block by its coordinates. -/
theorem ix2_of (x : S1024x128.Idx) (r : Fin 1024) (n o : ℕ) (h0 : r.val = (x 0).val) (h1 : n = o + (x 1).val) (hd : n - o < 128) :
    x = ix2 r (⟨n - o, hd⟩ : Fin 128) := by
  funext a
  apply Fin.ext
  match a with
  | 0 => exact h0.symm
  | 1 => show (x 1).val = n - o; omega

section
variable (p : Fin 1024 → Fin 1536 → EReal) (P : FVec Ideal S1024x1536 .f32) (hP : ∀ r n, (P (ix2 r n) : EReal) = p r n)

include hP

/-- One store of queries: the head from column `o`. -/
theorem qpiece (a b o : ℕ) (ho : o = a + b) (ho' : o % 128 = 0) (h : S1024x1536.Slices ![0, a] S1024x256) (h' : S1024x256.Slices ![0, b] S1024x128) (hb : o + 128 ≤ 1536)
    (g : Vec Ideal S1x1x128 .f32) (x : S1024x128.Idx) (r n : Fin 1024) (h0 : r.val = (x 0).val) (h1 : n.val = o + (x 1).val) :
    (k0_pay19 (F := Ideal) (extractStridedSlice S1024x128 ![0, b] (extractStridedSlice S1024x256 ![0, a] P h) h') g x : EReal)
      = qval (p r) (fun d => g (ix3 0 0 d)) n := by
  have hx1 : (x 1).val < 128 := (x 1).isLt
  rw [ix2_of x r n.val o h0 h1 (by omega), pay19_at]
  unfold qval
  refine congrArg (fun z => z * qscale) ?_
  refine congr (congrArg (fun y => head y _) (funext fun k => ?_)) (Fin.ext ?_)
  · rw [half_at P a b o ho h h' hb, hP]
    unfold qrow
    exact congrArg _ (Fin.ext (by show o + k.val = n.val / 128 * 128 + k.val; omega))
  · show n.val - o = n.val % 128
    omega

/-- A head of keys. -/
theorem kpiece (j : Fin 2) (a b : ℕ) (ho : 1024 + j.val * 128 = a + b) (h : S1024x1536.Slices ![0, a] S1024x256) (h' : S1024x256.Slices ![0, b] S1024x128)
    (g : Vec Ideal S1x1x128 .f32) (r : Fin 1024) (d : Fin 128) :
    (k0_pay22 (F := Ideal) (extractStridedSlice S1024x128 ![0, b] (extractStridedSlice S1024x256 ![0, a] P h) h') g (ix2 r d) : EReal)
      = head (krow (p r) j) (fun d => g (ix3 0 0 d)) d := by
  rw [pay22_at]
  refine congrArg (fun y => head y _ d) (funext fun k => ?_)
  rw [half_at P a b _ ho h h' (by omega), hP]
  rfl

/-- A head of values. -/
theorem vpiece (j : Fin 2) (a b : ℕ) (ho : 1280 + j.val * 128 = a + b) (h : S1024x1536.Slices ![0, a] S1024x256) (h' : S1024x256.Slices ![0, b] S1024x128)
    (r : Fin 1024) (d : Fin 128) :
    (extractStridedSlice S1024x128 ![0, b] (extractStridedSlice S1024x256 ![0, a] P h) h' (ix2 r d) : EReal) = vrow (p r) j d := by
  rw [half_at P a b _ ho h h' (by omega), hP]
  rfl

end

/-- What a block holds after two stores, of its even and of its odd rows: each row of the store it belongs to. -/
theorem strided_canon (v w : Vec Ideal S1024x128 .f32) (f : Fin 2 → Fin 1024 → Fin 128 → EReal) (hv : ∀ r d, v (ix2 r d) = f 0 r d) (hw : ∀ r d, w (ix2 r d) = f 1 r d)
    (r : Fin 2048) (d : Fin 128) :
    View.canon (Val := Elt Ideal) [⟨oddRows, w⟩, ⟨evenRows, v⟩] (ix2 r d) = f ⟨r.val % 2, by omega⟩ ⟨r.val / 2, by omega⟩ d := by
  refine View.canon_eq_of_allAt _ _ _ (strided_cover v w _) (View.allAt_cons _ _ _ (fun x h => ?_) (View.allAt_cons _ _ _ (fun x h => ?_) (View.allAt_nil _ _)))
  · have e0 : 1 + 2 * (x 0).val = r.val := congrArg (fun z : S2048x128.Idx => (z 0).val) h
    have e1 : 0 + 1 * (x 1).val = d.val := congrArg (fun z : S2048x128.Idx => (z 1).val) h
    rw [ix2_of x ⟨r.val / 2, by omega⟩ d.val 0 (by show r.val / 2 = _; omega) (by omega) (by omega)]
    refine (hw _ _).trans ?_
    exact congrArg (fun j => f j _ d) (Fin.ext (by show 1 = r.val % 2; omega))
  · have e0 : 0 + 2 * (x 0).val = r.val := congrArg (fun z : S2048x128.Idx => (z 0).val) h
    have e1 : 0 + 1 * (x 1).val = d.val := congrArg (fun z : S2048x128.Idx => (z 1).val) h
    rw [ix2_of x ⟨r.val / 2, by omega⟩ d.val 0 (by show r.val / 2 = _; omega) (by omega) (by omega)]
    refine (hv _ _).trans ?_
    exact congrArg (fun j => f j _ d) (Fin.ext (by show 0 = r.val % 2; omega))

section
variable (c : Dev nD) (t : Fin cfg0.N)
  (x0 : Vec Ideal S1024x1024 .f32) (x1 : Vec Ideal S1x1x6144 .f32) (x2 : Vec Ideal S1x1x1024 .f32) (x3 : Vec Ideal S1x1024x1536 .bf16) (x4 : Vec Ideal S1x1x128 .f32) (x5 : Vec Ideal S1x1x128 .f32) (x6 : Vec Ideal S1x352x1024 .f32)

theorem q_apply (r n : Fin 1024) :
    View.canon (runOn c t x0 x1 x2 x3 x4 x5 x6).1 (ix2 r n) = qval (bpr x0 x1 x2 x3 r) (fun d => x4 (ix3 0 0 d)) n := by
  unfold runOn bodyRun
  dsimp only
  sl_unfold_words
  simp only [View.readAt_eq_ld, (hs_0 t).read_unread, (hs_1 t).read_unread, (hs_2 t).read_unread, (hs_3 t).read_unread, (hs_4 t).read_unread, (hs_5 t).read_unread, (hs_6 t).read_unread]
  simp (disch := decide) only [View.ld_unit_lit]
  canon_tiles x h
  case piece0 => exact qpiece _ _ (p_at x0 x1 x2 x3) 768 128 896 rfl rfl slices_S1024x1536_o0_768_S1024x256 slices_S1024x256_o0_128_S1024x128 (by decide) x4 x r n h0 h1
  case piece1 => exact qpiece _ _ (p_at x0 x1 x2 x3) 768 0 768 rfl rfl slices_S1024x1536_o0_768_S1024x256 slices_S1024x256_o0_0_S1024x128 (by decide) x4 x r n h0 h1
  case piece2 => exact qpiece _ _ (p_at x0 x1 x2 x3) 512 128 640 rfl rfl slices_S1024x1536_o0_512_S1024x256 slices_S1024x256_o0_128_S1024x128 (by decide) x4 x r n h0 h1
  case piece3 => exact qpiece _ _ (p_at x0 x1 x2 x3) 512 0 512 rfl rfl slices_S1024x1536_o0_512_S1024x256 slices_S1024x256_o0_0_S1024x128 (by decide) x4 x r n h0 h1
  case piece4 => exact qpiece _ _ (p_at x0 x1 x2 x3) 256 128 384 rfl rfl slices_S1024x1536_o0_256_S1024x256 slices_S1024x256_o0_128_S1024x128 (by decide) x4 x r n h0 h1
  case piece5 => exact qpiece _ _ (p_at x0 x1 x2 x3) 256 0 256 rfl rfl slices_S1024x1536_o0_256_S1024x256 slices_S1024x256_o0_0_S1024x128 (by decide) x4 x r n h0 h1
  case piece6 => exact qpiece _ _ (p_at x0 x1 x2 x3) 0 128 128 rfl rfl slices_S1024x1536_o0_0_S1024x256 slices_S1024x256_o0_128_S1024x128 (by decide) x4 x r n h0 h1
  case piece7 => exact qpiece _ _ (p_at x0 x1 x2 x3) 0 0 0 rfl rfl slices_S1024x1536_o0_0_S1024x256 slices_S1024x256_o0_0_S1024x128 (by decide) x4 x r n h0 (h1.trans (Nat.zero_add _).symm)

/-- The head and the column in it of a column of keys or values. -/
theorem piece_of (f : Fin 2 → Fin 128 → EReal) (j : Fin 2) (n : Fin 256) (d : Fin 128) (h : n.val = j.val * 128 + d.val) :
    f j d = f ⟨n.val / 128, by omega⟩ ⟨n.val % 128, by omega⟩ := by
  have e0 : j = ⟨n.val / 128, by omega⟩ := Fin.ext (by show j.val = n.val / 128; omega)
  have e1 : d = ⟨n.val % 128, by omega⟩ := Fin.ext (by show d.val = n.val % 128; omega)
  rw [← e0, ← e1]

theorem k_apply (r : Fin 1024) (n : Fin 256) :
    View.canon (runOn c t x0 x1 x2 x3 x4 x5 x6).2.1 (ix2 r n)
      = head (krow (bpr x0 x1 x2 x3 r) ⟨n.val / 128, by omega⟩) (fun d => x5 (ix3 0 0 d)) ⟨n.val % 128, by omega⟩ := by
  unfold runOn bodyRun
  dsimp only
  sl_unfold_words
  simp only [View.readAt_eq_ld, (hs_0 t).read_unread, (hs_1 t).read_unread, (hs_2 t).read_unread, (hs_3 t).read_unread, (hs_4 t).read_unread, (hs_5 t).read_unread, (hs_6 t).read_unread]
  simp (disch := decide) only [View.ld_unit_lit]
  canon_tiles x h
  case piece0 =>
    have h1' : n.val = 128 + (x 1).val := h1
    rw [ix2_of x r n.val 128 h0 h1 (by omega)]
    exact (kpiece _ _ (p_at x0 x1 x2 x3) 1 1024 128 rfl slices_S1024x1536_o0_1024_S1024x256 slices_S1024x256_o0_128_S1024x128 x5 r _).trans
      (piece_of (fun j => head (krow (bpr x0 x1 x2 x3 r) j) (fun d => x5 (ix3 0 0 d))) 1 n _ (by show n.val = 1 * 128 + (n.val - 128); omega))
  case piece1 =>
    have h1' : n.val = (x 1).val := h1
    rw [ix2_of x r n.val 0 h0 (h1.trans (Nat.zero_add _).symm) (by omega)]
    exact (kpiece _ _ (p_at x0 x1 x2 x3) 0 1024 0 rfl slices_S1024x1536_o0_1024_S1024x256 slices_S1024x256_o0_0_S1024x128 x5 r _).trans
      (piece_of (fun j => head (krow (bpr x0 x1 x2 x3 r) j) (fun d => x5 (ix3 0 0 d))) 0 n _ (by show n.val = 0 * 128 + (n.val - 0); omega))

theorem v_apply (r : Fin 1024) (n : Fin 256) :
    View.canon (runOn c t x0 x1 x2 x3 x4 x5 x6).2.2.1 (ix2 r n) = vrow (bpr x0 x1 x2 x3 r) ⟨n.val / 128, by omega⟩ ⟨n.val % 128, by omega⟩ := by
  unfold runOn bodyRun
  dsimp only
  sl_unfold_words
  simp only [View.readAt_eq_ld, (hs_0 t).read_unread, (hs_1 t).read_unread, (hs_2 t).read_unread, (hs_3 t).read_unread, (hs_4 t).read_unread, (hs_5 t).read_unread, (hs_6 t).read_unread]
  simp (disch := decide) only [View.ld_unit_lit]
  canon_tiles x h
  case piece0 =>
    have h1' : n.val = 128 + (x 1).val := h1
    rw [ix2_of x r n.val 128 h0 h1 (by omega)]
    exact (vpiece _ _ (p_at x0 x1 x2 x3) 1 1280 128 rfl slices_S1024x1536_o0_1280_S1024x256 slices_S1024x256_o0_128_S1024x128 r _).trans
      (piece_of (fun j => vrow (bpr x0 x1 x2 x3 r) j) 1 n _ (by show n.val = 1 * 128 + (n.val - 128); omega))
  case piece1 =>
    have h1' : n.val = (x 1).val := h1
    rw [ix2_of x r n.val 0 h0 (h1.trans (Nat.zero_add _).symm) (by omega)]
    exact (vpiece _ _ (p_at x0 x1 x2 x3) 0 1280 0 rfl slices_S1024x1536_o0_1280_S1024x256 slices_S1024x256_o0_0_S1024x128 r _).trans
      (piece_of (fun j => vrow (bpr x0 x1 x2 x3 r) j) 0 n _ (by show n.val = 0 * 128 + (n.val - 0); omega))

theorem k32_apply (r : Fin 2048) (d : Fin 128) :
    View.canon (runOn c t x0 x1 x2 x3 x4 x5 x6).2.2.2.1 (ix2 r d)
      = head (krow (bpr x0 x1 x2 x3 ⟨r.val / 2, by omega⟩) ⟨r.val % 2, by omega⟩) (fun d => x5 (ix3 0 0 d)) d := by
  unfold runOn bodyRun
  dsimp only
  sl_unfold_words
  simp only [View.readAt_eq_ld, (hs_0 t).read_unread, (hs_1 t).read_unread, (hs_2 t).read_unread, (hs_3 t).read_unread, (hs_4 t).read_unread, (hs_5 t).read_unread, (hs_6 t).read_unread]
  simp (disch := decide) only [View.ld_unit_lit]
  exact strided_canon _ _ (fun j r d => head (krow (bpr x0 x1 x2 x3 r) j) (fun d => x5 (ix3 0 0 d)) d)
    (kpiece _ _ (p_at x0 x1 x2 x3) 0 1024 0 rfl slices_S1024x1536_o0_1024_S1024x256 slices_S1024x256_o0_0_S1024x128 x5) (kpiece _ _ (p_at x0 x1 x2 x3) 1 1024 128 rfl slices_S1024x1536_o0_1024_S1024x256 slices_S1024x256_o0_128_S1024x128 x5) r d

theorem v32_apply (r : Fin 2048) (d : Fin 128) :
    View.canon (runOn c t x0 x1 x2 x3 x4 x5 x6).2.2.2.2.1 (ix2 r d) = vrow (bpr x0 x1 x2 x3 ⟨r.val / 2, by omega⟩) ⟨r.val % 2, by omega⟩ d := by
  unfold runOn bodyRun
  dsimp only
  sl_unfold_words
  simp only [View.readAt_eq_ld, (hs_0 t).read_unread, (hs_1 t).read_unread, (hs_2 t).read_unread, (hs_3 t).read_unread, (hs_4 t).read_unread, (hs_5 t).read_unread, (hs_6 t).read_unread]
  simp (disch := decide) only [View.ld_unit_lit]
  exact strided_canon _ _ (fun j r d => vrow (bpr x0 x1 x2 x3 r) j d)
    (vpiece _ _ (p_at x0 x1 x2 x3) 0 1280 0 rfl slices_S1024x1536_o0_1280_S1024x256 slices_S1024x256_o0_0_S1024x128) (vpiece _ _ (p_at x0 x1 x2 x3) 1 1280 128 rfl slices_S1024x1536_o0_1280_S1024x256 slices_S1024x256_o0_128_S1024x128) r d

theorem c_apply (r : Fin 352) (d : Fin 1024) :
    View.canon (runOn c t x0 x1 x2 x3 x4 x5 x6).2.2.2.2.2.1 (ix2 r d) = x6 (ix3 0 r d) := by
  unfold runOn bodyRun
  dsimp only
  sl_unfold_words
  simp only [View.readAt_eq_ld, (hs_0 t).read_unread, (hs_1 t).read_unread, (hs_2 t).read_unread, (hs_3 t).read_unread, (hs_4 t).read_unread, (hs_5 t).read_unread, (hs_6 t).read_unread]
  simp (disch := decide) only [View.canon_cons_unit_lit, View.ld_unit_lit]
  unfold k0_pay4
  pointwise

end

end Cert.Qkv1
-- ==== Proof.QkvArray.lean ====
/-
  The projection kernel's six result arrays after the run, at every index, from the arguments.
-/
module

public import proofs.«01_k».proof.Proof.QkvBody

@[expose] public section

set_option maxRecDepth 16384

noncomputable section

namespace Cert.Qkv1

open Cert.QkvIdeal Cert.QkvIdeal.Gen Idealize.ShloMosaic Idealize.ShloMosaic.TcCoe Idealize.SL.Sem
open Cert.Ffn1 (urow)

/-- Where each window's block stands at a grid point: tile `t` of the rows, and the second layer's gain and weight. -/
theorem win_idx : ∀ t : Fin cfg0.N, win0_0.index t = ![t.val, 0] ∧ win0_1.index t = ![0, 0, 0] ∧ win0_2.index t = ![1, 0, 0]
    ∧ win0_3.index t = ![0, 0, 0] ∧ win0_4.index t = ![0, 0, 0] ∧ win0_5.index t = ![0, 0, 0] ∧ win0_6.index t = ![1, t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, win0_0.index t = ![t.val, 0] ∧ win0_1.index t = ![0, 0, 0] ∧ win0_2.index t = ![1, 0, 0]
    ∧ win0_3.index t = ![0, 0, 0] ∧ win0_4.index t = ![0, 0, 0] ∧ win0_5.index t = ![0, 0, 0] ∧ win0_6.index t = ![1, t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0])

variable (m : (ℓ : Loc nD τ sig) → Buf (Elt Ideal) ℓ) (c : Dev nD)

theorem lt8 (t : Fin cfg0.N) : t.val < 8 := t.isLt

theorem blk0 (t : Fin cfg0.N) (r n : Fin 1024) :
    iblk m c 0 t (ix2 r n) = m ((c : Thread nD τ).loc main_arg0) (ix2 (⟨t.val * 1024 + r.val, by have := lt8 t; omega⟩ : Fin 8192) n) := by
  blk_ext [iblk, V, win_idx t]

theorem blk1 (t : Fin cfg0.N) (n : Fin 6144) : iblk m c 1 t (ix3 0 0 n) = m ((c : Thread nD τ).loc main_arg1) (ix3 (0 : Fin 1) (0 : Fin 1) n) := by
  blk_ext [iblk, V, win_idx t]

theorem blk2 (t : Fin cfg0.N) (n : Fin 1024) : iblk m c 2 t (ix3 0 0 n) = m ((c : Thread nD τ).loc main_arg2) (ix2 (1 : Fin 2) n) := by
  blk_point [iblk, V, win_idx t]

theorem blk3 (t : Fin cfg0.N) (e : Fin 1024) (n : Fin 1536) :
    iblk m c 3 t (ix3 0 e n) = m ((c : Thread nD τ).loc main_arg3) (ix3 (0 : Fin 1) e n) := by
  blk_point [iblk, V, win_idx t]

theorem blk4 (t : Fin cfg0.N) (n : Fin 128) : iblk m c 4 t (ix3 0 0 n) = m ((c : Thread nD τ).loc main_arg4) (ix2 (0 : Fin 1) n) := by
  blk_point [iblk, V, win_idx t]

theorem blk5 (t : Fin cfg0.N) (n : Fin 128) : iblk m c 5 t (ix3 0 0 n) = m ((c : Thread nD τ).loc main_arg5) (ix2 (0 : Fin 1) n) := by
  blk_point [iblk, V, win_idx t]

theorem blk6 (t : Fin cfg0.N) (r : Fin 352) (n : Fin 1024) :
    iblk m c 6 t (ix3 0 r n) = m ((c : Thread nD τ).loc main_arg6) (ix3 (1 : Fin 2) (⟨t.val * 352 + r.val, by have := lt8 t; omega⟩ : Fin 2816) n) := by
  blk_ext [iblk, V, win_idx t]

/-- A slice of 1024 modulation values. -/
theorem mod_at (t : Fin cfg0.N) (o : ℕ) (i : ∀ a, ![0, 0, o] a + ![1, 1, 1024] a ≤ S1x1x6144.size a) (k : Fin 1024) (n : Fin 6144) (hn : n.val = o + k.val) :
    View.ld (iblk m c 1 t : Vec Ideal S1x1x6144 .f32) (Rect.unit (s := S1x1x6144) ![0, 0, o] ![1, 1, 1024] i) (ix3 0 0 k)
      = m ((c : Thread nD τ).loc main_arg1) (ix3 (0 : Fin 1) (0 : Fin 1) n) := by
  refine (View.ld_unit_apply_of _ _ _ _ _ (ix3 0 0 n) fun a => ?_).trans (blk1 m c t n)
  match a with
  | 0 => rfl
  | 1 => rfl
  | 2 => exact hn

/-- The projections from the arguments. -/
abbrev pA (R : Fin 8192) (n : Fin 1536) : EReal :=
  gp (m ((c : Thread nD τ).loc main_arg0)) (m ((c : Thread nD τ).loc main_arg1)) (m ((c : Thread nD τ).loc main_arg2)) (m ((c : Thread nD τ).loc main_arg3)) R n

/-- The projections of a point's block are those of its rows. -/
theorem bpr_eq (t : Fin cfg0.N) (r : Fin 1024) (R : Fin 8192) (hR : R.val = t.val * 1024 + r.val) :
    bpr (iblk m c 0 t) (iblk m c 1 t) (iblk m c 2 t) (iblk m c 3 t) r = pA m c R := by
  funext n
  unfold pA bpr bp gp
  refine Finset.sum_congr rfl fun e _ => congrArg₂ _ ?_ (blk3 m c t e n)
  have hrow : ∀ k, iblk m c 0 t (ix2 r k) = m ((c : Thread nD τ).loc main_arg0) (ix2 R k) := fun k => by
    rw [blk0]; congr 2; exact Fin.ext hR.symm
  unfold bu gu
  rw [show (fun k => iblk m c 0 t (ix2 r k)) = _ from funext hrow, show (fun k => iblk m c 2 t (ix3 0 0 k)) = _ from funext fun k => blk2 m c t k]
  exact congrArg₂ (fun sc sh => urow _ _ sc sh e) (funext fun k => mod_at m c t 1024 _ k ⟨1024 + k.val, by omega⟩ rfl)
    (funext fun k => mod_at m c t 0 _ k ⟨k.val, by omega⟩ (Nat.zero_add _).symm)

/-- The queries' array after the run. -/
theorem q_arr : (dats m 0 c).arrAt 7 cfg0.N = fun i : S8192x1024.Idx =>
    qG (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 7 _ (by decide +kernel) fun t hf y => ?_
  blk_simp
  rw [after_7]
  obtain ⟨r, n, hy⟩ : ∃ (r n : Fin 1024), ((cfg0.win 7).xinj (cfg0.grid.coords t) y : S1024x1024.Idx) = ix2 r n := ⟨_, _, eq_ix2 _⟩
  have hi := win_idx t
  have hR : ((((cfg0.win 7).blk t).view.emb y) 0).val = t.val * 1024 + r.val := by
    have h0 : r.val = (y 0).val := (congrArg (fun i : S1024x1024.Idx => (i 0).val) hy).symm
    blk_simp [hi]
    simp
    omega
  have hN : ((((cfg0.win 7).blk t).view.emb y) 1).val = n.val := by
    have h0 : n.val = (y 1).val := (congrArg (fun i : S1024x1024.Idx => (i 1).val) hy).symm
    blk_simp [hi]
    simp
    omega
  refine (congrArg _ hy).trans ((q_apply c t _ _ _ _ _ _ _ r n).trans ?_)
  rw [bpr_eq m c t r _ hR, show (fun d => iblk m c 4 t (ix3 0 0 d)) = _ from funext fun d => blk4 m c t d]
  exact congrArg (qval _ _) (Fin.ext hN.symm)

/-- The keys' array, -/
theorem k_arr : (dats m 0 c).arrAt 8 cfg0.N = fun i : S8192x256.Idx =>
    kC (m ((c : Thread nD τ).loc main_arg0)) (m ((c : Thread nD τ).loc main_arg1)) (m ((c : Thread nD τ).loc main_arg2))
      (m ((c : Thread nD τ).loc main_arg3)) (m ((c : Thread nD τ).loc main_arg5)) (i 0) (i 1) := by
  refine (dats m 0 c).arrAt_eq_of_covers 8 _ (by decide +kernel) fun t hf y => ?_
  blk_simp
  rw [after_8]
  obtain ⟨r, n, hy⟩ : ∃ (r : Fin 1024) (n : Fin 256), ((cfg0.win 8).xinj (cfg0.grid.coords t) y : S1024x256.Idx) = ix2 r n := ⟨_, _, eq_ix2 _⟩
  have hi := win_idx t
  have hR : ((((cfg0.win 8).blk t).view.emb y) 0).val = t.val * 1024 + r.val := by
    have h0 : r.val = (y 0).val := (congrArg (fun i : S1024x256.Idx => (i 0).val) hy).symm
    blk_simp [hi]
    simp
    omega
  have hN : ((((cfg0.win 8).blk t).view.emb y) 1).val = n.val := by
    have h0 : n.val = (y 1).val := (congrArg (fun i : S1024x256.Idx => (i 1).val) hy).symm
    blk_simp [hi]
    simp
    omega
  refine (congrArg _ hy).trans ((k_apply c t _ _ _ _ _ _ _ r n).trans ?_)
  rw [bpr_eq m c t r _ hR, show (fun d => iblk m c 5 t (ix3 0 0 d)) = _ from funext fun d => blk5 m c t d]
  obtain ⟨N, hNd⟩ : ∃ N : Fin 256, N = (((cfg0.win 8).blk t).view.emb y) 1 := ⟨_, rfl⟩
  rw [← hNd] at hN ⊢
  obtain rfl : n = N := Fin.ext hN.symm
  rfl

/-- the values', -/
theorem v_arr : (dats m 0 c).arrAt 9 cfg0.N = fun i : S8192x256.Idx =>
    vC (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 9 _ (by decide +kernel) fun t hf y => ?_
  blk_simp
  rw [after_9]
  obtain ⟨r, n, hy⟩ : ∃ (r : Fin 1024) (n : Fin 256), ((cfg0.win 9).xinj (cfg0.grid.coords t) y : S1024x256.Idx) = ix2 r n := ⟨_, _, eq_ix2 _⟩
  have hi := win_idx t
  have hR : ((((cfg0.win 9).blk t).view.emb y) 0).val = t.val * 1024 + r.val := by
    have h0 : r.val = (y 0).val := (congrArg (fun i : S1024x256.Idx => (i 0).val) hy).symm
    blk_simp [hi]
    simp
    omega
  have hN : ((((cfg0.win 9).blk t).view.emb y) 1).val = n.val := by
    have h0 : n.val = (y 1).val := (congrArg (fun i : S1024x256.Idx => (i 1).val) hy).symm
    blk_simp [hi]
    simp
    omega
  refine (congrArg _ hy).trans ((v_apply c t _ _ _ _ _ _ _ r n).trans ?_)
  rw [bpr_eq m c t r _ hR]
  obtain ⟨N, hNd⟩ : ∃ N : Fin 256, N = (((cfg0.win 9).blk t).view.emb y) 1 := ⟨_, rfl⟩
  rw [← hNd] at hN ⊢
  obtain rfl : n = N := Fin.ext hN.symm
  rfl

/-- the keys' again, one row for each head, -/
theorem k32_arr : (dats m 0 c).arrAt 10 cfg0.N = fun i : S16384x128.Idx =>
    kQ (m ((c : Thread nD τ).loc main_arg0)) (m ((c : Thread nD τ).loc main_arg1)) (m ((c : Thread nD τ).loc main_arg2))
      (m ((c : Thread nD τ).loc main_arg3)) (m ((c : Thread nD τ).loc main_arg5)) (i 0) (i 1) := by
  refine (dats m 0 c).arrAt_eq_of_covers 10 _ (by decide +kernel) fun t hf y => ?_
  blk_simp
  rw [after_10]
  obtain ⟨r, n, hy⟩ : ∃ (r : Fin 2048) (n : Fin 128), ((cfg0.win 10).xinj (cfg0.grid.coords t) y : S2048x128.Idx) = ix2 r n := ⟨_, _, eq_ix2 _⟩
  have hi := win_idx t
  have hR : ((((cfg0.win 10).blk t).view.emb y) 0).val = t.val * 2048 + r.val := by
    have h0 : r.val = (y 0).val := (congrArg (fun i : S2048x128.Idx => (i 0).val) hy).symm
    blk_simp [hi]
    simp
    omega
  have hN : ((((cfg0.win 10).blk t).view.emb y) 1).val = n.val := by
    have h0 : n.val = (y 1).val := (congrArg (fun i : S2048x128.Idx => (i 1).val) hy).symm
    blk_simp [hi]
    simp
    omega
  have ht := lt8 t
  refine (congrArg _ hy).trans ((k32_apply c t _ _ _ _ _ _ _ r n).trans ?_)
  obtain ⟨R, hRd⟩ : ∃ R : Fin 16384, R = (((cfg0.win 10).blk t).view.emb y) 0 := ⟨_, rfl⟩
  obtain ⟨N, hNd⟩ : ∃ N : Fin 128, N = (((cfg0.win 10).blk t).view.emb y) 1 := ⟨_, rfl⟩
  rw [← hNd] at hN ⊢
  rw [← hRd] at hR ⊢
  obtain rfl : n = N := Fin.ext hN.symm
  rw [bpr_eq m c t _ ⟨R.val / 2, by omega⟩ (by show R.val / 2 = t.val * 1024 + r.val / 2; omega), show (fun d => iblk m c 5 t (ix3 0 0 d)) = _ from funext fun d => blk5 m c t d]
  exact congrArg (fun j : Fin 2 => head (krow (pA m c ⟨R.val / 2, by omega⟩) j) (fun d => m ((c : Thread nD τ).loc main_arg5) (ix2 (0 : Fin 1) d)) n) (Fin.ext (by show r.val % 2 = R.val % 2; omega))

/-- and the values'. -/
theorem v32_arr : (dats m 0 c).arrAt 11 cfg0.N = fun i : S16384x128.Idx =>
    vQ (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 11 _ (by decide +kernel) fun t hf y => ?_
  blk_simp
  rw [after_11]
  obtain ⟨r, n, hy⟩ : ∃ (r : Fin 2048) (n : Fin 128), ((cfg0.win 11).xinj (cfg0.grid.coords t) y : S2048x128.Idx) = ix2 r n := ⟨_, _, eq_ix2 _⟩
  have hi := win_idx t
  have hR : ((((cfg0.win 11).blk t).view.emb y) 0).val = t.val * 2048 + r.val := by
    have h0 : r.val = (y 0).val := (congrArg (fun i : S2048x128.Idx => (i 0).val) hy).symm
    blk_simp [hi]
    simp
    omega
  have hN : ((((cfg0.win 11).blk t).view.emb y) 1).val = n.val := by
    have h0 : n.val = (y 1).val := (congrArg (fun i : S2048x128.Idx => (i 1).val) hy).symm
    blk_simp [hi]
    simp
    omega
  have ht := lt8 t
  refine (congrArg _ hy).trans ((v32_apply c t _ _ _ _ _ _ _ r n).trans ?_)
  obtain ⟨R, hRd⟩ : ∃ R : Fin 16384, R = (((cfg0.win 11).blk t).view.emb y) 0 := ⟨_, rfl⟩
  obtain ⟨N, hNd⟩ : ∃ N : Fin 128, N = (((cfg0.win 11).blk t).view.emb y) 1 := ⟨_, rfl⟩
  rw [← hNd] at hN ⊢
  rw [← hRd] at hR ⊢
  obtain rfl : n = N := Fin.ext hN.symm
  rw [bpr_eq m c t _ ⟨R.val / 2, by omega⟩ (by show R.val / 2 = t.val * 1024 + r.val / 2; omega)]
  exact congrArg (fun j : Fin 2 => vrow (pA m c ⟨R.val / 2, by omega⟩) j n) (Fin.ext (by show r.val % 2 = R.val % 2; omega))

/-- The last result array after the run: the second layer's weight. -/
theorem c_arr : (dats m 0 c).arrAt 12 cfg0.N = fun i : S2816x1024.Idx => m ((c : Thread nD τ).loc main_arg6) (ix3 (1 : Fin 2) (i 0) (i 1)) := by
  refine (dats m 0 c).arrAt_eq_of_covers 12 _ (by decide +kernel) fun t hf y => ?_
  blk_simp
  rw [after_12]
  obtain ⟨r, n, hy⟩ : ∃ (r : Fin 352) (n : Fin 1024), ((cfg0.win 12).xinj (cfg0.grid.coords t) y : S352x1024.Idx) = ix2 r n := ⟨_, _, eq_ix2 _⟩
  have hi := win_idx t
  have ht := lt8 t
  have hR : ((((cfg0.win 12).blk t).view.emb y) 0).val = t.val * 352 + r.val := by
    have h0 : r.val = (y 0).val := (congrArg (fun i : S352x1024.Idx => (i 0).val) hy).symm
    blk_simp [hi]
    simp
    omega
  have hN : ((((cfg0.win 12).blk t).view.emb y) 1).val = n.val := by
    have h0 : n.val = (y 1).val := (congrArg (fun i : S352x1024.Idx => (i 1).val) hy).symm
    blk_simp [hi]
    simp
    omega
  refine (congrArg _ hy).trans ((c_apply c t _ _ _ _ _ _ _ r n).trans ((blk6 m c t r n).trans ?_))
  exact congrArg₂ (fun (R : Fin 2816) (N : Fin 1024) => m ((c : Thread nD τ).loc main_arg6) (ix3 (1 : Fin 2) R N)) (Fin.ext hR.symm) (Fin.ext hN.symm)

end Cert.Qkv1
-- ==== Proof.QkvRef.lean ====
/-
  The reference of the context's projection, read: its results are `qG`, `kG` and `vG` of the arguments, and the weight's
  cast. Rows are numbered by the group `b` of 256 and the position `s` in it.
-/
module

public import proofs.«01_k».proof.Proof.QkvSpec
public import proofs.«01_k».proof.Proof.AttnRef
public import proofs.«01_k».proof.Proof.Gen.QkvReferenceIdeal.Read
public import Idealize.ShloMosaic.Lib.KernelVsHost
public import Idealize.ShloMosaic.Lib.IdealHost

@[expose] public section

set_option maxRecDepth 16384

noncomputable section

namespace Cert.Qkv1

open Cert.QkvReferenceIdeal Cert.QkvReferenceIdeal.Gen Cert.QkvReferenceIdeal.Read Idealize.ShloMosaic Idealize.ShloMosaic.TcCoe
open Cert.Attn (rms bits_zero)

section
variable (X0 : FVec Ideal S8192x1024 .f32) (X1 : FVec Ideal S1x1x6144 .f32) (X2 : FVec Ideal S2x1024 .f32)

/-- The row, by group and position. -/
theorem row_ref (b : Fin 32) (s : Fin 256) (e : Fin 1024) :
    val_main_v0 (F := Ideal) X0 (ix3 b s e) = X0 (ix2 (⟨b.val * 256 + s.val, by omega⟩ : Fin 8192) e) := by
  rw [val_main_v0_apply]
  refine congrArg X0 (funext fun a => Fin.ext ?_)
  match a with
  | ⟨0, _⟩ => dsimp [ix2, ix3]; omega
  | ⟨1, _⟩ => dsimp [ix2, ix3]; omega

/-- The norm's scale. -/
theorem norm_ref (b : Fin 32) (s : Fin 256) (e : Fin 1024) :
    val_main_v17 (F := Ideal) X0 (ix3 b s e) = rms fun k => X0 (ix2 (⟨b.val * 256 + s.val, by omega⟩ : Fin 8192) k) := by
  rw [val_main_v17_apply, val_main_v16_apply, val_main_v15_apply, val_main_v13_apply, val_main_v11_apply, val_main_v10_apply, val_main_cst_apply]
  have hz : (FloatOps.ofBits FTy.f32 0x00000000#32 : Ideal .f32) = (0 : EReal) := bits_zero
  have hsum : (FloatOps.ofBits FTy.f32 0x00000000#32 : Ideal .f32) + ∑ k : Fin 1024, val_main_v9 (F := Ideal) X0
        (idx_main_v10 (idx_main_v11 (idx_main_v17 (ix3 b s e))) k)
      = ∑ k : Fin 1024, (X0 (ix2 (⟨b.val * 256 + s.val, by omega⟩ : Fin 8192) k) : EReal) * X0 (ix2 (⟨b.val * 256 + s.val, by omega⟩ : Fin 8192) k) := by
    rw [hz]
    refine (zero_add _).trans (Finset.sum_congr rfl fun q _ => ?_)
    have he : idx_main_v10 (idx_main_v11 (idx_main_v17 (ix3 b s e))) q = ix3 b s q := funext fun a => by
      match a with
      | ⟨0, _⟩ => rfl
      | ⟨1, _⟩ => rfl
      | ⟨2, _⟩ => rfl
    rw [he, val_main_v9_apply, row_ref]
    rfl
  rw [hsum]
  rfl

/-- The normalized, modulated row. -/
theorem u_ref (b : Fin 32) (s : Fin 256) (e : Fin 1024) :
    val_main_v27 (F := Ideal) X0 X1 X2 (ix3 b s e) = gu X0 X1 X2 ⟨b.val * 256 + s.val, by omega⟩ e := by
  rw [val_main_v27_apply, val_main_v25_apply, val_main_v21_apply, val_main_v18_apply, row_ref, norm_ref, val_main_v20_apply,
    val_main_v19_apply, val_main_v8_apply, val_main_v7_apply, val_main_v24_apply, val_main_v23_apply, val_main_v22_apply, val_main_cst_2_apply,
    val_main_v2_apply, val_main_v26_apply, val_main_v1_apply]
  have e2 : idx_main_v7 (idx_main_v8 (idx_main_v19 (idx_main_v20 (ix3 b s e)))) = ix2 (1 : Fin 2) e := funext fun a => Fin.ext (by
    match a with
    | ⟨0, _⟩ => dsimp [ix2, ix3]; try omega
    | ⟨1, _⟩ => dsimp [ix2, ix3]; try omega)
  have e5 : idx_main_v2 (idx_main_v24 (ix3 b s e)) = ix3 0 0 (⟨1024 + e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  have e4 : idx_main_v1 (idx_main_v26 (ix3 b s e)) = ix3 0 0 (⟨e.val, by omega⟩ : Fin 6144) := funext fun a => Fin.ext (by
    match a with
    | ⟨0, _⟩ => dsimp [ix3]; try omega
    | ⟨1, _⟩ => dsimp [ix3]; try omega
    | ⟨2, _⟩ => dsimp [ix3]; try omega)
  rw [e2, e5, e4]
  unfold gu Cert.Ffn1.urow
  have h1 : (FloatOps.ofBits FTy.f32 0x3F800000#32 : Ideal .f32) = (1 : EReal) := Ideal.ofBits_one_f32
  rw [h1]
  refine congrArg₂ (fun x y : EReal => x + y) ?_ rfl
  exact mul_assoc (G := EReal) _ _ _

variable (X3 : FVec Ideal S1x1024x1536 .f32)

/-- The projection. -/
theorem p_ref (b : Fin 32) (s : Fin 256) (n : Fin 1536) :
    val_main_v31 (F := Ideal) X0 X1 X2 X3 (ix3 b s n) = gp X0 X1 X2 X3 ⟨b.val * 256 + s.val, by omega⟩ n := by
  rw [val_main_v31_apply]
  refine Finset.sum_congr rfl fun e _ => ?_
  rw [← u_ref, val_main_v28_apply]
  refine congrArg₂ (fun x y : EReal => x * y) (congrArg _ (funext fun a => ?_)) (congrArg X3 (funext fun a => Fin.ext ?_))
  · match a with
    | ⟨0, _⟩ => rfl
    | ⟨1, _⟩ => rfl
    | ⟨2, _⟩ => rfl
  · match a with
    | ⟨0, _⟩ => dsimp [ix2, ix3]; try omega
    | ⟨1, _⟩ => dsimp [ix2, ix3]; omega
    | ⟨2, _⟩ => dsimp [ix2, ix3]; omega

/-- The query's head `h`, -/
theorem qh_ref (b : Fin 32) (s : Fin 256) (h : Fin 8) (d : Fin 128) :
    val_main_v33 (F := Ideal) X0 X1 X2 X3 (ix4 b s h d) = gp X0 X1 X2 X3 ⟨b.val * 256 + s.val, by omega⟩ ⟨h.val * 128 + d.val, by omega⟩ := by
  rw [val_main_v33_apply, val_main_v32_apply, ← p_ref]
  refine congrArg _ (funext fun a => Fin.ext ?_)
  match a with
  | ⟨0, _⟩ => dsimp [ix3, ix4]; omega
  | ⟨1, _⟩ => dsimp [ix3, ix4]; omega
  | ⟨2, _⟩ => dsimp [ix3, ix4]; omega

/-- the key's head `j`, -/
theorem kh_ref (b : Fin 32) (s : Fin 256) (j : Fin 2) (d : Fin 128) :
    val_main_v35 (F := Ideal) X0 X1 X2 X3 (ix4 b s j d) = krow (gp X0 X1 X2 X3 ⟨b.val * 256 + s.val, by omega⟩) j d := by
  rw [val_main_v35_apply, val_main_v34_apply]
  unfold krow
  rw [← p_ref]
  refine congrArg _ (funext fun a => Fin.ext ?_)
  match a with
  | ⟨0, _⟩ => dsimp [ix3, ix4]; omega
  | ⟨1, _⟩ => dsimp [ix3, ix4]; omega
  | ⟨2, _⟩ => dsimp [ix3, ix4]; omega

/-- and the value's. -/
theorem vh_ref (b : Fin 32) (s : Fin 256) (j : Fin 2) (d : Fin 128) :
    val_main_v37 (F := Ideal) X0 X1 X2 X3 (ix4 b s j d) = vrow (gp X0 X1 X2 X3 ⟨b.val * 256 + s.val, by omega⟩) j d := by
  rw [val_main_v37_apply, val_main_v36_apply]
  unfold vrow
  rw [← p_ref]
  refine congrArg _ (funext fun a => Fin.ext ?_)
  match a with
  | ⟨0, _⟩ => dsimp [ix3, ix4]; omega
  | ⟨1, _⟩ => dsimp [ix3, ix4]; omega
  | ⟨2, _⟩ => dsimp [ix3, ix4]; omega

/-- The scale of a query's head, -/
theorem qnorm_ref (b : Fin 32) (s : Fin 256) (h : Fin 8) (d : Fin 128) :
    val_main_v46 (F := Ideal) X0 X1 X2 X3 (ix4 b s h d)
      = rmsH fun k => gp X0 X1 X2 X3 ⟨b.val * 256 + s.val, by omega⟩ ⟨h.val * 128 + k.val, by omega⟩ := by
  rw [val_main_v46_apply, val_main_v45_apply, val_main_v44_apply, val_main_v42_apply, val_main_v40_apply, val_main_v39_apply, val_main_cst_3_apply]
  have hz : (FloatOps.ofBits FTy.f32 0x00000000#32 : Ideal .f32) = (0 : EReal) := bits_zero
  have hsum : (FloatOps.ofBits FTy.f32 0x00000000#32 : Ideal .f32) + ∑ k : Fin 128, val_main_v38 (F := Ideal) X0 X1 X2 X3
        (idx_main_v39 (idx_main_v40 (idx_main_v46 (ix4 b s h d))) k)
      = ∑ k : Fin 128, gp X0 X1 X2 X3 ⟨b.val * 256 + s.val, by omega⟩ ⟨h.val * 128 + k.val, by omega⟩
          * gp X0 X1 X2 X3 ⟨b.val * 256 + s.val, by omega⟩ ⟨h.val * 128 + k.val, by omega⟩ := by
    rw [hz]
    refine (zero_add _).trans (Finset.sum_congr rfl fun q _ => ?_)
    have he : idx_main_v39 (idx_main_v40 (idx_main_v46 (ix4 b s h d))) q = ix4 b s h q := funext fun a => by
      match a with
      | ⟨0, _⟩ => rfl
      | ⟨1, _⟩ => rfl
      | ⟨2, _⟩ => rfl
      | ⟨3, _⟩ => rfl
    rw [he, val_main_v38_apply, qh_ref]
    rfl
  rw [hsum]
  rfl

/-- and of a key's. -/
theorem knorm_ref (b : Fin 32) (s : Fin 256) (j : Fin 2) (d : Fin 128) :
    val_main_v59 (F := Ideal) X0 X1 X2 X3 (ix4 b s j d) = rmsH (krow (gp X0 X1 X2 X3 ⟨b.val * 256 + s.val, by omega⟩) j) := by
  rw [val_main_v59_apply, val_main_v58_apply, val_main_v57_apply, val_main_v55_apply, val_main_v53_apply, val_main_v52_apply, val_main_cst_6_apply]
  have hz : (FloatOps.ofBits FTy.f32 0x00000000#32 : Ideal .f32) = (0 : EReal) := bits_zero
  have hsum : (FloatOps.ofBits FTy.f32 0x00000000#32 : Ideal .f32) + ∑ k : Fin 128, val_main_v51 (F := Ideal) X0 X1 X2 X3
        (idx_main_v52 (idx_main_v53 (idx_main_v59 (ix4 b s j d))) k)
      = ∑ k : Fin 128, krow (gp X0 X1 X2 X3 ⟨b.val * 256 + s.val, by omega⟩) j k * krow (gp X0 X1 X2 X3 ⟨b.val * 256 + s.val, by omega⟩) j k := by
    rw [hz]
    refine (zero_add _).trans (Finset.sum_congr rfl fun q _ => ?_)
    have he : idx_main_v52 (idx_main_v53 (idx_main_v59 (ix4 b s j d))) q = ix4 b s j q := funext fun a => by
      match a with
      | ⟨0, _⟩ => rfl
      | ⟨1, _⟩ => rfl
      | ⟨2, _⟩ => rfl
      | ⟨3, _⟩ => rfl
    rw [he, val_main_v51_apply, kh_ref]
    rfl
  rw [hsum]
  rfl

/-- A query's head normalized, with its gain and the factor. -/
theorem q_ref (X4 : FVec Ideal S1x128 .f32) (b : Fin 32) (s : Fin 256) (h : Fin 8) (d : Fin 128) :
    val_main_v65 (F := Ideal) X0 X1 X2 X3 X4 (ix4 b s h d)
      = head (fun k => gp X0 X1 X2 X3 ⟨b.val * 256 + s.val, by omega⟩ ⟨h.val * 128 + k.val, by omega⟩) (fun k => X4 (ix2 (0 : Fin 1) k)) d * qscale := by
  rw [val_main_v65_apply, val_main_v50_apply, val_main_v47_apply, qh_ref, qnorm_ref, val_main_v49_apply, val_main_v48_apply, val_main_v29_apply,
    val_main_v64_apply, val_main_cst_9_apply]
  have e4 : idx_main_v29 (idx_main_v48 (idx_main_v49 (ix4 b s h d))) = ix2 (0 : Fin 1) d := funext fun a => Fin.ext (by
    match a with
    | ⟨0, _⟩ => dsimp [ix2, ix4]; try omega
    | ⟨1, _⟩ => dsimp [ix2, ix4]; try omega)
  rw [e4]
  rfl

/-- A key's head normalized, with its gain. -/
theorem k_ref (X5 : FVec Ideal S1x128 .f32) (b : Fin 32) (s : Fin 256) (j : Fin 2) (d : Fin 128) :
    val_main_v63 (F := Ideal) X0 X1 X2 X3 X5 (ix4 b s j d) = kG X0 X1 X2 X3 X5 ⟨b.val * 256 + s.val, by omega⟩ j d := by
  rw [val_main_v63_apply, val_main_v60_apply, kh_ref, knorm_ref, val_main_v62_apply, val_main_v61_apply, val_main_v30_apply]
  have e5 : idx_main_v30 (idx_main_v61 (idx_main_v62 (ix4 b s j d))) = ix2 (0 : Fin 1) d := funext fun a => Fin.ext (by
    match a with
    | ⟨0, _⟩ => dsimp [ix2, ix4]; try omega
    | ⟨1, _⟩ => dsimp [ix2, ix4]; try omega)
  rw [e5]
  rfl

/-- The first result: the queries. -/
theorem q_out (X4 : FVec Ideal S1x128 .f32) (R : Fin 8192) (n : Fin 1024) :
    val_main_v69 (F := Ideal) X0 X1 X2 X3 X4 (ix2 R n) = qG X0 X1 X2 X3 X4 R n := by
  rw [val_main_v69_apply, val_main_v68_apply]
  have he : idx_main_v68 (ix2 R n) = ix4 (⟨R.val / 256, by omega⟩ : Fin 32) (⟨R.val % 256, by omega⟩ : Fin 256) (⟨n.val / 128, by omega⟩ : Fin 8) (⟨n.val % 128, by omega⟩ : Fin 128) :=
    funext fun a => Fin.ext (by
      match a with
      | ⟨0, _⟩ => dsimp [ix2, ix4]; omega
      | ⟨1, _⟩ => dsimp [ix2, ix4]; omega
      | ⟨2, _⟩ => dsimp [ix2, ix4]; omega
      | ⟨3, _⟩ => dsimp [ix2, ix4]; omega)
  have hR : (⟨R.val / 256 * 256 + R.val % 256, by omega⟩ : Fin 8192) = R := Fin.ext (by dsimp; omega)
  rw [he, q_ref]
  dsimp only
  rw [hR]
  rfl

/-- The fourth: the keys, a row for each head. -/
theorem k32_out (X5 : FVec Ideal S1x128 .f32) (Q : Fin 16384) (d : Fin 128) :
    val_main_v66 (F := Ideal) X0 X1 X2 X3 X5 (ix2 Q d) = kG X0 X1 X2 X3 X5 ⟨Q.val / 2, by omega⟩ ⟨Q.val % 2, by omega⟩ d := by
  rw [val_main_v66_apply]
  have he : idx_main_v66 (ix2 Q d) = ix4 (⟨Q.val / 512, by omega⟩ : Fin 32) (⟨Q.val / 2 % 256, by omega⟩ : Fin 256) (⟨Q.val % 2, by omega⟩ : Fin 2) d :=
    funext fun a => Fin.ext (by
      match a with
      | ⟨0, _⟩ => dsimp [ix2, ix4]; omega
      | ⟨1, _⟩ => dsimp [ix2, ix4]; omega
      | ⟨2, _⟩ => dsimp [ix2, ix4]; omega
      | ⟨3, _⟩ => dsimp [ix2, ix4]; omega)
  rw [he, k_ref]
  exact congrArg (fun R => kG X0 X1 X2 X3 X5 R _ d) (Fin.ext (by show Q.val / 512 * 256 + Q.val / 2 % 256 = Q.val / 2; omega))

/-- The fifth: the values, a row for each head. -/
theorem v32_out (Q : Fin 16384) (d : Fin 128) :
    val_main_v67 (F := Ideal) X0 X1 X2 X3 (ix2 Q d) = vG X0 X1 X2 X3 ⟨Q.val / 2, by omega⟩ ⟨Q.val % 2, by omega⟩ d := by
  rw [val_main_v67_apply]
  have he : idx_main_v67 (ix2 Q d) = ix4 (⟨Q.val / 512, by omega⟩ : Fin 32) (⟨Q.val / 2 % 256, by omega⟩ : Fin 256) (⟨Q.val % 2, by omega⟩ : Fin 2) d :=
    funext fun a => Fin.ext (by
      match a with
      | ⟨0, _⟩ => dsimp [ix2, ix4]; omega
      | ⟨1, _⟩ => dsimp [ix2, ix4]; omega
      | ⟨2, _⟩ => dsimp [ix2, ix4]; omega
      | ⟨3, _⟩ => dsimp [ix2, ix4]; omega)
  rw [he, vh_ref]
  exact congrArg (fun R => vG X0 X1 X2 X3 R _ d) (Fin.ext (by show Q.val / 512 * 256 + Q.val / 2 % 256 = Q.val / 2; omega))

/-- The second: the keys, a row's two heads side by side. -/
theorem k_out (X5 : FVec Ideal S1x128 .f32) (R : Fin 8192) (n : Fin 256) :
    val_main_v71 (F := Ideal) X0 X1 X2 X3 X5 (ix2 R n) = kG X0 X1 X2 X3 X5 R ⟨n.val / 128, by omega⟩ ⟨n.val % 128, by omega⟩ := by
  rw [val_main_v71_apply, val_main_v70_apply]
  have he : idx_main_v70 (ix2 R n) = ix2 (⟨R.val * 2 + n.val / 128, by omega⟩ : Fin 16384) (⟨n.val % 128, by omega⟩ : Fin 128) :=
    funext fun a => Fin.ext (by
      match a with
      | ⟨0, _⟩ => dsimp [ix2]; omega
      | ⟨1, _⟩ => dsimp [ix2]; omega)
  rw [he, k32_out]
  exact congrArg₂ (fun R j => kG X0 X1 X2 X3 X5 R j _) (Fin.ext (by show (R.val * 2 + n.val / 128) / 2 = R.val; omega))
    (Fin.ext (by show (R.val * 2 + n.val / 128) % 2 = n.val / 128; omega))

/-- The third: the values, a row's two heads side by side. -/
theorem v_out (R : Fin 8192) (n : Fin 256) :
    val_main_v73 (F := Ideal) X0 X1 X2 X3 (ix2 R n) = vG X0 X1 X2 X3 R ⟨n.val / 128, by omega⟩ ⟨n.val % 128, by omega⟩ := by
  rw [val_main_v73_apply, val_main_v72_apply]
  have he : idx_main_v72 (ix2 R n) = ix2 (⟨R.val * 2 + n.val / 128, by omega⟩ : Fin 16384) (⟨n.val % 128, by omega⟩ : Fin 128) :=
    funext fun a => Fin.ext (by
      match a with
      | ⟨0, _⟩ => dsimp [ix2]; omega
      | ⟨1, _⟩ => dsimp [ix2]; omega)
  rw [he, v32_out]
  exact congrArg₂ (fun R j => vG X0 X1 X2 X3 R j _) (Fin.ext (by show (R.val * 2 + n.val / 128) / 2 = R.val; omega))
    (Fin.ext (by show (R.val * 2 + n.val / 128) % 2 = n.val / 128; omega))

end

/-- The last result: the second layer's weight. -/
theorem cast_ref (X6 : FVec Ideal S2x2816x1024 .f32) (i : S2816x1024.Idx) :
    val_main_v76 (F := Ideal) X6 i = X6 (ix3 (1 : Fin 2) (i 0) (i 1)) := by
  rw [val_main_v76_apply, val_main_v75_apply, val_main_v74_apply]
  have h0 : (i 0).val < 2816 := (i 0).isLt
  have h1 : (i 1).val < 1024 := (i 1).isLt
  refine congrArg X6 (funext fun a => Fin.ext ?_)
  match a with
  | ⟨0, _⟩ => dsimp [ix3]; try omega
  | ⟨1, _⟩ => dsimp [ix3]; omega
  | ⟨2, _⟩ => dsimp [ix3]; omega

end Cert.Qkv1
-- ==== Proof.QkvClaim.lean ====
/-
  The value claim of the context's projection: from equal arguments the kernel and the reference end with equal results.
-/
module

public import proofs.«01_k».proof.Defs
public import proofs.«01_k».proof.Proof.QkvArray
public import proofs.«01_k».proof.Proof.QkvRef
public import proofs.«01_k».proof.Proof.Gen.QkvReferenceIdeal.Run

@[expose] public section

set_option maxRecDepth 16384

noncomputable section

namespace Cert.Qkv1

open Idealize.ShloMosaic Idealize.ShloMosaic.TcCoe Idealize.SL.Sem

/-- From equal arguments the kernel and the reference end with equal results. -/
theorem algebraic : Cert.algebraic_QkvIdeal_QkvReferenceIdeal (hQkvIdeal := Cert.QkvIdeal.Gen.facts)
    (hQkvReferenceIdeal := Cert.QkvReferenceIdeal.Gen.facts) := by
  intro m g m' g' _ hargs
  refine ⟨fun c => (dats m 0 c).arrAt 7 Cert.QkvIdeal.cfg0.N, fun c => (dats m 0 c).arrAt 8 Cert.QkvIdeal.cfg0.N,
    fun c => (dats m 0 c).arrAt 9 Cert.QkvIdeal.cfg0.N, fun c => (dats m 0 c).arrAt 10 Cert.QkvIdeal.cfg0.N,
    fun c => (dats m 0 c).arrAt 11 Cert.QkvIdeal.cfg0.N, fun c => (dats m 0 c).arrAt 12 Cert.QkvIdeal.cfg0.N, run_blocks m g, ?_⟩
  refine (θ_run (Cert.QkvReferenceIdeal.defs (F := Ideal)) _ _).mono (fun r h c => ?_) (Cert.QkvReferenceIdeal.Value.run (F := Ideal) m' g')
  obtain ⟨h0, h1, h2, h3, h4, h5, hk⟩ := h c
  obtain ⟨a0, a1, a2, a3, a4, a5, a6⟩ := hargs c
  refine ⟨h0.trans ?_, h1.trans ?_, h2.trans ?_, h3.trans ?_, h4.trans ?_, h5.trans ?_, hk⟩
  · rw [Cert.QkvReferenceIdeal.Read.val_main_v69_eq, a0, a1, a2, a3, a4]
    refine Eq.trans (funext fun i => ?_) (q_arr m c).symm
    exact (congrArg _ (eq_ix2 i)).trans (q_out _ _ _ _ _ (i 0) (i 1))
  · rw [Cert.QkvReferenceIdeal.Read.val_main_v71_eq, a0, a1, a2, a3, a5]
    refine Eq.trans (funext fun i => ?_) (k_arr m c).symm
    exact (congrArg _ (eq_ix2 i)).trans (k_out _ _ _ _ _ (i 0) (i 1))
  · rw [Cert.QkvReferenceIdeal.Read.val_main_v73_eq, a0, a1, a2, a3]
    refine Eq.trans (funext fun i => ?_) (v_arr m c).symm
    exact (congrArg _ (eq_ix2 i)).trans (v_out _ _ _ _ (i 0) (i 1))
  · rw [Cert.QkvReferenceIdeal.Read.val_main_v66_eq, a0, a1, a2, a3, a5]
    refine Eq.trans (funext fun i => ?_) (k32_arr m c).symm
    exact (congrArg _ (eq_ix2 i)).trans (k32_out _ _ _ _ _ (i 0) (i 1))
  · rw [Cert.QkvReferenceIdeal.Read.val_main_v67_eq, a0, a1, a2, a3]
    refine Eq.trans (funext fun i => ?_) (v32_arr m c).symm
    exact (congrArg _ (eq_ix2 i)).trans (v32_out _ _ _ _ (i 0) (i 1))
  · rw [Cert.QkvReferenceIdeal.Read.val_main_v76_eq, a6]
    refine Eq.trans (funext fun i => ?_) (c_arr m c).symm
    exact cast_ref _ i

end Cert.Qkv1
-- ==== Proof.lean ====
/-
  The claims: each program's frame, that the idealized kernels are the kernels over the extended reals, and that each
  kernel and its reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxIdeal.Value
public import proofs.«01_k».proof.Proof.Gen.FfnCtxReferenceIdeal
public import proofs.«01_k».proof.Proof.Gen.FfnCtxReferenceIdeal.Run
public import proofs.«01_k».proof.Proof.Gen.FfnCtxReferenceIdeal.Read
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.MixerReferenceIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.Pre_finite_scores
public import proofs.«01_k».proof.Proof.AttnClaim
public import proofs.«01_k».proof.Proof.FfnClaim
public import proofs.«01_k».proof.Proof.CtxClaim
public import proofs.«01_k».proof.Proof.MixClaim
public import proofs.«01_k».proof.Proof.QkvBits
public import proofs.«01_k».proof.Proof.QkvClaim
public import Idealize.ShloMosaic.Adequacy
public import Idealize.ShloMosaic.Init

@[expose] public section

noncomputable section

namespace Cert.Proof

open Idealize.ShloMosaic Idealize.SL.Sem Cert.Kernel

/-- Everything the statement certifies. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.FfnCtx.Gen.facts, Cert.FfnCtxIdeal.Gen.facts, Cert.FfnCtxReferenceIdeal.Gen.facts,
    Cert.Qkv.Gen.facts, Cert.QkvIdeal.Gen.facts, Cert.QkvReferenceIdeal.Gen.facts,
    Cert.Mixer.Gen.facts, Cert.MixerIdeal.Gen.facts, Cert.MixerReferenceIdeal.Gen.facts, Cert.Pre_finite_scores.Gen.facts,
    fun m g _ => Cert.Kernel.Gen.frame m g,
    fun m g _ => Cert.KernelIdeal.Gen.frame m g,
    fun m g _ => Cert.KernelIdeal.Gen.frame m g,
    Cert.Attn.ref_frame,
    fun m g _ => Cert.Attn.ref_frame m g trivial,
    fun m g _ => Cert.Ffn.Gen.frame m g,
    fun m g _ => Cert.FfnIdeal.Gen.frame m g,
    fun m g _ => (θ_run (Cert.FfnReferenceIdeal.defs (F := Ideal)) _ _).mono
      (fun r h => ⟨fun c => (h c).2, Idealize.ShloMosaic.sem_eq_zero_of_no_sems (by decide) r.2⟩)
      (Cert.FfnReferenceIdeal.Value.run (F := Ideal) m g),
    fun m g _ => Cert.FfnCtx.Gen.frame m g,
    fun m g _ => Cert.FfnCtxIdeal.Gen.frame m g,
    fun m g _ => (θ_run (Cert.FfnCtxReferenceIdeal.defs (F := Ideal)) _ _).mono
      (fun r h => ⟨fun c => (h c).2, Idealize.ShloMosaic.sem_eq_zero_of_no_sems (by decide) r.2⟩)
      (Cert.FfnCtxReferenceIdeal.Value.run (F := Ideal) m g),
    fun m g _ => Cert.Qkv1.frame_compiled m g,
    fun m g _ => Cert.Qkv1.frame m g,
    fun m g _ => (θ_run (Cert.QkvReferenceIdeal.defs (F := Ideal)) _ _).mono
      (fun r h => ⟨fun c => (h c).2.2.2.2.2.2, Idealize.ShloMosaic.sem_eq_zero_of_no_sems (by decide) r.2⟩)
      (Cert.QkvReferenceIdeal.Value.run (F := Ideal) m g),
    fun m g _ => Cert.Mixer.Gen.frame m g,
    fun m g _ => Cert.MixerIdeal.Gen.frame m g,
    fun m g _ => (θ_run (Cert.MixerReferenceIdeal.defs (F := Ideal)) _ _).mono
      (fun r h => ⟨fun c => (h c).2.2, Idealize.ShloMosaic.sem_eq_zero_of_no_sems (by decide) r.2⟩)
      (Cert.MixerReferenceIdeal.Value.run (F := Ideal) m g),
    trivial, Cert.Attn.algebraic, trivial, Cert.Ffn1.algebraic, trivial, Cert.FfnC.algebraic, trivial, Cert.Qkv1.algebraic,
    trivial, Cert.Mix.algebraic⟩

end Cert.Proof

end
